-- ==== Defs.lean ====
def Pre_Kernel [hPre_items_in_range : Cert.Pre_items_in_range.Facts] (m : (ℓ : Loc Cert.Kernel.nD Cert.Kernel.τ Cert.Kernel.sig) → Buf (Elt Bits) ℓ) : Prop :=
  ∀ c : Dev Cert.Kernel.nD,
    (Cert.Pre_items_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_items_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_items_in_range : Cert.Pre_items_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_items_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_items_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_KernelIdeal_ranking_inputs [hPre_ranking_inputs : Cert.Pre_ranking_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_ranking_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_ranking_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_ranking_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_ranking_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_ranking_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_ranking_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_ranking_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.1 = (fun _ => 1#1)
    ∧ (Cert.Pre_ranking_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranking_inputs [hPre_ranking_inputs : Cert.Pre_ranking_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranking_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_ranking_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_ranking_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_ranking_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_ranking_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_ranking_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.1 = (fun _ => 1#1)
    ∧ (Cert.Pre_ranking_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.1 = (fun _ => 1#1)
    ∧ (Cert.Pre_ranking_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2 = (fun _ => 1#1)

def Pre_Utility (m : (ℓ : Loc Cert.Utility.nD Cert.Utility.τ Cert.Utility.sig) → Buf (Elt Bits) ℓ) : Prop :=
  True

def Pre_UtilityIdeal (m : (ℓ : Loc Cert.UtilityIdeal.nD Cert.UtilityIdeal.τ Cert.UtilityIdeal.sig) → Buf (Elt Ideal) ℓ) : Prop :=
  True

def Pre_UtilityIdeal_utility_inputs [hPre_utility_inputs : Cert.Pre_utility_inputs.Facts] (m : (ℓ : Loc Cert.UtilityIdeal.nD Cert.UtilityIdeal.τ Cert.UtilityIdeal.sig) → Buf (Elt Ideal) ℓ) : Prop :=
  ∀ c : Dev Cert.UtilityIdeal.nD,
    (Cert.Pre_utility_inputs.fn (F := Ideal) (m ((c.tc : Thread Cert.UtilityIdeal.nD Cert.UtilityIdeal.τ).loc Cert.UtilityIdeal.main_arg0)) (m ((c.tc : Thread Cert.UtilityIdeal.nD Cert.UtilityIdeal.τ).loc Cert.UtilityIdeal.main_arg1)) (m ((c.tc : Thread Cert.UtilityIdeal.nD Cert.UtilityIdeal.τ).loc Cert.UtilityIdeal.main_arg2)) (m ((c.tc : Thread Cert.UtilityIdeal.nD Cert.UtilityIdeal.τ).loc Cert.UtilityIdeal.main_arg3)) (m ((c.tc : Thread Cert.UtilityIdeal.nD Cert.UtilityIdeal.τ).loc Cert.UtilityIdeal.main_arg4)) (m ((c.tc : Thread Cert.UtilityIdeal.nD Cert.UtilityIdeal.τ).loc Cert.UtilityIdeal.main_arg5)) (m ((c.tc : Thread Cert.UtilityIdeal.nD Cert.UtilityIdeal.τ).loc Cert.UtilityIdeal.main_arg6)) (m ((c.tc : Thread Cert.UtilityIdeal.nD Cert.UtilityIdeal.τ).loc Cert.UtilityIdeal.main_arg7)) (m ((c.tc : Thread Cert.UtilityIdeal.nD Cert.UtilityIdeal.τ).loc Cert.UtilityIdeal.main_arg8)) (m ((c.tc : Thread Cert.UtilityIdeal.nD Cert.UtilityIdeal.τ).loc Cert.UtilityIdeal.main_arg9)) (m ((c.tc : Thread Cert.UtilityIdeal.nD Cert.UtilityIdeal.τ).loc Cert.UtilityIdeal.main_arg10))).1 = (fun _ => 1#1)
    ∧ (Cert.Pre_utility_inputs.fn (F := Ideal) (m ((c.tc : Thread Cert.UtilityIdeal.nD Cert.UtilityIdeal.τ).loc Cert.UtilityIdeal.main_arg0)) (m ((c.tc : Thread Cert.UtilityIdeal.nD Cert.UtilityIdeal.τ).loc Cert.UtilityIdeal.main_arg1)) (m ((c.tc : Thread Cert.UtilityIdeal.nD Cert.UtilityIdeal.τ).loc Cert.UtilityIdeal.main_arg2)) (m ((c.tc : Thread Cert.UtilityIdeal.nD Cert.UtilityIdeal.τ).loc Cert.UtilityIdeal.main_arg3)) (m ((c.tc : Thread Cert.UtilityIdeal.nD Cert.UtilityIdeal.τ).loc Cert.UtilityIdeal.main_arg4)) (m ((c.tc : Thread Cert.UtilityIdeal.nD Cert.UtilityIdeal.τ).loc Cert.UtilityIdeal.main_arg5)) (m ((c.tc : Thread Cert.UtilityIdeal.nD Cert.UtilityIdeal.τ).loc Cert.UtilityIdeal.main_arg6)) (m ((c.tc : Thread Cert.UtilityIdeal.nD Cert.UtilityIdeal.τ).loc Cert.UtilityIdeal.main_arg7)) (m ((c.tc : Thread Cert.UtilityIdeal.nD Cert.UtilityIdeal.τ).loc Cert.UtilityIdeal.main_arg8)) (m ((c.tc : Thread Cert.UtilityIdeal.nD Cert.UtilityIdeal.τ).loc Cert.UtilityIdeal.main_arg9)) (m ((c.tc : Thread Cert.UtilityIdeal.nD Cert.UtilityIdeal.τ).loc Cert.UtilityIdeal.main_arg10))).2.1 = (fun _ => 1#1)
    ∧ (Cert.Pre_utility_inputs.fn (F := Ideal) (m ((c.tc : Thread Cert.UtilityIdeal.nD Cert.UtilityIdeal.τ).loc Cert.UtilityIdeal.main_arg0)) (m ((c.tc : Thread Cert.UtilityIdeal.nD Cert.UtilityIdeal.τ).loc Cert.UtilityIdeal.main_arg1)) (m ((c.tc : Thread Cert.UtilityIdeal.nD Cert.UtilityIdeal.τ).loc Cert.UtilityIdeal.main_arg2)) (m ((c.tc : Thread Cert.UtilityIdeal.nD Cert.UtilityIdeal.τ).loc Cert.UtilityIdeal.main_arg3)) (m ((c.tc : Thread Cert.UtilityIdeal.nD Cert.UtilityIdeal.τ).loc Cert.UtilityIdeal.main_arg4)) (m ((c.tc : Thread Cert.UtilityIdeal.nD Cert.UtilityIdeal.τ).loc Cert.UtilityIdeal.main_arg5)) (m ((c.tc : Thread Cert.UtilityIdeal.nD Cert.UtilityIdeal.τ).loc Cert.UtilityIdeal.main_arg6)) (m ((c.tc : Thread Cert.UtilityIdeal.nD Cert.UtilityIdeal.τ).loc Cert.UtilityIdeal.main_arg7)) (m ((c.tc : Thread Cert.UtilityIdeal.nD Cert.UtilityIdeal.τ).loc Cert.UtilityIdeal.main_arg8)) (m ((c.tc : Thread Cert.UtilityIdeal.nD Cert.UtilityIdeal.τ).loc Cert.UtilityIdeal.main_arg9)) (m ((c.tc : Thread Cert.UtilityIdeal.nD Cert.UtilityIdeal.τ).loc Cert.UtilityIdeal.main_arg10))).2.2.1 = (fun _ => 1#1)
    ∧ (Cert.Pre_utility_inputs.fn (F := Ideal) (m ((c.tc : Thread Cert.UtilityIdeal.nD Cert.UtilityIdeal.τ).loc Cert.UtilityIdeal.main_arg0)) (m ((c.tc : Thread Cert.UtilityIdeal.nD Cert.UtilityIdeal.τ).loc Cert.UtilityIdeal.main_arg1)) (m ((c.tc : Thread Cert.UtilityIdeal.nD Cert.UtilityIdeal.τ).loc Cert.UtilityIdeal.main_arg2)) (m ((c.tc : Thread Cert.UtilityIdeal.nD Cert.UtilityIdeal.τ).loc Cert.UtilityIdeal.main_arg3)) (m ((c.tc : Thread Cert.UtilityIdeal.nD Cert.UtilityIdeal.τ).loc Cert.UtilityIdeal.main_arg4)) (m ((c.tc : Thread Cert.UtilityIdeal.nD Cert.UtilityIdeal.τ).loc Cert.UtilityIdeal.main_arg5)) (m ((c.tc : Thread Cert.UtilityIdeal.nD Cert.UtilityIdeal.τ).loc Cert.UtilityIdeal.main_arg6)) (m ((c.tc : Thread Cert.UtilityIdeal.nD Cert.UtilityIdeal.τ).loc Cert.UtilityIdeal.main_arg7)) (m ((c.tc : Thread Cert.UtilityIdeal.nD Cert.UtilityIdeal.τ).loc Cert.UtilityIdeal.main_arg8)) (m ((c.tc : Thread Cert.UtilityIdeal.nD Cert.UtilityIdeal.τ).loc Cert.UtilityIdeal.main_arg9)) (m ((c.tc : Thread Cert.UtilityIdeal.nD Cert.UtilityIdeal.τ).loc Cert.UtilityIdeal.main_arg10))).2.2.2 = (fun _ => 1#1)

def Pre_UtilityReferenceIdeal (m : (ℓ : Loc Cert.UtilityReferenceIdeal.nD Cert.UtilityReferenceIdeal.τ Cert.UtilityReferenceIdeal.sig) → Buf (Elt Ideal) ℓ) : Prop :=
  True

def Pre_UtilityReferenceIdeal_utility_inputs [hPre_utility_inputs : Cert.Pre_utility_inputs.Facts] (m : (ℓ : Loc Cert.UtilityReferenceIdeal.nD Cert.UtilityReferenceIdeal.τ Cert.UtilityReferenceIdeal.sig) → Buf (Elt Ideal) ℓ) : Prop :=
  ∀ c : Dev Cert.UtilityReferenceIdeal.nD,
    (Cert.Pre_utility_inputs.fn (F := Ideal) (m ((c.tc : Thread Cert.UtilityReferenceIdeal.nD Cert.UtilityReferenceIdeal.τ).loc Cert.UtilityReferenceIdeal.main_arg0)) (m ((c.tc : Thread Cert.UtilityReferenceIdeal.nD Cert.UtilityReferenceIdeal.τ).loc Cert.UtilityReferenceIdeal.main_arg1)) (m ((c.tc : Thread Cert.UtilityReferenceIdeal.nD Cert.UtilityReferenceIdeal.τ).loc Cert.UtilityReferenceIdeal.main_arg2)) (m ((c.tc : Thread Cert.UtilityReferenceIdeal.nD Cert.UtilityReferenceIdeal.τ).loc Cert.UtilityReferenceIdeal.main_arg3)) (m ((c.tc : Thread Cert.UtilityReferenceIdeal.nD Cert.UtilityReferenceIdeal.τ).loc Cert.UtilityReferenceIdeal.main_arg4)) (m ((c.tc : Thread Cert.UtilityReferenceIdeal.nD Cert.UtilityReferenceIdeal.τ).loc Cert.UtilityReferenceIdeal.main_arg5)) (m ((c.tc : Thread Cert.UtilityReferenceIdeal.nD Cert.UtilityReferenceIdeal.τ).loc Cert.UtilityReferenceIdeal.main_arg6)) (m ((c.tc : Thread Cert.UtilityReferenceIdeal.nD Cert.UtilityReferenceIdeal.τ).loc Cert.UtilityReferenceIdeal.main_arg7)) (m ((c.tc : Thread Cert.UtilityReferenceIdeal.nD Cert.UtilityReferenceIdeal.τ).loc Cert.UtilityReferenceIdeal.main_arg8)) (m ((c.tc : Thread Cert.UtilityReferenceIdeal.nD Cert.UtilityReferenceIdeal.τ).loc Cert.UtilityReferenceIdeal.main_arg9)) (m ((c.tc : Thread Cert.UtilityReferenceIdeal.nD Cert.UtilityReferenceIdeal.τ).loc Cert.UtilityReferenceIdeal.main_arg10))).1 = (fun _ => 1#1)
    ∧ (Cert.Pre_utility_inputs.fn (F := Ideal) (m ((c.tc : Thread Cert.UtilityReferenceIdeal.nD Cert.UtilityReferenceIdeal.τ).loc Cert.UtilityReferenceIdeal.main_arg0)) (m ((c.tc : Thread Cert.UtilityReferenceIdeal.nD Cert.UtilityReferenceIdeal.τ).loc Cert.UtilityReferenceIdeal.main_arg1)) (m ((c.tc : Thread Cert.UtilityReferenceIdeal.nD Cert.UtilityReferenceIdeal.τ).loc Cert.UtilityReferenceIdeal.main_arg2)) (m ((c.tc : Thread Cert.UtilityReferenceIdeal.nD Cert.UtilityReferenceIdeal.τ).loc Cert.UtilityReferenceIdeal.main_arg3)) (m ((c.tc : Thread Cert.UtilityReferenceIdeal.nD Cert.UtilityReferenceIdeal.τ).loc Cert.UtilityReferenceIdeal.main_arg4)) (m ((c.tc : Thread Cert.UtilityReferenceIdeal.nD Cert.UtilityReferenceIdeal.τ).loc Cert.UtilityReferenceIdeal.main_arg5)) (m ((c.tc : Thread Cert.UtilityReferenceIdeal.nD Cert.UtilityReferenceIdeal.τ).loc Cert.UtilityReferenceIdeal.main_arg6)) (m ((c.tc : Thread Cert.UtilityReferenceIdeal.nD Cert.UtilityReferenceIdeal.τ).loc Cert.UtilityReferenceIdeal.main_arg7)) (m ((c.tc : Thread Cert.UtilityReferenceIdeal.nD Cert.UtilityReferenceIdeal.τ).loc Cert.UtilityReferenceIdeal.main_arg8)) (m ((c.tc : Thread Cert.UtilityReferenceIdeal.nD Cert.UtilityReferenceIdeal.τ).loc Cert.UtilityReferenceIdeal.main_arg9)) (m ((c.tc : Thread Cert.UtilityReferenceIdeal.nD Cert.UtilityReferenceIdeal.τ).loc Cert.UtilityReferenceIdeal.main_arg10))).2.1 = (fun _ => 1#1)
    ∧ (Cert.Pre_utility_inputs.fn (F := Ideal) (m ((c.tc : Thread Cert.UtilityReferenceIdeal.nD Cert.UtilityReferenceIdeal.τ).loc Cert.UtilityReferenceIdeal.main_arg0)) (m ((c.tc : Thread Cert.UtilityReferenceIdeal.nD Cert.UtilityReferenceIdeal.τ).loc Cert.UtilityReferenceIdeal.main_arg1)) (m ((c.tc : Thread Cert.UtilityReferenceIdeal.nD Cert.UtilityReferenceIdeal.τ).loc Cert.UtilityReferenceIdeal.main_arg2)) (m ((c.tc : Thread Cert.UtilityReferenceIdeal.nD Cert.UtilityReferenceIdeal.τ).loc Cert.UtilityReferenceIdeal.main_arg3)) (m ((c.tc : Thread Cert.UtilityReferenceIdeal.nD Cert.UtilityReferenceIdeal.τ).loc Cert.UtilityReferenceIdeal.main_arg4)) (m ((c.tc : Thread Cert.UtilityReferenceIdeal.nD Cert.UtilityReferenceIdeal.τ).loc Cert.UtilityReferenceIdeal.main_arg5)) (m ((c.tc : Thread Cert.UtilityReferenceIdeal.nD Cert.UtilityReferenceIdeal.τ).loc Cert.UtilityReferenceIdeal.main_arg6)) (m ((c.tc : Thread Cert.UtilityReferenceIdeal.nD Cert.UtilityReferenceIdeal.τ).loc Cert.UtilityReferenceIdeal.main_arg7)) (m ((c.tc : Thread Cert.UtilityReferenceIdeal.nD Cert.UtilityReferenceIdeal.τ).loc Cert.UtilityReferenceIdeal.main_arg8)) (m ((c.tc : Thread Cert.UtilityReferenceIdeal.nD Cert.UtilityReferenceIdeal.τ).loc Cert.UtilityReferenceIdeal.main_arg9)) (m ((c.tc : Thread Cert.UtilityReferenceIdeal.nD Cert.UtilityReferenceIdeal.τ).loc Cert.UtilityReferenceIdeal.main_arg10))).2.2.1 = (fun _ => 1#1)
    ∧ (Cert.Pre_utility_inputs.fn (F := Ideal) (m ((c.tc : Thread Cert.UtilityReferenceIdeal.nD Cert.UtilityReferenceIdeal.τ).loc Cert.UtilityReferenceIdeal.main_arg0)) (m ((c.tc : Thread Cert.UtilityReferenceIdeal.nD Cert.UtilityReferenceIdeal.τ).loc Cert.UtilityReferenceIdeal.main_arg1)) (m ((c.tc : Thread Cert.UtilityReferenceIdeal.nD Cert.UtilityReferenceIdeal.τ).loc Cert.UtilityReferenceIdeal.main_arg2)) (m ((c.tc : Thread Cert.UtilityReferenceIdeal.nD Cert.UtilityReferenceIdeal.τ).loc Cert.UtilityReferenceIdeal.main_arg3)) (m ((c.tc : Thread Cert.UtilityReferenceIdeal.nD Cert.UtilityReferenceIdeal.τ).loc Cert.UtilityReferenceIdeal.main_arg4)) (m ((c.tc : Thread Cert.UtilityReferenceIdeal.nD Cert.UtilityReferenceIdeal.τ).loc Cert.UtilityReferenceIdeal.main_arg5)) (m ((c.tc : Thread Cert.UtilityReferenceIdeal.nD Cert.UtilityReferenceIdeal.τ).loc Cert.UtilityReferenceIdeal.main_arg6)) (m ((c.tc : Thread Cert.UtilityReferenceIdeal.nD Cert.UtilityReferenceIdeal.τ).loc Cert.UtilityReferenceIdeal.main_arg7)) (m ((c.tc : Thread Cert.UtilityReferenceIdeal.nD Cert.UtilityReferenceIdeal.τ).loc Cert.UtilityReferenceIdeal.main_arg8)) (m ((c.tc : Thread Cert.UtilityReferenceIdeal.nD Cert.UtilityReferenceIdeal.τ).loc Cert.UtilityReferenceIdeal.main_arg9)) (m ((c.tc : Thread Cert.UtilityReferenceIdeal.nD Cert.UtilityReferenceIdeal.τ).loc Cert.UtilityReferenceIdeal.main_arg10))).2.2.2 = (fun _ => 1#1)

def quiescent_Kernel [hKernel : Cert.Kernel.Facts] [hPre_items_in_range : Cert.Pre_items_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_items_in_range : Cert.Pre_items_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ranking_inputs [hKernelIdeal : Cert.KernelIdeal.Facts] [hPre_ranking_inputs : Cert.Pre_ranking_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranking_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ranking_inputs [hReferenceIdeal : Cert.ReferenceIdeal.Facts] [hPre_ranking_inputs : Cert.Pre_ranking_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranking_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Utility [hUtility : Cert.Utility.Facts] : Prop :=
  ∀ (m : (ℓ : Loc Cert.Utility.nD Cert.Utility.τ Cert.Utility.sig) → Buf (Elt Bits) ℓ) (g : Dev Cert.Utility.nD → PrngReg), Pre_Utility m →
    θ_run (Cert.Utility.defs (F := Bits)) (onTc (τ := Cert.Utility.τ) (Cert.Utility.main (F := Bits))) ⟨m, fun _ => 0, g⟩ (fun r => (∀ c : Dev Cert.Utility.nD,
      r.2.mem ((c.tc : Thread Cert.Utility.nD Cert.Utility.τ).loc Cert.Utility.main_arg0) = m ((c.tc : Thread Cert.Utility.nD Cert.Utility.τ).loc Cert.Utility.main_arg0)
      ∧ r.2.mem ((c.tc : Thread Cert.Utility.nD Cert.Utility.τ).loc Cert.Utility.main_arg1) = m ((c.tc : Thread Cert.Utility.nD Cert.Utility.τ).loc Cert.Utility.main_arg1)
      ∧ r.2.mem ((c.tc : Thread Cert.Utility.nD Cert.Utility.τ).loc Cert.Utility.main_arg2) = m ((c.tc : Thread Cert.Utility.nD Cert.Utility.τ).loc Cert.Utility.main_arg2)
      ∧ r.2.mem ((c.tc : Thread Cert.Utility.nD Cert.Utility.τ).loc Cert.Utility.main_arg3) = m ((c.tc : Thread Cert.Utility.nD Cert.Utility.τ).loc Cert.Utility.main_arg3)
      ∧ r.2.mem ((c.tc : Thread Cert.Utility.nD Cert.Utility.τ).loc Cert.Utility.main_arg4) = m ((c.tc : Thread Cert.Utility.nD Cert.Utility.τ).loc Cert.Utility.main_arg4)
      ∧ r.2.mem ((c.tc : Thread Cert.Utility.nD Cert.Utility.τ).loc Cert.Utility.main_arg5) = m ((c.tc : Thread Cert.Utility.nD Cert.Utility.τ).loc Cert.Utility.main_arg5)
      ∧ r.2.mem ((c.tc : Thread Cert.Utility.nD Cert.Utility.τ).loc Cert.Utility.main_arg6) = m ((c.tc : Thread Cert.Utility.nD Cert.Utility.τ).loc Cert.Utility.main_arg6)
      ∧ r.2.mem ((c.tc : Thread Cert.Utility.nD Cert.Utility.τ).loc Cert.Utility.main_arg7) = m ((c.tc : Thread Cert.Utility.nD Cert.Utility.τ).loc Cert.Utility.main_arg7)
      ∧ r.2.mem ((c.tc : Thread Cert.Utility.nD Cert.Utility.τ).loc Cert.Utility.main_arg8) = m ((c.tc : Thread Cert.Utility.nD Cert.Utility.τ).loc Cert.Utility.main_arg8)
      ∧ r.2.mem ((c.tc : Thread Cert.Utility.nD Cert.Utility.τ).loc Cert.Utility.main_arg9) = m ((c.tc : Thread Cert.Utility.nD Cert.Utility.τ).loc Cert.Utility.main_arg9)
      ∧ r.2.mem ((c.tc : Thread Cert.Utility.nD Cert.Utility.τ).loc Cert.Utility.main_arg10) = m ((c.tc : Thread Cert.Utility.nD Cert.Utility.τ).loc Cert.Utility.main_arg10))
      ∧ r.2.sem = fun _ => 0)

def quiescent_UtilityIdeal [hUtilityIdeal : Cert.UtilityIdeal.Facts] : Prop :=
  ∀ (m : (ℓ : Loc Cert.UtilityIdeal.nD Cert.UtilityIdeal.τ Cert.UtilityIdeal.sig) → Buf (Elt Ideal) ℓ) (g : Dev Cert.UtilityIdeal.nD → PrngReg), Pre_UtilityIdeal m →
    θ_run (Cert.UtilityIdeal.defs (F := Ideal)) (onTc (τ := Cert.UtilityIdeal.τ) (Cert.UtilityIdeal.main (F := Ideal))) ⟨m, fun _ => 0, g⟩ (fun r => (∀ c : Dev Cert.UtilityIdeal.nD,
      r.2.mem ((c.tc : Thread Cert.UtilityIdeal.nD Cert.UtilityIdeal.τ).loc Cert.UtilityIdeal.main_arg0) = m ((c.tc : Thread Cert.UtilityIdeal.nD Cert.UtilityIdeal.τ).loc Cert.UtilityIdeal.main_arg0)
      ∧ r.2.mem ((c.tc : Thread Cert.UtilityIdeal.nD Cert.UtilityIdeal.τ).loc Cert.UtilityIdeal.main_arg1) = m ((c.tc : Thread Cert.UtilityIdeal.nD Cert.UtilityIdeal.τ).loc Cert.UtilityIdeal.main_arg1)
      ∧ r.2.mem ((c.tc : Thread Cert.UtilityIdeal.nD Cert.UtilityIdeal.τ).loc Cert.UtilityIdeal.main_arg2) = m ((c.tc : Thread Cert.UtilityIdeal.nD Cert.UtilityIdeal.τ).loc Cert.UtilityIdeal.main_arg2)
      ∧ r.2.mem ((c.tc : Thread Cert.UtilityIdeal.nD Cert.UtilityIdeal.τ).loc Cert.UtilityIdeal.main_arg3) = m ((c.tc : Thread Cert.UtilityIdeal.nD Cert.UtilityIdeal.τ).loc Cert.UtilityIdeal.main_arg3)
      ∧ r.2.mem ((c.tc : Thread Cert.UtilityIdeal.nD Cert.UtilityIdeal.τ).loc Cert.UtilityIdeal.main_arg4) = m ((c.tc : Thread Cert.UtilityIdeal.nD Cert.UtilityIdeal.τ).loc Cert.UtilityIdeal.main_arg4)
      ∧ r.2.mem ((c.tc : Thread Cert.UtilityIdeal.nD Cert.UtilityIdeal.τ).loc Cert.UtilityIdeal.main_arg5) = m ((c.tc : Thread Cert.UtilityIdeal.nD Cert.UtilityIdeal.τ).loc Cert.UtilityIdeal.main_arg5)
      ∧ r.2.mem ((c.tc : Thread Cert.UtilityIdeal.nD Cert.UtilityIdeal.τ).loc Cert.UtilityIdeal.main_arg6) = m ((c.tc : Thread Cert.UtilityIdeal.nD Cert.UtilityIdeal.τ).loc Cert.UtilityIdeal.main_arg6)
      ∧ r.2.mem ((c.tc : Thread Cert.UtilityIdeal.nD Cert.UtilityIdeal.τ).loc Cert.UtilityIdeal.main_arg7) = m ((c.tc : Thread Cert.UtilityIdeal.nD Cert.UtilityIdeal.τ).loc Cert.UtilityIdeal.main_arg7)
      ∧ r.2.mem ((c.tc : Thread Cert.UtilityIdeal.nD Cert.UtilityIdeal.τ).loc Cert.UtilityIdeal.main_arg8) = m ((c.tc : Thread Cert.UtilityIdeal.nD Cert.UtilityIdeal.τ).loc Cert.UtilityIdeal.main_arg8)
      ∧ r.2.mem ((c.tc : Thread Cert.UtilityIdeal.nD Cert.UtilityIdeal.τ).loc Cert.UtilityIdeal.main_arg9) = m ((c.tc : Thread Cert.UtilityIdeal.nD Cert.UtilityIdeal.τ).loc Cert.UtilityIdeal.main_arg9)
      ∧ r.2.mem ((c.tc : Thread Cert.UtilityIdeal.nD Cert.UtilityIdeal.τ).loc Cert.UtilityIdeal.main_arg10) = m ((c.tc : Thread Cert.UtilityIdeal.nD Cert.UtilityIdeal.τ).loc Cert.UtilityIdeal.main_arg10))
      ∧ r.2.sem = fun _ => 0)

def quiescent_UtilityIdeal_pre_utility_inputs [hUtilityIdeal : Cert.UtilityIdeal.Facts] [hPre_utility_inputs : Cert.Pre_utility_inputs.Facts] : Prop :=
  ∀ (m : (ℓ : Loc Cert.UtilityIdeal.nD Cert.UtilityIdeal.τ Cert.UtilityIdeal.sig) → Buf (Elt Ideal) ℓ) (g : Dev Cert.UtilityIdeal.nD → PrngReg), Pre_UtilityIdeal_utility_inputs m →
    θ_run (Cert.UtilityIdeal.defs (F := Ideal)) (onTc (τ := Cert.UtilityIdeal.τ) (Cert.UtilityIdeal.main (F := Ideal))) ⟨m, fun _ => 0, g⟩ (fun r => (∀ c : Dev Cert.UtilityIdeal.nD,
      r.2.mem ((c.tc : Thread Cert.UtilityIdeal.nD Cert.UtilityIdeal.τ).loc Cert.UtilityIdeal.main_arg0) = m ((c.tc : Thread Cert.UtilityIdeal.nD Cert.UtilityIdeal.τ).loc Cert.UtilityIdeal.main_arg0)
      ∧ r.2.mem ((c.tc : Thread Cert.UtilityIdeal.nD Cert.UtilityIdeal.τ).loc Cert.UtilityIdeal.main_arg1) = m ((c.tc : Thread Cert.UtilityIdeal.nD Cert.UtilityIdeal.τ).loc Cert.UtilityIdeal.main_arg1)
      ∧ r.2.mem ((c.tc : Thread Cert.UtilityIdeal.nD Cert.UtilityIdeal.τ).loc Cert.UtilityIdeal.main_arg2) = m ((c.tc : Thread Cert.UtilityIdeal.nD Cert.UtilityIdeal.τ).loc Cert.UtilityIdeal.main_arg2)
      ∧ r.2.mem ((c.tc : Thread Cert.UtilityIdeal.nD Cert.UtilityIdeal.τ).loc Cert.UtilityIdeal.main_arg3) = m ((c.tc : Thread Cert.UtilityIdeal.nD Cert.UtilityIdeal.τ).loc Cert.UtilityIdeal.main_arg3)
      ∧ r.2.mem ((c.tc : Thread Cert.UtilityIdeal.nD Cert.UtilityIdeal.τ).loc Cert.UtilityIdeal.main_arg4) = m ((c.tc : Thread Cert.UtilityIdeal.nD Cert.UtilityIdeal.τ).loc Cert.UtilityIdeal.main_arg4)
      ∧ r.2.mem ((c.tc : Thread Cert.UtilityIdeal.nD Cert.UtilityIdeal.τ).loc Cert.UtilityIdeal.main_arg5) = m ((c.tc : Thread Cert.UtilityIdeal.nD Cert.UtilityIdeal.τ).loc Cert.UtilityIdeal.main_arg5)
      ∧ r.2.mem ((c.tc : Thread Cert.UtilityIdeal.nD Cert.UtilityIdeal.τ).loc Cert.UtilityIdeal.main_arg6) = m ((c.tc : Thread Cert.UtilityIdeal.nD Cert.UtilityIdeal.τ).loc Cert.UtilityIdeal.main_arg6)
      ∧ r.2.mem ((c.tc : Thread Cert.UtilityIdeal.nD Cert.UtilityIdeal.τ).loc Cert.UtilityIdeal.main_arg7) = m ((c.tc : Thread Cert.UtilityIdeal.nD Cert.UtilityIdeal.τ).loc Cert.UtilityIdeal.main_arg7)
      ∧ r.2.mem ((c.tc : Thread Cert.UtilityIdeal.nD Cert.UtilityIdeal.τ).loc Cert.UtilityIdeal.main_arg8) = m ((c.tc : Thread Cert.UtilityIdeal.nD Cert.UtilityIdeal.τ).loc Cert.UtilityIdeal.main_arg8)
      ∧ r.2.mem ((c.tc : Thread Cert.UtilityIdeal.nD Cert.UtilityIdeal.τ).loc Cert.UtilityIdeal.main_arg9) = m ((c.tc : Thread Cert.UtilityIdeal.nD Cert.UtilityIdeal.τ).loc Cert.UtilityIdeal.main_arg9)
      ∧ r.2.mem ((c.tc : Thread Cert.UtilityIdeal.nD Cert.UtilityIdeal.τ).loc Cert.UtilityIdeal.main_arg10) = m ((c.tc : Thread Cert.UtilityIdeal.nD Cert.UtilityIdeal.τ).loc Cert.UtilityIdeal.main_arg10))
      ∧ r.2.sem = fun _ => 0)

def quiescent_UtilityReferenceIdeal [hUtilityReferenceIdeal : Cert.UtilityReferenceIdeal.Facts] : Prop :=
  ∀ (m : (ℓ : Loc Cert.UtilityReferenceIdeal.nD Cert.UtilityReferenceIdeal.τ Cert.UtilityReferenceIdeal.sig) → Buf (Elt Ideal) ℓ) (g : Dev Cert.UtilityReferenceIdeal.nD → PrngReg), Pre_UtilityReferenceIdeal m →
    θ_run (Cert.UtilityReferenceIdeal.defs (F := Ideal)) (onTc (τ := Cert.UtilityReferenceIdeal.τ) (Cert.UtilityReferenceIdeal.main (F := Ideal))) ⟨m, fun _ => 0, g⟩ (fun r => (∀ c : Dev Cert.UtilityReferenceIdeal.nD,
      r.2.mem ((c.tc : Thread Cert.UtilityReferenceIdeal.nD Cert.UtilityReferenceIdeal.τ).loc Cert.UtilityReferenceIdeal.main_arg0) = m ((c.tc : Thread Cert.UtilityReferenceIdeal.nD Cert.UtilityReferenceIdeal.τ).loc Cert.UtilityReferenceIdeal.main_arg0)
      ∧ r.2.mem ((c.tc : Thread Cert.UtilityReferenceIdeal.nD Cert.UtilityReferenceIdeal.τ).loc Cert.UtilityReferenceIdeal.main_arg1) = m ((c.tc : Thread Cert.UtilityReferenceIdeal.nD Cert.UtilityReferenceIdeal.τ).loc Cert.UtilityReferenceIdeal.main_arg1)
      ∧ r.2.mem ((c.tc : Thread Cert.UtilityReferenceIdeal.nD Cert.UtilityReferenceIdeal.τ).loc Cert.UtilityReferenceIdeal.main_arg2) = m ((c.tc : Thread Cert.UtilityReferenceIdeal.nD Cert.UtilityReferenceIdeal.τ).loc Cert.UtilityReferenceIdeal.main_arg2)
      ∧ r.2.mem ((c.tc : Thread Cert.UtilityReferenceIdeal.nD Cert.UtilityReferenceIdeal.τ).loc Cert.UtilityReferenceIdeal.main_arg3) = m ((c.tc : Thread Cert.UtilityReferenceIdeal.nD Cert.UtilityReferenceIdeal.τ).loc Cert.UtilityReferenceIdeal.main_arg3)
      ∧ r.2.mem ((c.tc : Thread Cert.UtilityReferenceIdeal.nD Cert.UtilityReferenceIdeal.τ).loc Cert.UtilityReferenceIdeal.main_arg4) = m ((c.tc : Thread Cert.UtilityReferenceIdeal.nD Cert.UtilityReferenceIdeal.τ).loc Cert.UtilityReferenceIdeal.main_arg4)
      ∧ r.2.mem ((c.tc : Thread Cert.UtilityReferenceIdeal.nD Cert.UtilityReferenceIdeal.τ).loc Cert.UtilityReferenceIdeal.main_arg5) = m ((c.tc : Thread Cert.UtilityReferenceIdeal.nD Cert.UtilityReferenceIdeal.τ).loc Cert.UtilityReferenceIdeal.main_arg5)
      ∧ r.2.mem ((c.tc : Thread Cert.UtilityReferenceIdeal.nD Cert.UtilityReferenceIdeal.τ).loc Cert.UtilityReferenceIdeal.main_arg6) = m ((c.tc : Thread Cert.UtilityReferenceIdeal.nD Cert.UtilityReferenceIdeal.τ).loc Cert.UtilityReferenceIdeal.main_arg6)
      ∧ r.2.mem ((c.tc : Thread Cert.UtilityReferenceIdeal.nD Cert.UtilityReferenceIdeal.τ).loc Cert.UtilityReferenceIdeal.main_arg7) = m ((c.tc : Thread Cert.UtilityReferenceIdeal.nD Cert.UtilityReferenceIdeal.τ).loc Cert.UtilityReferenceIdeal.main_arg7)
      ∧ r.2.mem ((c.tc : Thread Cert.UtilityReferenceIdeal.nD Cert.UtilityReferenceIdeal.τ).loc Cert.UtilityReferenceIdeal.main_arg8) = m ((c.tc : Thread Cert.UtilityReferenceIdeal.nD Cert.UtilityReferenceIdeal.τ).loc Cert.UtilityReferenceIdeal.main_arg8)
      ∧ r.2.mem ((c.tc : Thread Cert.UtilityReferenceIdeal.nD Cert.UtilityReferenceIdeal.τ).loc Cert.UtilityReferenceIdeal.main_arg9) = m ((c.tc : Thread Cert.UtilityReferenceIdeal.nD Cert.UtilityReferenceIdeal.τ).loc Cert.UtilityReferenceIdeal.main_arg9)
      ∧ r.2.mem ((c.tc : Thread Cert.UtilityReferenceIdeal.nD Cert.UtilityReferenceIdeal.τ).loc Cert.UtilityReferenceIdeal.main_arg10) = m ((c.tc : Thread Cert.UtilityReferenceIdeal.nD Cert.UtilityReferenceIdeal.τ).loc Cert.UtilityReferenceIdeal.main_arg10))
      ∧ r.2.sem = fun _ => 0)

def quiescent_UtilityReferenceIdeal_pre_utility_inputs [hUtilityReferenceIdeal : Cert.UtilityReferenceIdeal.Facts] [hPre_utility_inputs : Cert.Pre_utility_inputs.Facts] : Prop :=
  ∀ (m : (ℓ : Loc Cert.UtilityReferenceIdeal.nD Cert.UtilityReferenceIdeal.τ Cert.UtilityReferenceIdeal.sig) → Buf (Elt Ideal) ℓ) (g : Dev Cert.UtilityReferenceIdeal.nD → PrngReg), Pre_UtilityReferenceIdeal_utility_inputs m →
    θ_run (Cert.UtilityReferenceIdeal.defs (F := Ideal)) (onTc (τ := Cert.UtilityReferenceIdeal.τ) (Cert.UtilityReferenceIdeal.main (F := Ideal))) ⟨m, fun _ => 0, g⟩ (fun r => (∀ c : Dev Cert.UtilityReferenceIdeal.nD,
      r.2.mem ((c.tc : Thread Cert.UtilityReferenceIdeal.nD Cert.UtilityReferenceIdeal.τ).loc Cert.UtilityReferenceIdeal.main_arg0) = m ((c.tc : Thread Cert.UtilityReferenceIdeal.nD Cert.UtilityReferenceIdeal.τ).loc Cert.UtilityReferenceIdeal.main_arg0)
      ∧ r.2.mem ((c.tc : Thread Cert.UtilityReferenceIdeal.nD Cert.UtilityReferenceIdeal.τ).loc Cert.UtilityReferenceIdeal.main_arg1) = m ((c.tc : Thread Cert.UtilityReferenceIdeal.nD Cert.UtilityReferenceIdeal.τ).loc Cert.UtilityReferenceIdeal.main_arg1)
      ∧ r.2.mem ((c.tc : Thread Cert.UtilityReferenceIdeal.nD Cert.UtilityReferenceIdeal.τ).loc Cert.UtilityReferenceIdeal.main_arg2) = m ((c.tc : Thread Cert.UtilityReferenceIdeal.nD Cert.UtilityReferenceIdeal.τ).loc Cert.UtilityReferenceIdeal.main_arg2)
      ∧ r.2.mem ((c.tc : Thread Cert.UtilityReferenceIdeal.nD Cert.UtilityReferenceIdeal.τ).loc Cert.UtilityReferenceIdeal.main_arg3) = m ((c.tc : Thread Cert.UtilityReferenceIdeal.nD Cert.UtilityReferenceIdeal.τ).loc Cert.UtilityReferenceIdeal.main_arg3)
      ∧ r.2.mem ((c.tc : Thread Cert.UtilityReferenceIdeal.nD Cert.UtilityReferenceIdeal.τ).loc Cert.UtilityReferenceIdeal.main_arg4) = m ((c.tc : Thread Cert.UtilityReferenceIdeal.nD Cert.UtilityReferenceIdeal.τ).loc Cert.UtilityReferenceIdeal.main_arg4)
      ∧ r.2.mem ((c.tc : Thread Cert.UtilityReferenceIdeal.nD Cert.UtilityReferenceIdeal.τ).loc Cert.UtilityReferenceIdeal.main_arg5) = m ((c.tc : Thread Cert.UtilityReferenceIdeal.nD Cert.UtilityReferenceIdeal.τ).loc Cert.UtilityReferenceIdeal.main_arg5)
      ∧ r.2.mem ((c.tc : Thread Cert.UtilityReferenceIdeal.nD Cert.UtilityReferenceIdeal.τ).loc Cert.UtilityReferenceIdeal.main_arg6) = m ((c.tc : Thread Cert.UtilityReferenceIdeal.nD Cert.UtilityReferenceIdeal.τ).loc Cert.UtilityReferenceIdeal.main_arg6)
      ∧ r.2.mem ((c.tc : Thread Cert.UtilityReferenceIdeal.nD Cert.UtilityReferenceIdeal.τ).loc Cert.UtilityReferenceIdeal.main_arg7) = m ((c.tc : Thread Cert.UtilityReferenceIdeal.nD Cert.UtilityReferenceIdeal.τ).loc Cert.UtilityReferenceIdeal.main_arg7)
      ∧ r.2.mem ((c.tc : Thread Cert.UtilityReferenceIdeal.nD Cert.UtilityReferenceIdeal.τ).loc Cert.UtilityReferenceIdeal.main_arg8) = m ((c.tc : Thread Cert.UtilityReferenceIdeal.nD Cert.UtilityReferenceIdeal.τ).loc Cert.UtilityReferenceIdeal.main_arg8)
      ∧ r.2.mem ((c.tc : Thread Cert.UtilityReferenceIdeal.nD Cert.UtilityReferenceIdeal.τ).loc Cert.UtilityReferenceIdeal.main_arg9) = m ((c.tc : Thread Cert.UtilityReferenceIdeal.nD Cert.UtilityReferenceIdeal.τ).loc Cert.UtilityReferenceIdeal.main_arg9)
      ∧ r.2.mem ((c.tc : Thread Cert.UtilityReferenceIdeal.nD Cert.UtilityReferenceIdeal.τ).loc Cert.UtilityReferenceIdeal.main_arg10) = m ((c.tc : Thread Cert.UtilityReferenceIdeal.nD Cert.UtilityReferenceIdeal.τ).loc Cert.UtilityReferenceIdeal.main_arg10))
      ∧ r.2.sem = fun _ => 0)

def preserves_Kernel_KernelIdeal : Prop :=
  True

def algebraic_KernelIdeal_ReferenceIdeal_pre_ranking_inputs [hKernelIdeal : Cert.KernelIdeal.Facts] [hReferenceIdeal : Cert.ReferenceIdeal.Facts] [hPre_ranking_inputs : Cert.Pre_ranking_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranking_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Utility_UtilityIdeal : Prop :=
  True

def algebraic_UtilityIdeal_UtilityReferenceIdeal_pre_utility_inputs [hUtilityIdeal : Cert.UtilityIdeal.Facts] [hUtilityReferenceIdeal : Cert.UtilityReferenceIdeal.Facts] [hPre_utility_inputs : Cert.Pre_utility_inputs.Facts] : Prop :=
  ∀ (m : (ℓ : Loc Cert.UtilityIdeal.nD Cert.UtilityIdeal.τ Cert.UtilityIdeal.sig) → Buf (Elt Ideal) ℓ) (g : Dev Cert.UtilityIdeal.nD → PrngReg)
    (m' : (ℓ : Loc Cert.UtilityReferenceIdeal.nD Cert.UtilityReferenceIdeal.τ Cert.UtilityReferenceIdeal.sig) → Buf (Elt Ideal) ℓ) (g' : Dev Cert.UtilityReferenceIdeal.nD → PrngReg), Pre_UtilityIdeal_utility_inputs m →
    (∀ c : Dev Cert.UtilityIdeal.nD,
      m' ((c.tc : Thread Cert.UtilityReferenceIdeal.nD Cert.UtilityReferenceIdeal.τ).loc Cert.UtilityReferenceIdeal.main_arg0) = m ((c.tc : Thread Cert.UtilityIdeal.nD Cert.UtilityIdeal.τ).loc Cert.UtilityIdeal.main_arg0)
      ∧ m' ((c.tc : Thread Cert.UtilityReferenceIdeal.nD Cert.UtilityReferenceIdeal.τ).loc Cert.UtilityReferenceIdeal.main_arg1) = m ((c.tc : Thread Cert.UtilityIdeal.nD Cert.UtilityIdeal.τ).loc Cert.UtilityIdeal.main_arg1)
      ∧ m' ((c.tc : Thread Cert.UtilityReferenceIdeal.nD Cert.UtilityReferenceIdeal.τ).loc Cert.UtilityReferenceIdeal.main_arg2) = m ((c.tc : Thread Cert.UtilityIdeal.nD Cert.UtilityIdeal.τ).loc Cert.UtilityIdeal.main_arg2)
      ∧ m' ((c.tc : Thread Cert.UtilityReferenceIdeal.nD Cert.UtilityReferenceIdeal.τ).loc Cert.UtilityReferenceIdeal.main_arg3) = m ((c.tc : Thread Cert.UtilityIdeal.nD Cert.UtilityIdeal.τ).loc Cert.UtilityIdeal.main_arg3)
      ∧ m' ((c.tc : Thread Cert.UtilityReferenceIdeal.nD Cert.UtilityReferenceIdeal.τ).loc Cert.UtilityReferenceIdeal.main_arg4) = m ((c.tc : Thread Cert.UtilityIdeal.nD Cert.UtilityIdeal.τ).loc Cert.UtilityIdeal.main_arg4)
      ∧ m' ((c.tc : Thread Cert.UtilityReferenceIdeal.nD Cert.UtilityReferenceIdeal.τ).loc Cert.UtilityReferenceIdeal.main_arg5) = m ((c.tc : Thread Cert.UtilityIdeal.nD Cert.UtilityIdeal.τ).loc Cert.UtilityIdeal.main_arg5)
      ∧ m' ((c.tc : Thread Cert.UtilityReferenceIdeal.nD Cert.UtilityReferenceIdeal.τ).loc Cert.UtilityReferenceIdeal.main_arg6) = m ((c.tc : Thread Cert.UtilityIdeal.nD Cert.UtilityIdeal.τ).loc Cert.UtilityIdeal.main_arg6)
      ∧ m' ((c.tc : Thread Cert.UtilityReferenceIdeal.nD Cert.UtilityReferenceIdeal.τ).loc Cert.UtilityReferenceIdeal.main_arg7) = m ((c.tc : Thread Cert.UtilityIdeal.nD Cert.UtilityIdeal.τ).loc Cert.UtilityIdeal.main_arg7)
      ∧ m' ((c.tc : Thread Cert.UtilityReferenceIdeal.nD Cert.UtilityReferenceIdeal.τ).loc Cert.UtilityReferenceIdeal.main_arg8) = m ((c.tc : Thread Cert.UtilityIdeal.nD Cert.UtilityIdeal.τ).loc Cert.UtilityIdeal.main_arg8)
      ∧ m' ((c.tc : Thread Cert.UtilityReferenceIdeal.nD Cert.UtilityReferenceIdeal.τ).loc Cert.UtilityReferenceIdeal.main_arg9) = m ((c.tc : Thread Cert.UtilityIdeal.nD Cert.UtilityIdeal.τ).loc Cert.UtilityIdeal.main_arg9)
      ∧ m' ((c.tc : Thread Cert.UtilityReferenceIdeal.nD Cert.UtilityReferenceIdeal.τ).loc Cert.UtilityReferenceIdeal.main_arg10) = m ((c.tc : Thread Cert.UtilityIdeal.nD Cert.UtilityIdeal.τ).loc Cert.UtilityIdeal.main_arg10)) →
    ∃ (v0 : (c : Dev Cert.UtilityIdeal.nD) → Buf (Elt Ideal) ((c.tc : Thread Cert.UtilityIdeal.nD Cert.UtilityIdeal.τ).loc Cert.UtilityIdeal.main_v6_0)) (v1 : (c : Dev Cert.UtilityIdeal.nD) → Buf (Elt Ideal) ((c.tc : Thread Cert.UtilityIdeal.nD Cert.UtilityIdeal.τ).loc Cert.UtilityIdeal.main_v6_1)),
      θ_run (Cert.UtilityIdeal.defs (F := Ideal)) (onTc (τ := Cert.UtilityIdeal.τ) (Cert.UtilityIdeal.main (F := Ideal))) ⟨m, fun _ => 0, g⟩ (fun r => ∀ c : Dev Cert.UtilityIdeal.nD,
          r.2.mem ((c.tc : Thread Cert.UtilityIdeal.nD Cert.UtilityIdeal.τ).loc Cert.UtilityIdeal.main_v6_0) = v0 c
          ∧ r.2.mem ((c.tc : Thread Cert.UtilityIdeal.nD Cert.UtilityIdeal.τ).loc Cert.UtilityIdeal.main_v6_1) = v1 c
          ∧ r.2.mem ((c.tc : Thread Cert.UtilityIdeal.nD Cert.UtilityIdeal.τ).loc Cert.UtilityIdeal.main_arg0) = m ((c.tc : Thread Cert.UtilityIdeal.nD Cert.UtilityIdeal.τ).loc Cert.UtilityIdeal.main_arg0)
          ∧ r.2.mem ((c.tc : Thread Cert.UtilityIdeal.nD Cert.UtilityIdeal.τ).loc Cert.UtilityIdeal.main_arg1) = m ((c.tc : Thread Cert.UtilityIdeal.nD Cert.UtilityIdeal.τ).loc Cert.UtilityIdeal.main_arg1)
          ∧ r.2.mem ((c.tc : Thread Cert.UtilityIdeal.nD Cert.UtilityIdeal.τ).loc Cert.UtilityIdeal.main_arg2) = m ((c.tc : Thread Cert.UtilityIdeal.nD Cert.UtilityIdeal.τ).loc Cert.UtilityIdeal.main_arg2)
          ∧ r.2.mem ((c.tc : Thread Cert.UtilityIdeal.nD Cert.UtilityIdeal.τ).loc Cert.UtilityIdeal.main_arg3) = m ((c.tc : Thread Cert.UtilityIdeal.nD Cert.UtilityIdeal.τ).loc Cert.UtilityIdeal.main_arg3)
          ∧ r.2.mem ((c.tc : Thread Cert.UtilityIdeal.nD Cert.UtilityIdeal.τ).loc Cert.UtilityIdeal.main_arg4) = m ((c.tc : Thread Cert.UtilityIdeal.nD Cert.UtilityIdeal.τ).loc Cert.UtilityIdeal.main_arg4)
          ∧ r.2.mem ((c.tc : Thread Cert.UtilityIdeal.nD Cert.UtilityIdeal.τ).loc Cert.UtilityIdeal.main_arg5) = m ((c.tc : Thread Cert.UtilityIdeal.nD Cert.UtilityIdeal.τ).loc Cert.UtilityIdeal.main_arg5)
          ∧ r.2.mem ((c.tc : Thread Cert.UtilityIdeal.nD Cert.UtilityIdeal.τ).loc Cert.UtilityIdeal.main_arg6) = m ((c.tc : Thread Cert.UtilityIdeal.nD Cert.UtilityIdeal.τ).loc Cert.UtilityIdeal.main_arg6)
          ∧ r.2.mem ((c.tc : Thread Cert.UtilityIdeal.nD Cert.UtilityIdeal.τ).loc Cert.UtilityIdeal.main_arg7) = m ((c.tc : Thread Cert.UtilityIdeal.nD Cert.UtilityIdeal.τ).loc Cert.UtilityIdeal.main_arg7)
          ∧ r.2.mem ((c.tc : Thread Cert.UtilityIdeal.nD Cert.UtilityIdeal.τ).loc Cert.UtilityIdeal.main_arg8) = m ((c.tc : Thread Cert.UtilityIdeal.nD Cert.UtilityIdeal.τ).loc Cert.UtilityIdeal.main_arg8)
          ∧ r.2.mem ((c.tc : Thread Cert.UtilityIdeal.nD Cert.UtilityIdeal.τ).loc Cert.UtilityIdeal.main_arg9) = m ((c.tc : Thread Cert.UtilityIdeal.nD Cert.UtilityIdeal.τ).loc Cert.UtilityIdeal.main_arg9)
          ∧ r.2.mem ((c.tc : Thread Cert.UtilityIdeal.nD Cert.UtilityIdeal.τ).loc Cert.UtilityIdeal.main_arg10) = m ((c.tc : Thread Cert.UtilityIdeal.nD Cert.UtilityIdeal.τ).loc Cert.UtilityIdeal.main_arg10))
      ∧ θ_run (Cert.UtilityReferenceIdeal.defs (F := Ideal)) (onTc (τ := Cert.UtilityReferenceIdeal.τ) (Cert.UtilityReferenceIdeal.main (F := Ideal))) ⟨m', fun _ => 0, g'⟩ (fun r => ∀ c : Dev Cert.UtilityReferenceIdeal.nD,
          r.2.mem ((c.tc : Thread Cert.UtilityReferenceIdeal.nD Cert.UtilityReferenceIdeal.τ).loc Cert.UtilityReferenceIdeal.main_v63) = v0 c
          ∧ r.2.mem ((c.tc : Thread Cert.UtilityReferenceIdeal.nD Cert.UtilityReferenceIdeal.τ).loc Cert.UtilityReferenceIdeal.main_v65) = v1 c
          ∧ r.2.mem ((c.tc : Thread Cert.UtilityReferenceIdeal.nD Cert.UtilityReferenceIdeal.τ).loc Cert.UtilityReferenceIdeal.main_arg0) = m' ((c.tc : Thread Cert.UtilityReferenceIdeal.nD Cert.UtilityReferenceIdeal.τ).loc Cert.UtilityReferenceIdeal.main_arg0)
          ∧ r.2.mem ((c.tc : Thread Cert.UtilityReferenceIdeal.nD Cert.UtilityReferenceIdeal.τ).loc Cert.UtilityReferenceIdeal.main_arg1) = m' ((c.tc : Thread Cert.UtilityReferenceIdeal.nD Cert.UtilityReferenceIdeal.τ).loc Cert.UtilityReferenceIdeal.main_arg1)
          ∧ r.2.mem ((c.tc : Thread Cert.UtilityReferenceIdeal.nD Cert.UtilityReferenceIdeal.τ).loc Cert.UtilityReferenceIdeal.main_arg2) = m' ((c.tc : Thread Cert.UtilityReferenceIdeal.nD Cert.UtilityReferenceIdeal.τ).loc Cert.UtilityReferenceIdeal.main_arg2)
          ∧ r.2.mem ((c.tc : Thread Cert.UtilityReferenceIdeal.nD Cert.UtilityReferenceIdeal.τ).loc Cert.UtilityReferenceIdeal.main_arg3) = m' ((c.tc : Thread Cert.UtilityReferenceIdeal.nD Cert.UtilityReferenceIdeal.τ).loc Cert.UtilityReferenceIdeal.main_arg3)
          ∧ r.2.mem ((c.tc : Thread Cert.UtilityReferenceIdeal.nD Cert.UtilityReferenceIdeal.τ).loc Cert.UtilityReferenceIdeal.main_arg4) = m' ((c.tc : Thread Cert.UtilityReferenceIdeal.nD Cert.UtilityReferenceIdeal.τ).loc Cert.UtilityReferenceIdeal.main_arg4)
          ∧ r.2.mem ((c.tc : Thread Cert.UtilityReferenceIdeal.nD Cert.UtilityReferenceIdeal.τ).loc Cert.UtilityReferenceIdeal.main_arg5) = m' ((c.tc : Thread Cert.UtilityReferenceIdeal.nD Cert.UtilityReferenceIdeal.τ).loc Cert.UtilityReferenceIdeal.main_arg5)
          ∧ r.2.mem ((c.tc : Thread Cert.UtilityReferenceIdeal.nD Cert.UtilityReferenceIdeal.τ).loc Cert.UtilityReferenceIdeal.main_arg6) = m' ((c.tc : Thread Cert.UtilityReferenceIdeal.nD Cert.UtilityReferenceIdeal.τ).loc Cert.UtilityReferenceIdeal.main_arg6)
          ∧ r.2.mem ((c.tc : Thread Cert.UtilityReferenceIdeal.nD Cert.UtilityReferenceIdeal.τ).loc Cert.UtilityReferenceIdeal.main_arg7) = m' ((c.tc : Thread Cert.UtilityReferenceIdeal.nD Cert.UtilityReferenceIdeal.τ).loc Cert.UtilityReferenceIdeal.main_arg7)
          ∧ r.2.mem ((c.tc : Thread Cert.UtilityReferenceIdeal.nD Cert.UtilityReferenceIdeal.τ).loc Cert.UtilityReferenceIdeal.main_arg8) = m' ((c.tc : Thread Cert.UtilityReferenceIdeal.nD Cert.UtilityReferenceIdeal.τ).loc Cert.UtilityReferenceIdeal.main_arg8)
          ∧ r.2.mem ((c.tc : Thread Cert.UtilityReferenceIdeal.nD Cert.UtilityReferenceIdeal.τ).loc Cert.UtilityReferenceIdeal.main_arg9) = m' ((c.tc : Thread Cert.UtilityReferenceIdeal.nD Cert.UtilityReferenceIdeal.τ).loc Cert.UtilityReferenceIdeal.main_arg9)
          ∧ r.2.mem ((c.tc : Thread Cert.UtilityReferenceIdeal.nD Cert.UtilityReferenceIdeal.τ).loc Cert.UtilityReferenceIdeal.main_arg10) = m' ((c.tc : Thread Cert.UtilityReferenceIdeal.nD Cert.UtilityReferenceIdeal.τ).loc Cert.UtilityReferenceIdeal.main_arg10))

def Claim : Prop :=
  ∃ (hKernel : Cert.Kernel.Facts) (hKernelIdeal : Cert.KernelIdeal.Facts) (hReferenceIdeal : Cert.ReferenceIdeal.Facts) (hUtility : Cert.Utility.Facts) (hUtilityIdeal : Cert.UtilityIdeal.Facts) (hUtilityReferenceIdeal : Cert.UtilityReferenceIdeal.Facts) (hPre_items_in_range : Cert.Pre_items_in_range.Facts) (hPre_ranking_inputs : Cert.Pre_ranking_inputs.Facts) (hPre_utility_inputs : Cert.Pre_utility_inputs.Facts),
    quiescent_Kernel (hKernel := hKernel) (hPre_items_in_range := hPre_items_in_range)
    ∧ quiescent_KernelIdeal (hKernelIdeal := hKernelIdeal) (hPre_items_in_range := hPre_items_in_range)
    ∧ quiescent_KernelIdeal_pre_ranking_inputs (hKernelIdeal := hKernelIdeal) (hPre_ranking_inputs := hPre_ranking_inputs)
    ∧ quiescent_ReferenceIdeal (hReferenceIdeal := hReferenceIdeal)
    ∧ quiescent_ReferenceIdeal_pre_ranking_inputs (hReferenceIdeal := hReferenceIdeal) (hPre_ranking_inputs := hPre_ranking_inputs)
    ∧ quiescent_Utility (hUtility := hUtility)
    ∧ quiescent_UtilityIdeal (hUtilityIdeal := hUtilityIdeal)
    ∧ quiescent_UtilityIdeal_pre_utility_inputs (hUtilityIdeal := hUtilityIdeal) (hPre_utility_inputs := hPre_utility_inputs)
    ∧ quiescent_UtilityReferenceIdeal (hUtilityReferenceIdeal := hUtilityReferenceIdeal)
    ∧ quiescent_UtilityReferenceIdeal_pre_utility_inputs (hUtilityReferenceIdeal := hUtilityReferenceIdeal) (hPre_utility_inputs := hPre_utility_inputs)
    ∧ preserves_Kernel_KernelIdeal
    ∧ algebraic_KernelIdeal_ReferenceIdeal_pre_ranking_inputs (hKernelIdeal := hKernelIdeal) (hReferenceIdeal := hReferenceIdeal) (hPre_ranking_inputs := hPre_ranking_inputs)
    ∧ preserves_Utility_UtilityIdeal
    ∧ algebraic_UtilityIdeal_UtilityReferenceIdeal_pre_utility_inputs (hUtilityIdeal := hUtilityIdeal) (hUtilityReferenceIdeal := hUtilityReferenceIdeal) (hPre_utility_inputs := hPre_utility_inputs)
-- ==== Pre_items_in_range.lean ====
abbrev S4096x16 : Shape := ⟨2, ![4096, 16]⟩
abbrev S4096 : Shape := ⟨1, ![4096]⟩
abbrev S4096x2 : Shape := ⟨2, ![4096, 2]⟩
abbrev S40960x2 : Shape := ⟨2, ![40960, 2]⟩
abbrev S40960x1 : Shape := ⟨2, ![40960, 1]⟩
abbrev S40960 : Shape := ⟨1, ![40960]⟩
abbrev S_ : Shape := ⟨0, ![]⟩

class Facts : Prop where
  slices_S40960x2_S40960x1_0_1 : S40960x2.Slices ![0, 1] S40960x1
  shapeCasts_S40960x1_S40960 : S40960x1.ShapeCasts S40960
  bcast_S_S40960 : S_.BroadcastsInDim S40960 (![] : Fin 0 → Fin S40960.rank)

variable [Facts]

def fn {F : FTy → Type} [FloatOps F] (main_arg0 : FVec F S4096x16 .f32) (main_arg1 : FVec F S4096 .f32) (main_arg2 : IVec S4096x2 32) (main_arg3 : IVec S40960x2 32) : IVec S40960 1 × IVec S40960 1 :=
  let main_v0 : IVec S40960x1 32 := (extractStridedSlice S40960x1 ![0, 1] · slices_S40960x2_S40960x1_0_1) main_arg3
  let main_v1 : IVec S40960 32 := shapeCast S40960 main_v0 shapeCasts_S40960x1_S40960
  let main_c : IVec S_ 32 := constantI S_ 32 0#32
  let main_v2 : IVec S40960 32 := broadcastInDim S40960 ![] bcast_S_S40960 main_c
  let main_v3 : IVec S40960 1 := cmpi .sge main_v1 main_v2
  let main_v4 : IVec S40960x1 32 := (extractStridedSlice S40960x1 ![0, 1] · slices_S40960x2_S40960x1_0_1) main_arg3
  let main_v5 : IVec S40960 32 := shapeCast S40960 main_v4 shapeCasts_S40960x1_S40960
  let main_c_0 : IVec S_ 32 := constantI S_ 32 50#32
  let main_v6 : IVec S40960 32 := broadcastInDim S40960 ![] bcast_S_S40960 main_c_0
  let main_v7 : IVec S40960 1 := cmpi .slt main_v5 main_v6
  (main_v3, main_v7)
-- ==== Pre_ranking_inputs.lean ====
abbrev S4096x16 : Shape := ⟨2, ![4096, 16]⟩
abbrev S4096 : Shape := ⟨1, ![4096]⟩
abbrev S4096x2 : Shape := ⟨2, ![4096, 2]⟩
abbrev S40960x2 : Shape := ⟨2, ![40960, 2]⟩
abbrev S4096x1 : Shape := ⟨2, ![4096, 1]⟩
abbrev S_ : Shape := ⟨0, ![]⟩
abbrev S40960x1 : Shape := ⟨2, ![40960, 1]⟩
abbrev S40960 : Shape := ⟨1, ![40960]⟩
abbrev S4096x10 : Shape := ⟨2, ![4096, 10]⟩

class Facts : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  slices_S40960x2_S40960x1_0_0 : S40960x2.Slices ![0, 0] S40960x1
  shapeCasts_S40960x1_S40960 : S40960x1.ShapeCasts S40960
  shapeCasts_S40960_S4096x10 : S40960.ShapeCasts S4096x10
  slices_S40960x2_S40960x1_0_1 : S40960x2.Slices ![0, 1] S40960x1
  bcast_S_S40960 : S_.BroadcastsInDim S40960 (![] : Fin 0 → Fin S40960.rank)
  slices_S4096x16_S4096x10_0_0 : S4096x16.Slices ![0, 0] S4096x10
  bcast_S_S4096x10 : S_.BroadcastsInDim S4096x10 (![] : Fin 0 → Fin S4096x10.rank)

variable [Facts]

def fn_part1 {F : FTy → Type} [FloatOps F] (main_arg0 : FVec F S4096x16 .f32) (main_arg1 : FVec F S4096 .f32) (main_arg3 : IVec S40960x2 32) (main_v3 : IVec S4096 1) (main_v7 : IVec S4096 1) (main_v11 : IVec S4096 1) (main_v16 : IVec S4096x10 1) (main_v20 : IVec S40960 1) : IVec S4096 1 × IVec S4096 1 × IVec S4096 1 × IVec S4096x10 1 × IVec S40960 1 × IVec S40960 1 × IVec S4096 1 × IVec S4096x10 1 :=
  let main_v21 : IVec S40960x1 32 := (extractStridedSlice S40960x1 ![0, 1] · slices_S40960x2_S40960x1_0_1) main_arg3
  let main_v22 : IVec S40960 32 := shapeCast S40960 main_v21 shapeCasts_S40960x1_S40960
  let main_c_2 : IVec S_ 32 := constantI S_ 32 50#32
  let main_v23 : IVec S40960 32 := broadcastInDim S40960 ![] bcast_S_S40960 main_c_2
  let main_v24 : IVec S40960 1 := cmpi .slt main_v22 main_v23
  let main_cst : FVec F S_ .f32 := constant S_ .f32 0x00000000#32
  let main_v25 : FVec F S4096 .f32 := broadcastInDim S4096 ![] bcast_S_S4096 main_cst
  let main_v26 : IVec S4096 1 := cmpf .ogt main_arg1 main_v25
  let main_v27 : FVec F S4096x10 .f32 := (extractStridedSlice S4096x10 ![0, 0] · slices_S4096x16_S4096x10_0_0) main_arg0
  let main_cst_3 : FVec F S_ .f32 := constant S_ .f32 0x00000000#32
  let main_v28 : FVec F S4096x10 .f32 := broadcastInDim S4096x10 ![] bcast_S_S4096x10 main_cst_3
  let main_v29 : IVec S4096x10 1 := cmpf .oge main_v27 main_v28
  (main_v3, main_v7, main_v11, main_v16, main_v20, main_v24, main_v26, main_v29)

def fn {F : FTy → Type} [FloatOps F] (main_arg0 : FVec F S4096x16 .f32) (main_arg1 : FVec F S4096 .f32) (main_arg2 : IVec S4096x2 32) (main_arg3 : IVec S40960x2 32) : IVec S4096 1 × IVec S4096 1 × IVec S4096 1 × IVec S4096x10 1 × IVec S40960 1 × IVec S40960 1 × IVec S4096 1 × IVec S4096x10 1 :=
  let main_v0 : IVec S4096x1 32 := (extractStridedSlice S4096x1 ![0, 0] · slices_S4096x2_S4096x1_0_0) main_arg2
  let main_v1 : IVec S4096 32 := shapeCast S4096 main_v0 shapeCasts_S4096x1_S4096
  let main_v2 : IVec S4096 32 := iotaInDim S4096 32 0
  let main_v3 : IVec S4096 1 := cmpi .eq main_v1 main_v2
  let main_v4 : IVec S4096x1 32 := (extractStridedSlice S4096x1 ![0, 1] · slices_S4096x2_S4096x1_0_1) main_arg2
  let main_v5 : IVec S4096 32 := shapeCast S4096 main_v4 shapeCasts_S4096x1_S4096
  let main_c : IVec S_ 32 := constantI S_ 32 0#32
  let main_v6 : IVec S4096 32 := broadcastInDim S4096 ![] bcast_S_S4096 main_c
  let main_v7 : IVec S4096 1 := cmpi .sge main_v5 main_v6
  let main_v8 : IVec S4096x1 32 := (extractStridedSlice S4096x1 ![0, 1] · slices_S4096x2_S4096x1_0_1) main_arg2
  let main_v9 : IVec S4096 32 := shapeCast S4096 main_v8 shapeCasts_S4096x1_S4096
  let main_c_0 : IVec S_ 32 := constantI S_ 32 50#32
  let main_v10 : IVec S4096 32 := broadcastInDim S4096 ![] bcast_S_S4096 main_c_0
  let main_v11 : IVec S4096 1 := cmpi .slt main_v9 main_v10
  let main_v12 : IVec S40960x1 32 := (extractStridedSlice S40960x1 ![0, 0] · slices_S40960x2_S40960x1_0_0) main_arg3
  let main_v13 : IVec S40960 32 := shapeCast S40960 main_v12 shapeCasts_S40960x1_S40960
  let main_v14 : IVec S4096x10 32 := shapeCast S4096x10 main_v13 shapeCasts_S40960_S4096x10
  let main_v15 : IVec S4096x10 32 := iotaInDim S4096x10 32 0
  let main_v16 : IVec S4096x10 1 := cmpi .eq main_v14 main_v15
  let main_v17 : IVec S40960x1 32 := (extractStridedSlice S40960x1 ![0, 1] · slices_S40960x2_S40960x1_0_1) main_arg3
  let main_v18 : IVec S40960 32 := shapeCast S40960 main_v17 shapeCasts_S40960x1_S40960
  let main_c_1 : IVec S_ 32 := constantI S_ 32 0#32
  let main_v19 : IVec S40960 32 := broadcastInDim S40960 ![] bcast_S_S40960 main_c_1
  let main_v20 : IVec S40960 1 := cmpi .sge main_v18 main_v19
  fn_part1 (F := F) main_arg0 main_arg1 main_arg3 main_v3 main_v7 main_v11 main_v16 main_v20
-- ==== Pre_utility_inputs.lean ====
abbrev S40960x128 : Shape := ⟨2, ![40960, 128]⟩
abbrev S4096x128 : Shape := ⟨2, ![4096, 128]⟩
abbrev S4096 : Shape := ⟨1, ![4096]⟩
abbrev S4096x2 : Shape := ⟨2, ![4096, 2]⟩
abbrev S640x256 : Shape := ⟨2, ![640, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S512x256 : Shape := ⟨2, ![512, 256]⟩

class Facts : Prop where
  bcast_S_S4096 : S_.BroadcastsInDim S4096 (![] : Fin 0 → Fin S4096.rank)
  bcast_S_S4096x128 : S_.BroadcastsInDim S4096x128 (![] : Fin 0 → Fin S4096x128.rank)
  slices_S640x256_S512x256_0_0 : S640x256.Slices ![0, 0] S512x256
  bcast_S_S512x256 : S_.BroadcastsInDim S512x256 (![] : Fin 0 → Fin S512x256.rank)

variable [Facts]

def fn {F : FTy → Type} [FloatOps F] (main_arg0 : FVec F S40960x128 .f32) (main_arg1 : FVec F S4096x128 .f32) (main_arg2 : FVec F S4096 .f32) (main_arg3 : IVec S4096x2 32) (main_arg4 : IVec S4096 32) (main_arg5 : FVec F S640x256 .f32) (main_arg6 : FVec F S256 .f32) (main_arg7 : FVec F S256x128 .f32) (main_arg8 : FVec F S128 .f32) (main_arg9 : FVec F S128x1 .f32) (main_arg10 : FVec F S1 .f32) : IVec S4096x128 1 × IVec S512x256 1 × IVec S4096 1 × IVec S4096 1 :=
  let main_v0 : IVec S4096 32 := iotaInDim S4096 32 0
  let main_c : IVec S_ 32 := constantI S_ 32 10#32
  let main_v1 : IVec S4096 32 := broadcastInDim S4096 ![] bcast_S_S4096 main_c
  let main_v2 : IVec S4096 32 := muli main_v0 main_v1
  let main_v3 : IVec S4096 32 := subi main_arg4 main_v2
  let main_v4 : FVec F S4096x128 .f32 := Host.absf main_arg1
  let main_cst : FVec F S_ .f32 := constant S_ .f32 0x7F800000#32
  let main_v5 : FVec F S4096x128 .f32 := broadcastInDim S4096x128 ![] bcast_S_S4096x128 main_cst
  let main_v6 : IVec S4096x128 1 := cmpf .olt main_v4 main_v5
  let main_v7 : FVec F S512x256 .f32 := (extractStridedSlice S512x256 ![0, 0] · slices_S640x256_S512x256_0_0) main_arg5
  let main_v8 : FVec F S512x256 .f32 := Host.absf main_v7
  let main_cst_0 : FVec F S_ .f32 := constant S_ .f32 0x7F800000#32
  let main_v9 : FVec F S512x256 .f32 := broadcastInDim S512x256 ![] bcast_S_S512x256 main_cst_0
  let main_v10 : IVec S512x256 1 := cmpf .olt main_v8 main_v9
  let main_c_1 : IVec S_ 32 := constantI S_ 32 0#32
  let main_v11 : IVec S4096 32 := broadcastInDim S4096 ![] bcast_S_S4096 main_c_1
  let main_v12 : IVec S4096 1 := cmpi .sge main_v3 main_v11
  let main_c_2 : IVec S_ 32 := constantI S_ 32 10#32
  let main_v13 : IVec S4096 32 := broadcastInDim S4096 ![] bcast_S_S4096 main_c_2
  let main_v14 : IVec S4096 1 := cmpi .slt main_v3 main_v13
  (main_v6, main_v10, main_v12, main_v14)
-- ==== Kernel.lean ====
abbrev S4096x16 : Shape := ⟨2, ![4096, 16]⟩
abbrev S4096 : Shape := ⟨1, ![4096]⟩
abbrev S4096x2 : Shape := ⟨2, ![4096, 2]⟩
abbrev S40960x2 : Shape := ⟨2, ![40960, 2]⟩
abbrev S40960x1 : Shape := ⟨2, ![40960, 1]⟩
abbrev S40960 : Shape := ⟨1, ![40960]⟩
abbrev S4096x10 : Shape := ⟨2, ![4096, 10]⟩
abbrev S_ : Shape := ⟨0, ![]⟩
abbrev S65536 : Shape := ⟨1, ![65536]⟩
abbrev S4096x1 : Shape := ⟨2, ![4096, 1]⟩
abbrev S32x2x16 : Shape := ⟨3, ![32, 2, 16]⟩
abbrev S2048 : Shape := ⟨1, ![2048]⟩
abbrev S128 : Shape := ⟨1, ![128]⟩
abbrev S50x16 : Shape := ⟨2, ![50, 16]⟩
abbrev S2x16 : Shape := ⟨2, ![2, 16]⟩
abbrev S16 : Shape := ⟨1, ![16]⟩
abbrev S1x16 : Shape := ⟨2, ![1, 16]⟩
abbrev S1x2x16 : Shape := ⟨3, ![1, 2, 16]⟩
abbrev S32x1x16 : Shape := ⟨3, ![32, 1, 16]⟩
abbrev S32x16 : Shape := ⟨2, ![32, 16]⟩

abbrev nBuf : Table → Nat
  | .hbm => 23
  | .local .scVector .vmem => 5
  | _ => 0

abbrev bufTy : (tb : Table) → Fin (nBuf tb) → BufTy
  | .hbm, ⟨0, _⟩ => ⟨S4096x16, .f32⟩
  | .hbm, ⟨1, _⟩ => ⟨S4096, .f32⟩
  | .hbm, ⟨2, _⟩ => ⟨S4096x2, .i32⟩
  | .hbm, ⟨3, _⟩ => ⟨S40960x2, .i32⟩
  | .hbm, ⟨4, _⟩ => ⟨S40960x1, .i32⟩
  | .hbm, ⟨5, _⟩ => ⟨S40960, .i32⟩
  | .hbm, ⟨6, _⟩ => ⟨S4096x10, .i32⟩
  | .hbm, ⟨7, _⟩ => ⟨S_, .i32⟩
  | .hbm, ⟨8, _⟩ => ⟨S_, .i32⟩
  | .hbm, ⟨9, _⟩ => ⟨S4096x16, .i32⟩
  | .hbm, ⟨10, _⟩ => ⟨S65536, .f32⟩
  | .hbm, ⟨11, _⟩ => ⟨S65536, .i32⟩
  | .hbm, ⟨12, _⟩ => ⟨S4096x1, .i32⟩
  | .hbm, ⟨13, _⟩ => ⟨S4096, .i32⟩
  | .hbm, ⟨14, _⟩ => ⟨S32x2x16, .f32⟩
  | .hbm, ⟨15, _⟩ => ⟨S32x1x16, .f32⟩
  | .hbm, ⟨16, _⟩ => ⟨S32x16, .f32⟩
  | .hbm, ⟨17, _⟩ => ⟨S_, .f32⟩
  | .hbm, ⟨18, _⟩ => ⟨S_, .f32⟩
  | .hbm, ⟨19, _⟩ => ⟨S32x1x16, .f32⟩
  | .hbm, ⟨20, _⟩ => ⟨S32x16, .f32⟩
  | .hbm, ⟨21, _⟩ => ⟨S_, .f32⟩
  | .hbm, ⟨22, _⟩ => ⟨S_, .f32⟩
  | .local .scVector .vmem, ⟨0, _⟩ => ⟨S2048, .f32⟩
  | .local .scVector .vmem, ⟨1, _⟩ => ⟨S2048, .i32⟩
  | .local .scVector .vmem, ⟨2, _⟩ => ⟨S128, .i32⟩
  | .local .scVector .vmem, ⟨3, _⟩ => ⟨S50x16, .f32⟩
  | .local .scVector .vmem, ⟨4, _⟩ => ⟨S2x16, .f32⟩
  | _, _ => ⟨S4096x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v4_scv : Ref sig .scVector := ⟨.hbm, 10, rfl⟩
abbrev main_v5_scv : Ref sig .scVector := ⟨.hbm, 11, rfl⟩
abbrev main_v7_scv : Ref sig .scVector := ⟨.hbm, 13, rfl⟩
abbrev main_v8_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let v3 : BitVec 32 := Scalar.muli v2 c16_i32
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩

def k0_chk1 (v169 : IVec S16 32) : Prop :=
  (∀ a x, ((![v169] : Fin 1 → IVec S16 32) a x).toNat < S2048.size a)
theorem k0_idx1_inb : ∀ (v169 : IVec S16 32) (k0_hw1 : k0_chk1 v169), ∀ a x, ((![v169] : Fin 1 → IVec S16 32) a x).toNat < S2048.size a := fun v169 k0_hw1 => k0_hw1

def k0_chk2 (v176 : IVec S16 32) : Prop :=
  (∀ a x, ((![v176] : Fin 1 → IVec S16 32) a x).toNat < S2048.size a)
theorem k0_idx2_inb : ∀ (v176 : IVec S16 32) (k0_hw2 : k0_chk2 v176), ∀ a x, ((![v176] : Fin 1 → IVec S16 32) a x).toNat < S2048.size a := fun v176 k0_hw2 => k0_hw2

def k0_chk3 (v5 : IVec S16 32) (v170 : IVec S16 32) : Prop :=
  (∀ a x, ((![v170, v5] : Fin 2 → IVec S16 32) a x).toNat < S50x16.size a)
theorem k0_idx3_inb : ∀ (v5 : IVec S16 32) (v170 : IVec S16 32) (k0_hw3 : k0_chk3 v5 v170), ∀ a x, ((![v170, v5] : Fin 2 → IVec S16 32) a x).toNat < S50x16.size a := fun v5 v170 k0_hw3 => k0_hw3

def k0_chk4 (v183 : IVec S16 32) : Prop :=
  (∀ a x, ((![v183] : Fin 1 → IVec S16 32) a x).toNat < S2048.size a)
theorem k0_idx4_inb : ∀ (v183 : IVec S16 32) (k0_hw4 : k0_chk4 v183), ∀ a x, ((![v183] : Fin 1 → IVec S16 32) a x).toNat < S2048.size a := fun v183 k0_hw4 => k0_hw4

def k0_chk5 (v190 : IVec S16 32) : Prop :=
  (∀ a x, ((![v190] : Fin 1 → IVec S16 32) a x).toNat < S2048.size a)
theorem k0_idx5_inb : ∀ (v190 : IVec S16 32) (k0_hw5 : k0_chk5 v190), ∀ a x, ((![v190] : Fin 1 → IVec S16 32) a x).toNat < S2048.size a := fun v190 k0_hw5 => k0_hw5

def k0_chk6 (v5 : IVec S16 32) (v184 : IVec S16 32) : Prop :=
  (∀ a x, ((![v184, v5] : Fin 2 → IVec S16 32) a x).toNat < S50x16.size a)
theorem k0_idx6_inb : ∀ (v5 : IVec S16 32) (v184 : IVec S16 32) (k0_hw6 : k0_chk6 v5 v184), ∀ a x, ((![v184, v5] : Fin 2 → IVec S16 32) a x).toNat < S50x16.size a := fun v5 v184 k0_hw6 => k0_hw6

def k0_chk7 (v197 : IVec S16 32) : Prop :=
  (∀ a x, ((![v197] : Fin 1 → IVec S16 32) a x).toNat < S2048.size a)
theorem k0_idx7_inb : ∀ (v197 : IVec S16 32) (k0_hw7 : k0_chk7 v197), ∀ a x, ((![v197] : Fin 1 → IVec S16 32) a x).toNat < S2048.size a := fun v197 k0_hw7 => k0_hw7

def k0_chk8 (v204 : IVec S16 32) : Prop :=
  (∀ a x, ((![v204] : Fin 1 → IVec S16 32) a x).toNat < S2048.size a)
theorem k0_idx8_inb : ∀ (v204 : IVec S16 32) (k0_hw8 : k0_chk8 v204), ∀ a x, ((![v204] : Fin 1 → IVec S16 32) a x).toNat < S2048.size a := fun v204 k0_hw8 => k0_hw8

def k0_chk9 (v5 : IVec S16 32) (v198 : IVec S16 32) : Prop :=
  (∀ a x, ((![v198, v5] : Fin 2 → IVec S16 32) a x).toNat < S50x16.size a)
theorem k0_idx9_inb : ∀ (v5 : IVec S16 32) (v198 : IVec S16 32) (k0_hw9 : k0_chk9 v5 v198), ∀ a x, ((![v198, v5] : Fin 2 → IVec S16 32) a x).toNat < S50x16.size a := fun v5 v198 k0_hw9 => k0_hw9

def k0_chk10 (v211 : IVec S16 32) : Prop :=
  (∀ a x, ((![v211] : Fin 1 → IVec S16 32) a x).toNat < S2048.size a)
theorem k0_idx10_inb : ∀ (v211 : IVec S16 32) (k0_hw10 : k0_chk10 v211), ∀ a x, ((![v211] : Fin 1 → IVec S16 32) a x).toNat < S2048.size a := fun v211 k0_hw10 => k0_hw10

def k0_chk11 (v218 : IVec S16 32) : Prop :=
  (∀ a x, ((![v218] : Fin 1 → IVec S16 32) a x).toNat < S2048.size a)
theorem k0_idx11_inb : ∀ (v218 : IVec S16 32) (k0_hw11 : k0_chk11 v218), ∀ a x, ((![v218] : Fin 1 → IVec S16 32) a x).toNat < S2048.size a := fun v218 k0_hw11 => k0_hw11

def k0_chk12 (v5 : IVec S16 32) (v212 : IVec S16 32) : Prop :=
  (∀ a x, ((![v212, v5] : Fin 2 → IVec S16 32) a x).toNat < S50x16.size a)
theorem k0_idx12_inb : ∀ (v5 : IVec S16 32) (v212 : IVec S16 32) (k0_hw12 : k0_chk12 v5 v212), ∀ a x, ((![v212, v5] : Fin 2 → IVec S16 32) a x).toNat < S50x16.size a := fun v5 v212 k0_hw12 => k0_hw12

def k0_chk13 (v225 : IVec S16 32) : Prop :=
  (∀ a x, ((![v225] : Fin 1 → IVec S16 32) a x).toNat < S2048.size a)
theorem k0_idx13_inb : ∀ (v225 : IVec S16 32) (k0_hw13 : k0_chk13 v225), ∀ a x, ((![v225] : Fin 1 → IVec S16 32) a x).toNat < S2048.size a := fun v225 k0_hw13 => k0_hw13

def k0_chk14 (v232 : IVec S16 32) : Prop :=
  (∀ a x, ((![v232] : Fin 1 → IVec S16 32) a x).toNat < S2048.size a)
theorem k0_idx14_inb : ∀ (v232 : IVec S16 32) (k0_hw14 : k0_chk14 v232), ∀ a x, ((![v232] : Fin 1 → IVec S16 32) a x).toNat < S2048.size a := fun v232 k0_hw14 => k0_hw14

def k0_chk15 (v5 : IVec S16 32) (v226 : IVec S16 32) : Prop :=
  (∀ a x, ((![v226, v5] : Fin 2 → IVec S16 32) a x).toNat < S50x16.size a)
theorem k0_idx15_inb : ∀ (v5 : IVec S16 32) (v226 : IVec S16 32) (k0_hw15 : k0_chk15 v5 v226), ∀ a x, ((![v226, v5] : Fin 2 → IVec S16 32) a x).toNat < S50x16.size a := fun v5 v226 k0_hw15 => k0_hw15

def k0_chk16 (v239 : IVec S16 32) : Prop :=
  (∀ a x, ((![v239] : Fin 1 → IVec S16 32) a x).toNat < S2048.size a)
theorem k0_idx16_inb : ∀ (v239 : IVec S16 32) (k0_hw16 : k0_chk16 v239), ∀ a x, ((![v239] : Fin 1 → IVec S16 32) a x).toNat < S2048.size a := fun v239 k0_hw16 => k0_hw16

def k0_chk17 (v246 : IVec S16 32) : Prop :=
  (∀ a x, ((![v246] : Fin 1 → IVec S16 32) a x).toNat < S2048.size a)
theorem k0_idx17_inb : ∀ (v246 : IVec S16 32) (k0_hw17 : k0_chk17 v246), ∀ a x, ((![v246] : Fin 1 → IVec S16 32) a x).toNat < S2048.size a := fun v246 k0_hw17 => k0_hw17

def k0_chk18 (v5 : IVec S16 32) (v240 : IVec S16 32) : Prop :=
  (∀ a x, ((![v240, v5] : Fin 2 → IVec S16 32) a x).toNat < S50x16.size a)
theorem k0_idx18_inb : ∀ (v5 : IVec S16 32) (v240 : IVec S16 32) (k0_hw18 : k0_chk18 v5 v240), ∀ a x, ((![v240, v5] : Fin 2 → IVec S16 32) a x).toNat < S50x16.size a := fun v5 v240 k0_hw18 => k0_hw18

def k0_chk19 (v253 : IVec S16 32) : Prop :=
  (∀ a x, ((![v253] : Fin 1 → IVec S16 32) a x).toNat < S2048.size a)
theorem k0_idx19_inb : ∀ (v253 : IVec S16 32) (k0_hw19 : k0_chk19 v253), ∀ a x, ((![v253] : Fin 1 → IVec S16 32) a x).toNat < S2048.size a := fun v253 k0_hw19 => k0_hw19

def k0_chk20 (v260 : IVec S16 32) : Prop :=
  (∀ a x, ((![v260] : Fin 1 → IVec S16 32) a x).toNat < S2048.size a)
theorem k0_idx20_inb : ∀ (v260 : IVec S16 32) (k0_hw20 : k0_chk20 v260), ∀ a x, ((![v260] : Fin 1 → IVec S16 32) a x).toNat < S2048.size a := fun v260 k0_hw20 => k0_hw20

def k0_chk21 (v5 : IVec S16 32) (v254 : IVec S16 32) : Prop :=
  (∀ a x, ((![v254, v5] : Fin 2 → IVec S16 32) a x).toNat < S50x16.size a)
theorem k0_idx21_inb : ∀ (v5 : IVec S16 32) (v254 : IVec S16 32) (k0_hw21 : k0_chk21 v5 v254), ∀ a x, ((![v254, v5] : Fin 2 → IVec S16 32) a x).toNat < S50x16.size a := fun v5 v254 k0_hw21 => k0_hw21

def k0_chk22 (v267 : IVec S16 32) : Prop :=
  (∀ a x, ((![v267] : Fin 1 → IVec S16 32) a x).toNat < S2048.size a)
theorem k0_idx22_inb : ∀ (v267 : IVec S16 32) (k0_hw22 : k0_chk22 v267), ∀ a x, ((![v267] : Fin 1 → IVec S16 32) a x).toNat < S2048.size a := fun v267 k0_hw22 => k0_hw22

def k0_chk23 (v274 : IVec S16 32) : Prop :=
  (∀ a x, ((![v274] : Fin 1 → IVec S16 32) a x).toNat < S2048.size a)
theorem k0_idx23_inb : ∀ (v274 : IVec S16 32) (k0_hw23 : k0_chk23 v274), ∀ a x, ((![v274] : Fin 1 → IVec S16 32) a x).toNat < S2048.size a := fun v274 k0_hw23 => k0_hw23

def k0_chk24 (v5 : IVec S16 32) (v268 : IVec S16 32) : Prop :=
  (∀ a x, ((![v268, v5] : Fin 2 → IVec S16 32) a x).toNat < S50x16.size a)
theorem k0_idx24_inb : ∀ (v5 : IVec S16 32) (v268 : IVec S16 32) (k0_hw24 : k0_chk24 v5 v268), ∀ a x, ((![v268, v5] : Fin 2 → IVec S16 32) a x).toNat < S50x16.size a := fun v5 v268 k0_hw24 => k0_hw24

def k0_chk25 (v281 : IVec S16 32) : Prop :=
  (∀ a x, ((![v281] : Fin 1 → IVec S16 32) a x).toNat < S2048.size a)
theorem k0_idx25_inb : ∀ (v281 : IVec S16 32) (k0_hw25 : k0_chk25 v281), ∀ a x, ((![v281] : Fin 1 → IVec S16 32) a x).toNat < S2048.size a := fun v281 k0_hw25 => k0_hw25

def k0_chk26 (v288 : IVec S16 32) : Prop :=
  (∀ a x, ((![v288] : Fin 1 → IVec S16 32) a x).toNat < S2048.size a)
theorem k0_idx26_inb : ∀ (v288 : IVec S16 32) (k0_hw26 : k0_chk26 v288), ∀ a x, ((![v288] : Fin 1 → IVec S16 32) a x).toNat < S2048.size a := fun v288 k0_hw26 => k0_hw26

def k0_chk27 (v5 : IVec S16 32) (v282 : IVec S16 32) : Prop :=
  (∀ a x, ((![v282, v5] : Fin 2 → IVec S16 32) a x).toNat < S50x16.size a)
theorem k0_idx27_inb : ∀ (v5 : IVec S16 32) (v282 : IVec S16 32) (k0_hw27 : k0_chk27 v5 v282), ∀ a x, ((![v282, v5] : Fin 2 → IVec S16 32) a x).toNat < S50x16.size a := fun v5 v282 k0_hw27 => k0_hw27

def k0_chk28 (v295 : IVec S16 32) : Prop :=
  (∀ a x, ((![v295] : Fin 1 → IVec S16 32) a x).toNat < S2048.size a)
theorem k0_idx28_inb : ∀ (v295 : IVec S16 32) (k0_hw28 : k0_chk28 v295), ∀ a x, ((![v295] : Fin 1 → IVec S16 32) a x).toNat < S2048.size a := fun v295 k0_hw28 => k0_hw28

def k0_chk29 (v302 : IVec S16 32) : Prop :=
  (∀ a x, ((![v302] : Fin 1 → IVec S16 32) a x).toNat < S2048.size a)
theorem k0_idx29_inb : ∀ (v302 : IVec S16 32) (k0_hw29 : k0_chk29 v302), ∀ a x, ((![v302] : Fin 1 → IVec S16 32) a x).toNat < S2048.size a := fun v302 k0_hw29 => k0_hw29

def k0_chk30 (v5 : IVec S16 32) (v296 : IVec S16 32) : Prop :=
  (∀ a x, ((![v296, v5] : Fin 2 → IVec S16 32) a x).toNat < S50x16.size a)
theorem k0_idx30_inb : ∀ (v5 : IVec S16 32) (v296 : IVec S16 32) (k0_hw30 : k0_chk30 v5 v296), ∀ a x, ((![v296, v5] : Fin 2 → IVec S16 32) a x).toNat < S50x16.size a := fun v5 v296 k0_hw30 => k0_hw30

def k0_chk31 (v1707 : IVec S16 32) : Prop :=
  (∀ a x, ((![v1707] : Fin 1 → IVec S16 32) a x).toNat < S128.size a)
theorem k0_idx31_inb : ∀ (v1707 : IVec S16 32) (k0_hw31 : k0_chk31 v1707), ∀ a x, ((![v1707] : Fin 1 → IVec S16 32) a x).toNat < S128.size a := fun v1707 k0_hw31 => k0_hw31
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r3 : BitVec 32 := 0#32
  let c0_i32_6_r3 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x16 : Shape := ⟨2, ![4096, 16]⟩
abbrev S4096 : Shape := ⟨1, ![4096]⟩
abbrev S4096x2 : Shape := ⟨2, ![4096, 2]⟩
abbrev S40960x2 : Shape := ⟨2, ![40960, 2]⟩
abbrev S4096x10 : Shape := ⟨2, ![4096, 10]⟩
abbrev S_ : Shape := ⟨0, ![]⟩
abbrev S4096x50 : Shape := ⟨2, ![4096, 50]⟩
abbrev S4096x1 : Shape := ⟨2, ![4096, 1]⟩
abbrev S40960x1 : Shape := ⟨2, ![40960, 1]⟩
abbrev S40960 : Shape := ⟨1, ![40960]⟩

abbrev nBuf : Space → Nat
  | .hbm => 78
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096, .f32⟩
  | .hbm, ⟨2, _⟩ => ⟨S4096x2, .i32⟩
  | .hbm, ⟨3, _⟩ => ⟨S40960x2, .i32⟩
  | .hbm, ⟨4, _⟩ => ⟨S4096x10, .f32⟩
  | .hbm, ⟨5, _⟩ => ⟨S_, .f32⟩
  | .hbm, ⟨6, _⟩ => ⟨S4096x50, .f32⟩
  | .hbm, ⟨7, _⟩ => ⟨S4096x1, .i32⟩
  | .hbm, ⟨8, _⟩ => ⟨S4096, .i32⟩
  | .hbm, ⟨9, _⟩ => ⟨S4096x1, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S4096x50, .f32⟩
  | .hbm, ⟨29, _⟩ => ⟨S_, .f32⟩
  | .hbm, ⟨30, _⟩ => ⟨S4096x50, .f32⟩
  | .hbm, ⟨31, _⟩ => ⟨S40960x1, .i32⟩
  | .hbm, ⟨32, _⟩ => ⟨S40960, .i32⟩
  | .hbm, ⟨33, _⟩ => ⟨S40960x1, .i32⟩
  | .hbm, ⟨34, _⟩ => ⟨S40960, .i32⟩
  | .hbm, ⟨35, _⟩ => ⟨S40960, .f32⟩
  | .hbm, ⟨36, _⟩ => ⟨S_, .i32⟩
  | .hbm, ⟨37, _⟩ => ⟨S40960, .i32⟩
  | .hbm, ⟨38, _⟩ => ⟨S40960, .i1⟩
  | .hbm, ⟨39, _⟩ => ⟨S_, .i32⟩
  | .hbm, ⟨40, _⟩ => ⟨S40960, .i32⟩
  | .hbm, ⟨41, _⟩ => ⟨S40960, .i32⟩
  | .hbm, ⟨42, _⟩ => ⟨S40960, .i32⟩
  | .hbm, ⟨43, _⟩ => ⟨S_, .i32⟩
  | .hbm, ⟨44, _⟩ => ⟨S40960, .i32⟩
  | .hbm, ⟨45, _⟩ => ⟨S40960, .i1⟩
  | .hbm, ⟨46, _⟩ => ⟨S_, .i32⟩
  | .hbm, ⟨47, _⟩ => ⟨S40960, .i32⟩
  | .hbm, ⟨48, _⟩ => ⟨S40960, .i32⟩
  | .hbm, ⟨49, _⟩ => ⟨S40960, .i32⟩
  | .hbm, ⟨50, _⟩ => ⟨S40960x1, .i32⟩
  | .hbm, ⟨51, _⟩ => ⟨S40960x1, .i32⟩
  | .hbm, ⟨52, _⟩ => ⟨S40960x2, .i32⟩
  | .hbm, ⟨53, _⟩ => ⟨S4096x50, .f32⟩
  | .hbm, ⟨54, _⟩ => ⟨S4096x50, .i32⟩
  | .hbm, ⟨55, _⟩ => ⟨S_, .f32⟩
  | .hbm, ⟨56, _⟩ => ⟨S_, .i32⟩
  | .hbm, ⟨57, _⟩ => ⟨S4096, .f32⟩
  | .hbm, ⟨58, _⟩ => ⟨S4096, .i32⟩
  | .hbm, ⟨59, _⟩ => ⟨S4096x50, .i32⟩
  | .hbm, ⟨60, _⟩ => ⟨S_, .f32⟩
  | .hbm, ⟨61, _⟩ => ⟨S_, .i32⟩
  | .hbm, ⟨62, _⟩ => ⟨S4096, .f32⟩
  | .hbm, ⟨63, _⟩ => ⟨S4096, .i32⟩
  | .hbm, ⟨64, _⟩ => ⟨S4096x2, .f32⟩
  | .hbm, ⟨65, _⟩ => ⟨S4096x2, .i32⟩
  | .hbm, ⟨66, _⟩ => ⟨S4096, .i1⟩
  | .hbm, ⟨67, _⟩ => ⟨S4096, .i32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S4096x1, .i32⟩
  | .hbm, ⟨72, _⟩ => ⟨S4096x2, .i32⟩
  | .hbm, ⟨73, _⟩ => ⟨S4096x2, .i1⟩
  | .hbm, ⟨74, _⟩ => ⟨S4096x2, .i32⟩
  | .hbm, ⟨75, _⟩ => ⟨S_, .i32⟩
  | .hbm, ⟨76, _⟩ => ⟨S_, .i32⟩
  | .hbm, ⟨77, _⟩ => ⟨S_, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_cst : Ref sig .tc := ⟨.hbm, 55, rfl⟩
abbrev main_call0_c : Ref sig .tc := ⟨.hbm, 56, rfl⟩
abbrev main_call0_v1_0 : Ref sig .tc := ⟨.hbm, 57, rfl⟩
abbrev main_v40 : Ref sig .tc := ⟨.hbm, 58, rfl⟩
abbrev main_call1_v0 : Ref sig .tc := ⟨.hbm, 59, rfl⟩
abbrev main_call1_cst : Ref sig .tc := ⟨.hbm, 60, rfl⟩
abbrev main_call1_c : Ref sig .tc := ⟨.hbm, 61, rfl⟩
abbrev main_call1_v1_0 : Ref sig .tc := ⟨.hbm, 62, rfl⟩
abbrev main_v41 : Ref sig .tc := ⟨.hbm, 63, rfl⟩
abbrev main_values : Ref sig .tc := ⟨.hbm, 64, rfl⟩
abbrev main_indices : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Utility.lean ====
abbrev S40960x128 : Shape := ⟨2, ![40960, 128]⟩
abbrev S4096x128 : Shape := ⟨2, ![4096, 128]⟩
abbrev S4096 : Shape := ⟨1, ![4096]⟩
abbrev S4096x2 : Shape := ⟨2, ![4096, 2]⟩
abbrev S640x256 : Shape := ⟨2, ![640, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S4096x1280 : Shape := ⟨2, ![4096, 1280]⟩
abbrev S4096x1 : Shape := ⟨2, ![4096, 1]⟩
abbrev S1x256 : Shape := ⟨2, ![1, 256]⟩
abbrev S1x128 : Shape := ⟨2, ![1, 128]⟩
abbrev S1x1 : Shape := ⟨2, ![1, 1]⟩
abbrev S8x128 : Shape := ⟨2, ![8, 128]⟩
abbrev S4096x16 : Shape := ⟨2, ![4096, 16]⟩
abbrev S1024x1280 : Shape := ⟨2, ![1024, 1280]⟩
abbrev S1024x2 : Shape := ⟨2, ![1024, 2]⟩
abbrev S1024x1 : Shape := ⟨2, ![1024, 1]⟩
abbrev S1024x16 : Shape := ⟨2, ![1024, 16]⟩
abbrev S4096x256 : Shape := ⟨2, ![4096, 256]⟩
abbrev S4095x128 : Shape := ⟨2, ![4095, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S4088x128 : Shape := ⟨2, ![4088, 128]⟩
abbrev S16x128 : Shape := ⟨2, ![16, 128]⟩
abbrev S4080x128 : Shape := ⟨2, ![4080, 128]⟩
abbrev S128x256 : Shape := ⟨2, ![128, 256]⟩
abbrev S1024x256 : Shape := ⟨2, ![1024, 256]⟩
abbrev S128x16 : Shape := ⟨2, ![128, 16]⟩
abbrev S1024x128 : Shape := ⟨2, ![1024, 128]⟩
abbrev S1024 : Shape := ⟨1, ![1024]⟩
abbrev S1x1024x1 : Shape := ⟨3, ![1, 1024, 1]⟩
abbrev S1x1x1 : Shape := ⟨3, ![1, 1, 1]⟩
abbrev S1x8x128 : Shape := ⟨3, ![1, 8, 128]⟩

abbrev nBuf : Space → Nat
  | .hbm => 19
  | .vmem => 18
  | .smem => 1
  | _ => 0

abbrev bufTy : (tb : Table) → Fin (tcTables nBuf tb) → BufTy
  | .hbm, ⟨0, _⟩ => ⟨S40960x128, .f32⟩
  | .hbm, ⟨1, _⟩ => ⟨S4096x128, .f32⟩
  | .hbm, ⟨2, _⟩ => ⟨S4096, .f32⟩
  | .hbm, ⟨3, _⟩ => ⟨S4096x2, .i32⟩
  | .hbm, ⟨4, _⟩ => ⟨S4096, .i32⟩
  | .hbm, ⟨5, _⟩ => ⟨S640x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S4096x1280, .f32⟩
  | .hbm, ⟨12, _⟩ => ⟨S4096x1, .i32⟩
  | .hbm, ⟨13, _⟩ => ⟨S4096x1, .f32⟩
  | .hbm, ⟨14, _⟩ => ⟨S1x256, .f32⟩
  | .hbm, ⟨15, _⟩ => ⟨S1x128, .f32⟩
  | .hbm, ⟨16, _⟩ => ⟨S1x1, .f32⟩
  | .hbm, ⟨17, _⟩ => ⟨S8x128, .f32⟩
  | .hbm, ⟨18, _⟩ => ⟨S4096x16, .f32⟩
  | .local _ .vmem, ⟨0, _⟩ => ⟨S1024x1280, .f32⟩
  | .local _ .vmem, ⟨1, _⟩ => ⟨S1024x1280, .f32⟩
  | .local _ .vmem, ⟨2, _⟩ => ⟨S4096x128, .f32⟩
  | .local _ .vmem, ⟨3, _⟩ => ⟨S1024x2, .i32⟩
  | .local _ .vmem, ⟨4, _⟩ => ⟨S1024x2, .i32⟩
  | .local _ .vmem, ⟨5, _⟩ => ⟨S1024x1, .i32⟩
  | .local _ .vmem, ⟨6, _⟩ => ⟨S1024x1, .i32⟩
  | .local _ .vmem, ⟨7, _⟩ => ⟨S1024x1, .f32⟩
  | .local _ .vmem, ⟨8, _⟩ => ⟨S1024x1, .f32⟩
  | .local _ .vmem, ⟨9, _⟩ => ⟨S640x256, .f32⟩
  | .local _ .vmem, ⟨10, _⟩ => ⟨S256x128, .f32⟩
  | .local _ .vmem, ⟨11, _⟩ => ⟨S128x1, .f32⟩
  | .local _ .vmem, ⟨12, _⟩ => ⟨S1x256, .f32⟩
  | .local _ .vmem, ⟨13, _⟩ => ⟨S1x128, .f32⟩
  | .local _ .vmem, ⟨14, _⟩ => ⟨S8x128, .f32⟩
  | .local _ .vmem, ⟨15, _⟩ => ⟨S1024x16, .f32⟩
  | .local _ .vmem, ⟨16, _⟩ => ⟨S1024x16, .f32⟩
  | .local _ .vmem, ⟨17, _⟩ => ⟨S4096x256, .f32⟩
  | .local _ .smem, ⟨0, _⟩ => ⟨S1x1, .f32⟩
  | _, _ => ⟨S40960x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S640x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== UtilityReferenceIdeal.lean ====
abbrev S40960x128 : Shape := ⟨2, ![40960, 128]⟩
abbrev S4096x128 : Shape := ⟨2, ![4096, 128]⟩
abbrev S4096 : Shape := ⟨1, ![4096]⟩
abbrev S4096x2 : Shape := ⟨2, ![4096, 2]⟩
abbrev S640x256 : Shape := ⟨2, ![640, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S4096x4096 : Shape := ⟨2, ![4096, 4096]⟩
abbrev S_ : Shape := ⟨0, ![]⟩
abbrev S4096x512 : Shape := ⟨2, ![4096, 512]⟩
abbrev S4096x10x512 : Shape := ⟨3, ![4096, 10, 512]⟩
abbrev S40960x512 : Shape := ⟨2, ![40960, 512]⟩
abbrev S40960x640 : Shape := ⟨2, ![40960, 640]⟩
abbrev S40960x256 : Shape := ⟨2, ![40960, 256]⟩
abbrev S1x256 : Shape := ⟨2, ![1, 256]⟩
abbrev S1x128 : Shape := ⟨2, ![1, 128]⟩
abbrev S40960x1 : Shape := ⟨2, ![40960, 1]⟩
abbrev S1x1 : Shape := ⟨2, ![1, 1]⟩
abbrev S4096x10 : Shape := ⟨2, ![4096, 10]⟩
abbrev S4096x1 : Shape := ⟨2, ![4096, 1]⟩
abbrev S8x128 : Shape := ⟨2, ![8, 128]⟩
abbrev S4096x16 : Shape := ⟨2, ![4096, 16]⟩

abbrev nBuf : Space → Nat
  | .hbm => 131
  | .vmem => 0
  | .smem => 0
  | _ => 0

abbrev hbmTy0_0 (i : Nat) : BufTy := match i % 128 with
  | 0 => ⟨S40960x128, .f32⟩
  | 1 => ⟨S4096x128, .f32⟩
  | 2 => ⟨S4096, .f32⟩
  | 3 => ⟨S4096x2, .i32⟩
  | 4 => ⟨S4096, .i32⟩
  | 5 => ⟨S640x256, .f32⟩
  | 6 => ⟨S256, .f32⟩
  | 7 => ⟨S256x128, .f32⟩
  | 8 => ⟨S128, .f32⟩
  | 9 => ⟨S128x1, .f32⟩
  | 10 => ⟨S1, .f32⟩
  | 11 => ⟨S4096x4096, .i32⟩
  | 12 => ⟨S4096x4096, .i32⟩
  | 13 => ⟨S4096x4096, .i1⟩
  | 14 => ⟨S_, .i32⟩
  | 15 => ⟨S4096x4096, .i32⟩
  | 16 => ⟨S4096x4096, .i32⟩
  | 17 => ⟨S4096x4096, .i1⟩
  | 18 => ⟨S4096x4096, .i1⟩
  | 19 => ⟨S_, .f32⟩
  | 20 => ⟨S_, .f32⟩
  | 21 => ⟨S4096x4096, .f32⟩
  | 22 => ⟨S4096x4096, .f32⟩
  | 23 => ⟨S4096x4096, .f32⟩
  | 24 => ⟨S4096x128, .f32⟩
  | 25 => ⟨S4096x128, .f32⟩
  | 26 => ⟨S4096x128, .f32⟩
  | 27 => ⟨S4096x128, .f32⟩
  | 28 => ⟨S4096x512, .f32⟩
  | 29 => ⟨S4096x10x512, .f32⟩
  | 30 => ⟨S40960x512, .f32⟩
  | 31 => ⟨S40960x640, .f32⟩
  | 32 => ⟨S40960x256, .f32⟩
  | 33 => ⟨S1x256, .f32⟩
  | 34 => ⟨S40960x256, .f32⟩
  | 35 => ⟨S40960x256, .f32⟩
  | 36 => ⟨S_, .f32⟩
  | 37 => ⟨S40960x256, .f32⟩
  | 38 => ⟨S40960x256, .i1⟩
  | 39 => ⟨S_, .f32⟩
  | 40 => ⟨S40960x256, .f32⟩
  | 41 => ⟨S40960x256, .i1⟩
  | 42 => ⟨S_, .f32⟩
  | 43 => ⟨S_, .f32⟩
  | 44 => ⟨S40960x256, .f32⟩
  | 45 => ⟨S40960x256, .f32⟩
  | 46 => ⟨S40960x256, .f32⟩
  | 47 => ⟨S_, .f32⟩
  | 48 => ⟨S40960x256, .f32⟩
  | 49 => ⟨S40960x256, .f32⟩
  | 50 => ⟨S40960x256, .f32⟩
  | 51 => ⟨S40960x128, .f32⟩
  | 52 => ⟨S1x128, .f32⟩
  | 53 => ⟨S40960x128, .f32⟩
  | 54 => ⟨S40960x128, .f32⟩
  | 55 => ⟨S_, .f32⟩
  | 56 => ⟨S40960x128, .f32⟩
  | 57 => ⟨S40960x128, .i1⟩
  | 58 => ⟨S_, .f32⟩
  | 59 => ⟨S40960x128, .f32⟩
  | 60 => ⟨S40960x128, .i1⟩
  | 61 => ⟨S_, .f32⟩
  | 62 => ⟨S_, .f32⟩
  | 63 => ⟨S40960x128, .f32⟩
  | 64 => ⟨S40960x128, .f32⟩
  | 65 => ⟨S40960x128, .f32⟩
  | 66 => ⟨S_, .f32⟩
  | 67 => ⟨S40960x128, .f32⟩
  | 68 => ⟨S40960x128, .f32⟩
  | 69 => ⟨S40960x128, .f32⟩
  | 70 => ⟨S40960x1, .f32⟩
  | 71 => ⟨S1x1, .f32⟩
  | 72 => ⟨S40960x1, .f32⟩
  | 73 => ⟨S40960x1, .f32⟩
  | 74 => ⟨S40960x1, .f32⟩
  | 75 => ⟨S4096x10, .f32⟩
  | 76 => ⟨S_, .f32⟩
  | 77 => ⟨S4096, .f32⟩
  | 78 => ⟨S4096x1, .f32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S4096x1, .f32⟩
  | 88 => ⟨S_, .f32⟩
  | 89 => ⟨S_, .f32⟩
  | 90 => ⟨S4096x1, .f32⟩
  | 91 => ⟨S_, .f32⟩
  | 92 => ⟨S4096x1, .f32⟩
  | 93 => ⟨S4096x1, .f32⟩
  | 94 => ⟨S4096x1, .f32⟩
  | 95 => ⟨S4096x1, .f32⟩
  | 96 => ⟨S_, .f32⟩
  | 97 => ⟨S_, .f32⟩
  | 98 => ⟨S8x128, .i32⟩
  | 99 => ⟨S8x128, .i32⟩
  | 100 => ⟨S_, .i32⟩
  | 101 => ⟨S8x128, .i32⟩
  | 102 => ⟨S8x128, .i1⟩
  | 103 => ⟨S_, .i32⟩
  | 104 => ⟨S8x128, .i32⟩
  | 105 => ⟨S8x128, .i1⟩
  | 106 => ⟨S_, .f32⟩
  | 107 => ⟨S_, .f32⟩
  | 108 => ⟨S8x128, .f32⟩
  | 109 => ⟨S8x128, .f32⟩
  | 110 => ⟨S8x128, .f32⟩
  | 111 => ⟨S8x128, .f32⟩
  | 112 => ⟨S8x128, .f32⟩
  | 113 => ⟨S8x128, .f32⟩
  | 114 => ⟨S8x128, .f32⟩
  | 115 => ⟨S_, .i32⟩
  | 116 => ⟨S8x128, .i32⟩
  | 117 => ⟨S8x128, .i1⟩
  | 118 => ⟨S_, .i32⟩
  | 119 => ⟨S8x128, .i32⟩
  | 120 => ⟨S8x128, .i1⟩
  | 121 => ⟨S_, .f32⟩
  | 122 => ⟨S_, .f32⟩
  | 123 => ⟨S8x128, .f32⟩
  | 124 => ⟨S8x128, .f32⟩
  | 125 => ⟨S8x128, .f32⟩
  | 126 => ⟨S8x128, .f32⟩
  | 127 => ⟨S4096x10, .f32⟩
  | _ => ⟨S40960x128, .f32⟩

abbrev hbmTy0_1 (i : Nat) : BufTy := match i % 128 with
  | 0 => ⟨S_, .i32⟩
  | 1 => ⟨S_, .f32⟩
  | 2 => ⟨S4096x16, .f32⟩
  | _ => ⟨S40960x128, .f32⟩

abbrev hbmTy (i : Nat) : BufTy := match i / 128 with
  | 0 => hbmTy0_0 i
  | 1 => hbmTy0_1 i
  | _ => ⟨S40960x128, .f32⟩

abbrev bufTy : (tb : Table) → Fin (tcTables nBuf tb) → BufTy
  | .hbm, ⟨i, _⟩ => hbmTy i
  | _, _ => ⟨S40960x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_cst_0 : Ref sig .tc := ⟨.hbm, 39, rfl⟩
abbrev main_call1_v2 : Ref sig .tc := ⟨.hbm, 40, rfl⟩
abbrev main_call1_v3 : Ref sig .tc := ⟨.hbm, 41, rfl⟩
abbrev main_call1_cst_1 : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_v4 : Ref sig .tc := ⟨.hbm, 45, rfl⟩
abbrev main_call1_v5 : Ref sig .tc := ⟨.hbm, 46, rfl⟩
abbrev main_call1_cst_2 : Ref sig .tc := ⟨.hbm, 47, rfl⟩
abbrev main_call1_v6 : Ref sig .tc := ⟨.hbm, 48, rfl⟩
abbrev main_call1_v7 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_cst_0 : Ref sig .tc := ⟨.hbm, 58, rfl⟩
abbrev main_call2_v2 : Ref sig .tc := ⟨.hbm, 59, rfl⟩
abbrev main_call2_v3 : Ref sig .tc := ⟨.hbm, 60, rfl⟩
abbrev main_call2_cst_1 : Ref sig .tc := ⟨.hbm, 61, rfl⟩
abbrev main_call2_call0_v0 : Ref sig .tc := ⟨.hbm, 62, rfl⟩
abbrev main_call2_call0_v1 : Ref sig .tc := ⟨.hbm, 63, rfl⟩
abbrev main_call2_v4 : Ref sig .tc := ⟨.hbm, 64, rfl⟩
abbrev main_call2_v5 : Ref sig .tc := ⟨.hbm, 65, rfl⟩
abbrev main_call2_cst_2 : Ref sig .tc := ⟨.hbm, 66, rfl⟩
abbrev main_call2_v6 : Ref sig .tc := ⟨.hbm, 67, rfl⟩
abbrev main_call2_v7 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_1 : Ref sig .tc := ⟨.hbm, 76, rfl⟩
abbrev main_v32 : Ref sig .tc := ⟨.hbm, 77, rfl⟩
abbrev main_v33 : Ref sig .tc := ⟨.hbm, 78, rfl⟩
abbrev main_c_2 : Ref sig .tc := ⟨.hbm, 79, rfl⟩
abbrev main_v34 : Ref sig .tc := ⟨.hbm, 80, rfl⟩
abbrev main_v35 : Ref sig .tc := ⟨.hbm, 81, rfl⟩
abbrev main_c_3 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_4 : Ref sig .tc := ⟨.hbm, 88, rfl⟩
abbrev main_v41 : Ref sig .tc := ⟨.hbm, 89, rfl⟩
abbrev main_v42 : Ref sig .tc := ⟨.hbm, 90, rfl⟩
abbrev main_cst_5 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_6 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_7 : Ref sig .tc := ⟨.hbm, 100, rfl⟩
abbrev main_v50 : Ref sig .tc := ⟨.hbm, 101, rfl⟩
abbrev main_v51 : Ref sig .tc := ⟨.hbm, 102, rfl⟩
abbrev main_c_8 : Ref sig .tc := ⟨.hbm, 103, rfl⟩
abbrev main_v52 : Ref sig .tc := ⟨.hbm, 104, rfl⟩
abbrev main_v53 : Ref sig .tc := ⟨.hbm, 105, rfl⟩
abbrev main_cst_9 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v54 : Ref sig .tc := ⟨.hbm, 110, rfl⟩
abbrev main_call4_v0 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_c_10 : Ref sig .tc := ⟨.hbm, 115, rfl⟩
abbrev main_v58 : Ref sig .tc := ⟨.hbm, 116, rfl⟩
abbrev main_v59 : Ref sig .tc := ⟨.hbm, 117, rfl⟩
abbrev main_c_11 : Ref sig .tc := ⟨.hbm, 118, rfl⟩
abbrev main_v60 : Ref sig .tc := ⟨.hbm, 119, rfl⟩
abbrev main_v61 : Ref sig .tc := ⟨.hbm, 120, rfl⟩
abbrev main_cst_12 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_c_13 : Ref sig .tc := ⟨.hbm, 128, rfl⟩
abbrev main_call7_v0 : Ref sig .tc := ⟨.hbm, 129, rfl⟩
abbrev main_v65 : Ref sig .tc := ⟨.hbm, 130, rfl⟩

abbrev nD : Nat := 1
abbrev τ : Topo := Topo.v7x

variable {F : FTy → Type} [FloatOps F]
-- ==== Proof.Trip.lean ====
/-
  One trip of the tile's loop over groups of sixteen sections, run with its values: `Runs` says of a piece of the trip's
  program what it leaves in the dense scratch and what it returns, the other scratches only read.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra and the tile's scratches -/

abbrev UH : Type := URounds (GSem nD τ sig) ℕ
abbrev UU : Type := UH × Counters

local notation "𝕄" => MT nD τ sig (HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0
/-- The subcore at coordinates `L` of device `d`. -/
abbrev tV (d : Dev nD) (L : grid0.Coords) : Thread nD τ := V d (cV L) (jV L)

abbrev sEu : Memref sig .scVector .vmem S2048 .f32 := Memref.whole cc0_scratch0
abbrev sDi : Memref sig .scVector .vmem S2048 .i32 := Memref.whole cc0_scratch1
abbrev sCi : Memref sig .scVector .vmem S128 .i32 := Memref.whole cc0_scratch2
abbrev sDn : Memref sig .scVector .vmem S50x16 .f32 := Memref.whole cc0_scratch3
abbrev sOu : Memref sig .scVector .vmem S2x16 .f32 := Memref.whole cc0_scratch4
abbrev hEu : Memref sig .scVector .hbm S65536 .f32 := Memref.whole main_v4_scv
abbrev hDi : Memref sig .scVector .hbm S65536 .i32 := Memref.whole main_v5_scv
abbrev hCi : Memref sig .scVector .hbm S4096 .i32 := Memref.whole main_v7_scv
abbrev hOu : Memref sig .scVector .hbm S32x2x16 .f32 := Memref.whole main_v8_scv

variable [FloatOps F] (d : Dev nD) (L : grid0.Coords)
variable (eu : Vec F S2048 .f32) (di : Vec F S2048 .i32) (ci : Vec F S128 .i32)

/-- The programs of a tile's trip. -/
abbrev Pr (F : FTy → Type) [FloatOps F] (L : grid0.Coords) (α : Type) : Type 1 := Prog (TpuEff nD τ sig (Elt F) Λ₀ (.scVector (cV L) (jV L))) α

/-- What a trip holds: the three fetched scratches at `eu`, `di`, `ci` and the dense scratch at `f`. -/
def held (f : Vec F S50x16 .f32) : sProp 𝕄 :=
  iprop(((tV d L).loc cc0_scratch3 ↦{fullShare} f) ∗ ((tV d L).loc cc0_scratch0 ↦{fullShare} eu)
    ∗ ((tV d L).loc cc0_scratch1 ↦{fullShare} di) ∗ (tV d L).loc cc0_scratch2 ↦{fullShare} ci)

/-- The piece `p` of a trip, from the dense scratch at `f`, leaves it at `f'` and returns `a`. -/
def Runs {α : Type} (p : Pr F L α) (f f' : Vec F S50x16 .f32) (a : α) : Prop :=
  ∀ Q : α → sProp 𝕄, iprop(held d L eu di ci f ∗ (held d L eu di ci f' -∗ Q a))
    ⊢ wp frame (wpE (defs₀ (F := F)) 𝒱₀ (tV d L) none) Set.univ p Q

variable {d L eu di ci}

theorem Runs.ret {α : Type} {f : Vec F S50x16 .f32} {a b : α} (h : a = b) : Runs d L eu di ci (pure a) f f b := by
  subst h; intro Q
  rw [wp_pure]
  iintro ⟨H, HQ⟩; imodintro; iapply HQ; iexact H

theorem Runs.bind {α β : Type} {p : Pr F L α} {k : α → Pr F L β} {f f₁ f₂ : Vec F S50x16 .f32} {a : α} {b : β}
    (hp : Runs d L eu di ci p f f₁ a) (hk : Runs d L eu di ci (k a) f₁ f₂ b) : Runs d L eu di ci (p >>= k) f f₂ b := by
  intro Q
  rw [wp_bind]
  refine BIBase.Entails.trans ?_ (hp _)
  iintro ⟨H, HQ⟩
  isplitl [H]; · iexact H
  iintro H
  iapply (hk Q)
  isplitl [H]; · iexact H
  iexact HQ

theorem Runs.of_bind {α : Type} {p : Pr F L α} {f f' : Vec F S50x16 .f32} {a : α}
    (h : Runs d L eu di ci (p >>= pure) f f' a) : Runs d L eu di ci p f f' a := by
  have e : p >>= pure = p := by
    clear h
    induction p with
    | ret a => rfl
    | op e k ih => exact congrArg (Prog.op e) (funext fun x => ih x)
  rwa [e] at h

/-! ## Rows of the dense scratch -/

theorem inb_row {c : ℕ} (hc : c < 50) : ∀ a, (![c, 0] : Fin 2 → ℕ) a + S1x16.size a ≤ S50x16.size a := by
  intro a
  match a with
  | 0 => show c + 1 ≤ 50; omega
  | 1 => show 0 + 16 ≤ 16; omega
/-- Row `c` of the dense scratch. -/
abbrev rRow (c : ℕ) (hc : c < 50) : Rect S50x16 := Rect.unit (s := S50x16) ![c, 0] S1x16.size (inb_row hc)
/-- Row `c`, as a load returns it. -/
def ld (f : Vec F S50x16 .f32) (c : ℕ) (hc : c < 50) : Vec F S1x16 .f32 := (sDn.view).readAt (Elt F) (rRow c hc).toLoadRect f
/-- The dense scratch after a store of `v` to row `c`. -/
def st (f : Vec F S50x16 .f32) (c : ℕ) (hc : c < 50) (v : Vec F S1x16 .f32) : Vec F S50x16 .f32 :=
  (sDn.access (rRow c hc)).write (Elt F) f v Finset.univ

theorem Runs.load {f : Vec F S50x16 .f32} (c : ℕ) (hc : c < 50) {hl : sDn.view.LoadsAt (rRow c hc).toLoadRect} :
    Runs d L eu di ci (Prog.lift (.load sDn (rRow c hc).toLoadRect hl)) f f (ld f c hc) := by
  intro Q
  unfold held ld
  simp only [Prog.lift]
  iintro ⟨⟨Hd, Hr⟩, HQ⟩
  iapply (wp_load 𝒱₀ (tV d L) none Set.univ (m := sDn) (S := Finset.univ) (Finset.subset_univ _)) $$ Hd
  iintro Hd
  rw [wp_ret]; imodintro
  iapply HQ
  isplitl [Hd]; · iexact Hd
  iexact Hr

theorem Runs.store {f : Vec F S50x16 .f32} (c : ℕ) (hc : c < 50) {v : Vec F S1x16 .f32} {hx : (sDn.access (rRow c hc)).Stores Finset.univ} {hm} :
    Runs d L eu di ci (Prog.lift (.store sDn (rRow c hc) v Finset.univ hx hm)) f (st f c hc v) ⟨⟩ := by
  intro Q
  unfold held st
  simp only [Prog.lift]
  iintro ⟨⟨Hd, Hr⟩, HQ⟩
  iapply (wp_store 𝒱₀ (tV d L) none Set.univ (m := sDn) (r := rRow c hc) (Mk := Finset.univ) (S := Finset.univ) (Finset.subset_univ _)) $$ Hd
  iintro Hd
  rw [wp_ret]; imodintro
  iapply HQ
  isplitl [Hd]; · iexact Hd
  iexact Hr

theorem Runs.assume {p : Prop} {hd : Decidable p} (h : p) {f : Vec F S50x16 .f32} :
    Runs d L eu di ci (Prog.lift (TpuEff.assume p hd)) f f ⟨h⟩ := by
  intro Q
  simp only [Prog.lift]
  rw [wp_assume_of _ _ _ _ h, wp_ret]
  iintro ⟨H, HQ⟩; imodintro; iapply HQ; iexact H

/-! ## Gathers from the fetched scratches, and the scatter onto the dense one -/

theorem Runs.gatherDi {f : Vec F S50x16 .f32} (ix : IVec S16 32) {h : ∀ a x, ((![ix] : Fin 1 → IVec S16 32) a x).toNat < S2048.size a} {hl} :
    Runs d L eu di ci (SparseCore.vectorLoadIdx sDi ![ix] h hl) f f (loadIdx di ![ix] h) := by
  refine Runs.of_bind ?_
  intro Q
  unfold held
  iintro ⟨⟨Hd, He, Hi, Hc⟩, HQ⟩
  iapply (SparseCore.wp_vectorLoadIdx 𝒱₀ (tV d L) none Set.univ (base := sDi) (S := Finset.univ) (Finset.subset_univ _)) $$ Hi
  iintro Hi
  rw [show (sDi.access (.whole S2048)).read (Elt F) di = di from Memref.read_access_whole (Elt F) (cc0_scratch1 : Ref sig .scVector) di, wp_pure]; imodintro
  iapply HQ
  isplitl [Hd]; · iexact Hd
  isplitl [He]; · iexact He
  isplitl [Hi]; · iexact Hi
  iexact Hc

theorem Runs.gatherEu {f : Vec F S50x16 .f32} (ix : IVec S16 32) {h : ∀ a x, ((![ix] : Fin 1 → IVec S16 32) a x).toNat < S2048.size a} {hl} :
    Runs d L eu di ci (SparseCore.vectorLoadIdx sEu ![ix] h hl) f f (loadIdx eu ![ix] h) := by
  refine Runs.of_bind ?_
  intro Q
  unfold held
  iintro ⟨⟨Hd, He, Hi, Hc⟩, HQ⟩
  iapply (SparseCore.wp_vectorLoadIdx 𝒱₀ (tV d L) none Set.univ (base := sEu) (S := Finset.univ) (Finset.subset_univ _)) $$ He
  iintro He
  rw [show (sEu.access (.whole S2048)).read (Elt F) eu = eu from Memref.read_access_whole (Elt F) (cc0_scratch0 : Ref sig .scVector) eu, wp_pure]; imodintro
  iapply HQ
  isplitl [Hd]; · iexact Hd
  isplitl [He]; · iexact He
  isplitl [Hi]; · iexact Hi
  iexact Hc

theorem Runs.gatherCi {f : Vec F S50x16 .f32} (ix : IVec S16 32) {h : ∀ a x, ((![ix] : Fin 1 → IVec S16 32) a x).toNat < S128.size a} {hl} :
    Runs d L eu di ci (SparseCore.vectorLoadIdx sCi ![ix] h hl) f f (loadIdx ci ![ix] h) := by
  refine Runs.of_bind ?_
  intro Q
  unfold held
  iintro ⟨⟨Hd, He, Hi, Hc⟩, HQ⟩
  iapply (SparseCore.wp_vectorLoadIdx 𝒱₀ (tV d L) none Set.univ (base := sCi) (S := Finset.univ) (Finset.subset_univ _)) $$ Hc
  iintro Hc
  rw [show (sCi.access (.whole S128)).read (Elt F) ci = ci from Memref.read_access_whole (Elt F) (cc0_scratch2 : Ref sig .scVector) ci, wp_pure]; imodintro
  iapply HQ
  isplitl [Hd]; · iexact Hd
  isplitl [He]; · iexact He
  isplitl [Hi]; · iexact Hi
  iexact Hc

theorem Runs.scatter {f : Vec F S50x16 .f32} (it ln : IVec S16 32) (v : Vec F S16 .f32)
    {h : ∀ a x, ((![it, ln] : Fin 2 → IVec S16 32) a x).toNat < S50x16.size a} {hs} :
    Runs d L eu di ci (SparseCore.vectorStoreIdx sDn ![it, ln] v (fun _ => 1#1) true h hs) f
      (storeIdx f ![it, ln] v (fun _ => 1#1) true h) ⟨⟩ := by
  refine Runs.of_bind ?_
  intro Q
  have hset : (sDn.access (.whole S50x16)).set = Finset.univ := Memref.set_access_whole (cc0_scratch3 : Ref sig .scVector)
  have hr : (sDn.access (.whole S50x16)).read (Elt F) f = f := Memref.read_access_whole (Elt F) (cc0_scratch3 : Ref sig .scVector) f
  have hw : ∀ w, (sDn.access (.whole S50x16)).write (Elt F) f w Finset.univ = w :=
    fun w => Memref.write_access_whole_univ (Elt F) (cc0_scratch3 : Ref sig .scVector) f w
  have hp : ∀ g : Vec F S50x16 .f32, ((tV d L).loc cc0_scratch3 ↦{fullShare} g : sProp 𝕄)
      = (((sDn.access (.whole S50x16)).loc (tV d L)) ↦[(sDn.access (.whole S50x16)).set]{fullShare} g) := fun g => by rw [hset]
  unfold held
  rw [hp f, hp (storeIdx f ![it, ln] v (fun _ => 1#1) true h)]
  iintro ⟨⟨Hd, Hr⟩, HQ⟩
  iapply (SparseCore.wp_vectorStoreIdx 𝒱₀ (tV d L) none Set.univ (base := sDn)) $$ Hd
  iintro Hd
  rw [hr, hw, wp_pure]; imodintro
  iapply HQ
  isplitl [Hd]; · iexact Hd
  iexact Hr

/-! ## The trip's values -/

theorem mod50 (c : ℕ) : c % 50 < 50 := Nat.mod_lt _ (by decide)
/-- Row `c` of the dense scratch as a register. -/
def row (f : Vec F S50x16 .f32) (c : ℕ) : FVec F S16 .f32 := shapeCast S16 (ld f (c % 50) (mod50 c)) shapeCasts_S1x16_S16
def zero16 : FVec F S16 .f32 := broadcast S16 (Scalar.ofBits .f32 0x00000000#32)
def neg16 : FVec F S16 .f32 := broadcast S16 (Scalar.ofBits .f32 0xBF800000#32)
def w16 (w : BitVec 32) : IVec S16 32 := broadcast S16 w
def cw (c : ℕ) : BitVec 32 := BitVec.ofNat 32 c
def lanes : IVec S16 32 := iota .scVector S16 32 [0] iota_S16_d0_w32_scVector

/-- The maximum of rows `0 … n`. -/
def mx (f : Vec F S50x16 .f32) (n : ℕ) : FVec F S16 .f32 := Nat.rec (row f 0) (fun n acc => maximumf acc (row f (n + 1))) n
/-- The least of the rows below `n` equal to `m`, or 50. -/
def am (g : ℕ → FVec F S16 .f32) (m : FVec F S16 .f32) (n : ℕ) : IVec S16 32 :=
  Nat.rec (w16 50#32) (fun c acc => minsi acc (select (cmpf .oeq (g c) m) (w16 (cw c)) (w16 50#32))) n
/-- Row `c` with the lanes whose first choice is `c` put at −1. -/
def mk (f : Vec F S50x16 .f32) (a : IVec S16 32) (c : ℕ) : FVec F S16 .f32 := select (cmpi .eq a (w16 (cw c))) neg16 (row f c)
/-- The maximum of −1 and the masked rows below `n`. -/
def m2 (f : Vec F S50x16 .f32) (a : IVec S16 32) (n : ℕ) : FVec F S16 .f32 :=
  Nat.rec neg16 (fun c acc => maximumf acc (mk f a c)) n

/-! ## The zeroed rows -/

/-- The dense scratch with the rows below `n` zeroed. -/
def zrow (n : ℕ) (f : Vec F S50x16 .f32) : Vec F S50x16 .f32 := fun j => if (j 0).val < n then Scalar.ofBits .f32 0x00000000#32 else f j

theorem emb_row {c : ℕ} (hc : c < 50) (x : S1x16.Idx) (a : Fin 2) : ((rRow c hc).emb x a).val = (![c, 0] : Fin 2 → ℕ) a + (x a).val := by
  show _ + 1 * _ = _
  simp

theorem st_zrow (f : Vec F S50x16 .f32) (c : ℕ) (hc : c < 50) :
    st (zrow c f) c hc (shapeCast S1x16 (zero16 (F := F)) shapeCasts_S16_S1x16) = zrow (c + 1) f := by
  unfold st
  funext j
  by_cases h : (j 0).val = c
  · have hj : ∃ x : S1x16.Idx, (sDn.access (rRow c hc)).emb x = j := by
      refine ⟨fun | 0 => ⟨0, by decide⟩ | 1 => j 1, ?_⟩
      show (rRow c hc).emb _ = j
      funext a; apply Fin.ext; rw [emb_row]
      match a with
      | 0 => show c + 0 = (j 0).val; omega
      | 1 => show 0 + (j 1).val = (j 1).val; omega
    obtain ⟨x, rfl⟩ := hj
    rw [View.write_emb_of_mem _ _ (Finset.mem_univ x)]
    show _ = if _ then _ else _
    rw [if_pos (by omega)]
    rfl
  · rw [View.write_of_not_mem]
    · show (if _ then _ else _) = if _ then _ else _
      by_cases h' : (j 0).val < c
      · rw [if_pos h', if_pos (by omega)]
      · rw [if_neg h', if_neg (by omega)]
    · intro hm
      obtain ⟨x, -, rfl⟩ := Finset.mem_map.mp hm
      apply h
      show ((rRow c hc).emb x 0).val = c
      rw [emb_row]
      have : (x 0).val < 1 := (x 0).isLt
      show c + _ = c
      omega

theorem Runs.zero {f : Vec F S50x16 .f32} (c : ℕ) (hc : c < 50) {hx : (sDn.access (rRow c hc)).Stores Finset.univ} {hm} :
    Runs d L eu di ci (Prog.lift (.store sDn (rRow c hc) (shapeCast S1x16 (zero16 (F := F)) shapeCasts_S16_S1x16) Finset.univ hx hm))
      (zrow c f) (zrow (c + 1) f) ⟨⟩ := by
  rw [← st_zrow f c hc]; exact Runs.store c hc

/-! ## The gathers' indices -/

theorem trips_eq : k0_t1_loop.trips = 8 := by decide

/-- The indices of the `w`-th displayed item of the trip's sixteen sections in the fetched scratches. -/
def ixv (t : Fin k0_t1_loop.trips) (w : BitVec 32) : IVec S16 32 :=
  addi (muli (addi (broadcast S16 (Scalar.muli (Scf.iv 0#32 1#32 t) 16#32)) lanes) (broadcast S16 16#32)) (broadcast S16 w)

/-- The place of item `k` of section `16·t + x` in a fetched scratch. -/
def slot (t k : ℕ) (x : S16.Idx) : S2048.Idx := fun a => ⟨((16 * t + (x 0).val) * 16 + k) % 2048, by
  obtain rfl : a = 0 := Subsingleton.elim _ _; exact Nat.mod_lt _ (by decide)⟩
def pick {e : EltTy} (v : Vec F S2048 e) (t k : ℕ) : Vec F S16 e := fun x => v (slot t k x)
def cslot (t : ℕ) (x : S16.Idx) : S128.Idx := fun a => ⟨(16 * t + (x 0).val) % 128, by
  obtain rfl : a = 0 := Subsingleton.elim _ _; exact Nat.mod_lt _ (by decide)⟩

theorem iv_toNat (t : Fin k0_t1_loop.trips) : (Scf.iv 0#32 1#32 t).toNat = t.val := by
  have ht : t.val < 8 := trips_eq ▸ t.isLt
  simp only [Scf.iv]
  simp
  omega

theorem lanes_toNat (x : S16.Idx) : (lanes x).toNat = (x 0).val := by
  have hx : (x 0).val < 16 := (x 0).isLt
  simp only [lanes, iota]
  simp
  omega

theorem ixv_toNat (t : Fin k0_t1_loop.trips) (w : BitVec 32) (hw : w.toNat < 16) (x : S16.Idx) :
    (ixv t w x).toNat = (16 * t.val + (x 0).val) * 16 + w.toNat := by
  have ht : t.val < 8 := trips_eq ▸ t.isLt
  have hx : (x 0).val < 16 := (x 0).isLt
  have hl := lanes_toNat x
  have hi := iv_toNat t
  show (((Scf.iv 0#32 1#32 t * 16#32) + lanes x) * 16#32 + w).toNat = _
  simp only [BitVec.toNat_add, BitVec.toNat_mul, hl, hi, BitVec.toNat_ofNat]
  omega

theorem ixv_lt (t : Fin k0_t1_loop.trips) (w : BitVec 32) (hw : w.toNat < 16) :
    ∀ a x, ((![ixv t w] : Fin 1 → IVec S16 32) a x).toNat < S2048.size a := by
  intro a x
  obtain rfl : a = 0 := Subsingleton.elim _ _
  show (ixv t w x).toNat < 2048
  have ht : t.val < 8 := trips_eq ▸ t.isLt
  have hx : (x 0).val < 16 := (x 0).isLt
  rw [ixv_toNat t w hw]
  omega

theorem loadIdx_ixv {e : EltTy} (v : Vec F S2048 e) (t : Fin k0_t1_loop.trips) (w : BitVec 32) (hw : w.toNat < 16)
    (h : ∀ a x, ((![ixv t w] : Fin 1 → IVec S16 32) a x).toNat < S2048.size a) :
    loadIdx v ![ixv t w] h = pick v t.val w.toNat := by
  funext x
  show v _ = v _
  congr 1
  funext a; apply Fin.ext
  obtain rfl : a = 0 := Subsingleton.elim _ _
  have ht : t.val < 8 := trips_eq ▸ t.isLt
  have hx : (x 0).val < 16 := (x 0).isLt
  show (ixv t w x).toNat = ((16 * t.val + (x 0).val) * 16 + w.toNat) % 2048
  rw [ixv_toNat t w hw]
  omega

theorem Runs.gDi {f : Vec F S50x16 .f32} (t : Fin k0_t1_loop.trips) (w : BitVec 32) (hw : w.toNat < 16)
    {h : ∀ a x, ((![ixv t w] : Fin 1 → IVec S16 32) a x).toNat < S2048.size a} {hl} :
    Runs d L eu di ci (SparseCore.vectorLoadIdx sDi ![ixv t w] h hl) f f (pick di t.val w.toNat) := by
  rw [← loadIdx_ixv di t w hw h]; exact Runs.gatherDi _
theorem Runs.gEu {f : Vec F S50x16 .f32} (t : Fin k0_t1_loop.trips) (w : BitVec 32) (hw : w.toNat < 16)
    {h : ∀ a x, ((![ixv t w] : Fin 1 → IVec S16 32) a x).toNat < S2048.size a} {hl} :
    Runs d L eu di ci (SparseCore.vectorLoadIdx sEu ![ixv t w] h hl) f f (pick eu t.val w.toNat) := by
  rw [← loadIdx_ixv eu t w hw h]; exact Runs.gatherEu _

/-! ## The scatter: every lane adds in its own column -/

def lane (x : Fin 16) : S16.Idx := Shape.ofLane (d := ![16]) x
def col (j : S50x16.Idx) : Fin 16 := j 1
/-- `f` with `v`'s lane `x` added at row `it x`, column `x`. -/
def addAt (f : Vec F S50x16 .f32) (it : IVec S16 32) (v : Vec F S16 .f32) : Vec F S50x16 .f32 :=
  fun j => if (it (lane (col j))).toNat = (j 0).val then FloatOps.idxAddf (f j) (v (lane (col j))) else f j

theorem items_ok (it : IVec S16 32) (hit : ∀ x, (it x).toNat < 50) :
    ∀ a x, ((![it, lanes] : Fin 2 → IVec S16 32) a x).toNat < S50x16.size a := by
  intro a x
  match a with
  | 0 => exact hit x
  | 1 => show (lanes x).toNat < 16; rw [lanes_toNat]; exact (x 0).isLt

/-- One lane's addition. -/
def add1 (it : IVec S16 32) (v : Vec F S16 .f32)
    (h : ∀ a x, ((![it, lanes] : Fin 2 → IVec S16 32) a x).toNat < S50x16.size a) (g : Vec F S50x16 .f32) (k : Fin 16) : Vec F S50x16 .f32 :=
  fun j => if (∀ a, (j a).val = (idxAt ![it, lanes] h (lane k) a).val) then FloatOps.idxAddf (g (idxAt ![it, lanes] h (lane k))) (v (lane k)) else g j

theorem idxAt_iff (it : IVec S16 32)
    (h : ∀ a x, ((![it, lanes] : Fin 2 → IVec S16 32) a x).toNat < S50x16.size a) (k : Fin 16) (j : S50x16.Idx) :
    (∀ a, (j a).val = (idxAt ![it, lanes] h (lane k) a).val) ↔ (it (lane k)).toNat = (j 0).val ∧ col j = k := by
  have hlk : (lanes (lane k)).toNat = k.val := lanes_toNat _
  constructor
  · intro H
    exact ⟨(H 0).symm, Fin.ext ((H 1).trans hlk)⟩
  · rintro ⟨H0, H1⟩ a
    match a with
    | 0 => exact H0.symm
    | 1 => exact (congrArg Fin.val H1).trans hlk.symm

theorem add1_apply (it : IVec S16 32) (v : Vec F S16 .f32)
    (h : ∀ a x, ((![it, lanes] : Fin 2 → IVec S16 32) a x).toNat < S50x16.size a) (g : Vec F S50x16 .f32) (k : Fin 16) (j : S50x16.Idx) :
    add1 it v h g k j = if col j = k then addAt g it v j else g j := by
  unfold add1 addAt
  by_cases hk : col j = k
  · rw [if_pos hk, hk]
    by_cases hi : (it (lane k)).toNat = (j 0).val
    · have H := (idxAt_iff it h k j).mpr ⟨hi, hk⟩
      rw [if_pos H, if_pos hi]
      have hij : idxAt ![it, lanes] h (lane k) = j := by
        funext a; exact Fin.ext (H a).symm
      rw [hij]
    · rw [if_neg (fun H => hi ((idxAt_iff it h k j).mp H).1), if_neg hi]
  · rw [if_neg hk, if_neg (fun H => hk ((idxAt_iff it h k j).mp H).2)]

theorem fold_add1 (it : IVec S16 32) (v : Vec F S16 .f32)
    (h : ∀ a x, ((![it, lanes] : Fin 2 → IVec S16 32) a x).toNat < S50x16.size a) (l : List (Fin 16)) :
    l.Nodup → ∀ (g : Vec F S50x16 .f32) (j : S50x16.Idx),
      l.foldl (add1 it v h) g j = if col j ∈ l then addAt g it v j else g j := by
  induction l with
  | nil => intro _ g j; simp
  | cons k l ih =>
    intro hn g j
    obtain ⟨hk, hl⟩ := List.nodup_cons.mp hn
    rw [List.foldl_cons, ih hl]
    by_cases hjk : col j = k
    · rw [if_neg (fun hh => hk (hjk ▸ hh)), add1_apply, if_pos hjk, if_pos (List.mem_cons.mpr (.inl hjk))]
    · have hmem : col j ∈ k :: l ↔ col j ∈ l := by
        rw [List.mem_cons]; exact ⟨fun hh => hh.resolve_left hjk, .inr⟩
      have hg : add1 it v h g k j = g j := by rw [add1_apply, if_neg hjk]
      simp only [hmem, addAt, hg]

theorem storeIdx_addAt (f : Vec F S50x16 .f32) (it : IVec S16 32) (v : Vec F S16 .f32)
    (h : ∀ a x, ((![it, lanes] : Fin 2 → IVec S16 32) a x).toNat < S50x16.size a) :
    storeIdx f ![it, lanes] v (fun _ => 1#1) true h = addAt f it v := by
  have e : storeIdx f ![it, lanes] v (fun _ => 1#1) true h = (List.finRange 16).foldl (add1 it v h) f := by
    show List.foldl _ _ _ = _
    congr 1
    funext g k j
    refine (congrFun (if_pos ?_) j).trans ?_
    · rfl
    · by_cases hp : ∀ a, (j a).val = (idxAt ![it, lanes] h (lane k) a).val
      · have e : add1 it v h g k j = FloatOps.idxAddf (g (idxAt ![it, lanes] h (lane k))) (v (lane k)) := if_pos hp
        rw [e]
        exact (if_pos hp).trans (if_pos rfl)
      · have e : add1 it v h g k j = g j := if_neg hp
        rw [e]
        exact if_neg hp
  funext j
  rw [e, fold_add1 it v h _ (List.nodup_finRange 16), if_pos (List.mem_finRange _)]

theorem Runs.add {f : Vec F S50x16 .f32} (it : IVec S16 32) (v : Vec F S16 .f32)
    {h : ∀ a x, ((![it, lanes] : Fin 2 → IVec S16 32) a x).toNat < S50x16.size a} {hs} :
    Runs d L eu di ci (SparseCore.vectorStoreIdx sDn ![it, lanes] v (fun _ => 1#1) true h hs) f (addAt f it v) ⟨⟩ := by
  rw [← storeIdx_addAt f it v h]; exact Runs.scatter _ _ _

/-- The dense scratch after the first `n` displayed items of trip `t`'s sections. -/
def dns (eu : Vec F S2048 .f32) (di : Vec F S2048 .i32) (t n : ℕ) : Vec F S50x16 .f32 :=
  Nat.rec (fun _ => Scalar.ofBits .f32 0x00000000#32) (fun k f => addAt f (pick di t k) (pick eu t k)) n

theorem zrow_zero (f : Vec F S50x16 .f32) : zrow 0 f = f := by
  funext j; exact if_neg (Nat.not_lt_zero _)
theorem zrow_all (eu : Vec F S2048 .f32) (di : Vec F S2048 .i32) (f : Vec F S50x16 .f32) (t : ℕ) : zrow 50 f = dns eu di t 0 := by
  funext j
  have h : (j 0).val < 50 := (j 0).isLt
  exact if_pos h

end Cert.Proof.KI
-- ==== Proof.TripBody.lean ====
/-
  The trip's parts, one after the other, and the trip's whole: the dense scratch it leaves and the two counts it carries on.
-/
module

public import proofs.«01_k».proof.Proof.Trip
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (d : Dev nD) (L : grid0.Coords) (eu : Vec F S2048 .f32) (di : Vec F S2048 .i32) (ci : Vec F S128 .i32)

/-! ## The trip's results -/

/-- The largest dense value of a section, the least item that has it, the largest among the others and −1, and the least
    item that has that. -/
def top1 (D : Vec F S50x16 .f32) : FVec F S16 .f32 := mx D 49
def arg1 (D : Vec F S50x16 .f32) : IVec S16 32 := am (row D) (top1 D) 50
def top2 (D : Vec F S50x16 .f32) : FVec F S16 .f32 := m2 D (arg1 D) 50
def arg2 (D : Vec F S50x16 .f32) : IVec S16 32 := am (mk D (arg1 D)) (top2 D) 50
def one16 : FVec F S16 .f32 := broadcast S16 (Scalar.ofBits .f32 0x3F800000#32)
/-- The clicked items of the trip's sections. -/
def clk (ci : Vec F S128 .i32) (t : ℕ) : IVec S16 32 := fun x => ci (cslot t x)
def hit1 (D : Vec F S50x16 .f32) (c : IVec S16 32) : FVec F S16 .f32 := select (cmpi .eq (arg1 D) c) one16 zero16
def hit2 (D : Vec F S50x16 .f32) (c : IVec S16 32) : FVec F S16 .f32 :=
  select (ori (cmpi .eq (arg1 D) c) (cmpi .eq (arg2 D) c)) one16 zero16

set_option maxHeartbeats 1600000 in
theorem part51_runs (hdi : ∀ j, (di j).toNat < 50) (t : Fin k0_t1_loop.trips) (f : Vec F S50x16 .f32) :
    Runs d L eu di ci (k0_part51 L hEu (Memref.isWhole_whole _) hDi (Memref.isWhole_whole _) hCi (Memref.isWhole_whole _) hOu (Memref.isWhole_whole _)
      sEu (Memref.isWhole_whole _) sDi (Memref.isWhole_whole _) sCi (Memref.isWhole_whole _) sDn (Memref.isWhole_whole _) sOu (Memref.isWhole_whole _)
      cc0_scoped0 cc0_scoped1 cc0_scoped2 cc0_scoped3 lanes 0#32 1#32 t) f (dns eu di t.val 10)
      ⟨Scalar.muli (Scf.iv 0#32 1#32 t) 16#32, arg1 (dns eu di t.val 10), top2 (dns eu di t.val 10), am (mk (dns eu di t.val 10) (arg1 (dns eu di t.val 10))) (top2 (dns eu di t.val 10)) 49⟩ := by
  have hit : ∀ k x, (pick di t.val k x).toNat < 50 := fun _ _ => hdi _
  rw [k0_part51_eq_skeleton]
  unfold k0_part51_skel
  suffices h : Runs d L eu di ci _ (zrow 0 f) _ _ by rwa [zrow_zero] at h
  refine Runs.bind (f₁ := zrow 7 f) (a := ⟨Scf.iv 0#32 1#32 t, zero16, 7#32⟩) ?_ ?_
  · rw [k0_part1_eq_skeleton]; unfold k0_part1_skel
    iterate 7 (refine Runs.bind (Runs.load _ (by decide)) ?_; refine Runs.bind (Runs.zero _ (by decide)) ?_)
    exact Runs.ret rfl
  refine Runs.bind (f₁ := zrow 14 f) (a := zero16) ?_ ?_
  · rw [k0_part2_eq_skeleton]; unfold k0_part2_skel
    iterate 7 (refine Runs.bind (Runs.load _ (by decide)) ?_; refine Runs.bind (Runs.zero _ (by decide)) ?_)
    refine Runs.bind (Runs.load _ (by decide)) ?_
    exact Runs.ret rfl
  refine Runs.bind (f₁ := zrow 22 f) (a := ⟨zero16, 22#32⟩) ?_ ?_
  · rw [k0_part3_eq_skeleton]; unfold k0_part3_skel
    iterate 7 (refine Runs.bind (Runs.zero _ (by decide)) ?_; refine Runs.bind (Runs.load _ (by decide)) ?_)
    refine Runs.bind (Runs.zero _ (by decide)) ?_
    exact Runs.ret rfl
  refine Runs.bind (f₁ := zrow 29 f) (a := zero16) ?_ ?_
  · rw [k0_part4_eq_skeleton]; unfold k0_part4_skel
    iterate 7 (refine Runs.bind (Runs.load _ (by decide)) ?_; refine Runs.bind (Runs.zero _ (by decide)) ?_)
    refine Runs.bind (Runs.load _ (by decide)) ?_
    exact Runs.ret rfl
  refine Runs.bind (f₁ := zrow 37 f) (a := ⟨zero16, 37#32⟩) ?_ ?_
  · rw [k0_part5_eq_skeleton]; unfold k0_part5_skel
    iterate 7 (refine Runs.bind (Runs.zero _ (by decide)) ?_; refine Runs.bind (Runs.load _ (by decide)) ?_)
    refine Runs.bind (Runs.zero _ (by decide)) ?_
    exact Runs.ret rfl
  refine Runs.bind (f₁ := zrow 44 f) (a := zero16) ?_ ?_
  · rw [k0_part6_eq_skeleton]; unfold k0_part6_skel
    iterate 7 (refine Runs.bind (Runs.load _ (by decide)) ?_; refine Runs.bind (Runs.zero _ (by decide)) ?_)
    refine Runs.bind (Runs.load _ (by decide)) ?_
    exact Runs.ret rfl
  refine Runs.bind (f₁ := zrow 50 f) (a := ⟨Scalar.muli (Scf.iv 0#32 1#32 t) 16#32, pick di t.val 0, items_ok _ (hit _), k0_pay52 lanes (Scf.iv 0#32 1#32 t), 0#32⟩) ?_ ?_
  · rw [k0_part7_eq_skeleton]; unfold k0_part7_skel
    iterate 5 (refine Runs.bind (Runs.zero _ (by decide)) ?_; refine Runs.bind (Runs.load _ (by decide)) ?_)
    refine Runs.bind (Runs.zero _ (by decide)) ?_
    refine Runs.bind (Runs.assume (ixv_lt t _ (by decide))) ?_
    refine Runs.bind (Runs.gDi t _ (by decide)) ?_
    refine Runs.bind (Runs.assume (items_ok _ (hit _))) ?_
    exact Runs.ret rfl
  rw [zrow_all (eu := eu) (di := di) f t.val]
  refine Runs.bind (f₁ := dns eu di t.val 3) (a := ⟨pick di t.val 3, items_ok _ (hit _)⟩) ?_ ?_
  · rw [k0_part8_eq_skeleton]; unfold k0_part8_skel
    refine Runs.bind (Runs.assume (ixv_lt t _ (by decide))) ?_
    refine Runs.bind (Runs.gEu t _ (by decide)) ?_
    refine Runs.bind (Runs.add _ _) ?_
    iterate 2
      refine Runs.bind (Runs.assume (ixv_lt t _ (by decide))) ?_
      refine Runs.bind (Runs.gDi t _ (by decide)) ?_
      refine Runs.bind (Runs.assume (items_ok _ (hit _))) ?_
      refine Runs.bind (Runs.assume (ixv_lt t _ (by decide))) ?_
      refine Runs.bind (Runs.gEu t _ (by decide)) ?_
      refine Runs.bind (Runs.add _ _) ?_
    refine Runs.bind (Runs.assume (ixv_lt t _ (by decide))) ?_
    refine Runs.bind (Runs.gDi t _ (by decide)) ?_
    refine Runs.bind (Runs.assume (items_ok _ (hit _))) ?_
    exact Runs.ret rfl
  refine Runs.bind (f₁ := dns eu di t.val 6) (a := k0_pay64 lanes (Scalar.muli (Scf.iv 0#32 1#32 t) 16#32)) ?_ ?_
  · rw [k0_part9_eq_skeleton]; unfold k0_part9_skel
    refine Runs.bind (Runs.assume (ixv_lt t _ (by decide))) ?_
    refine Runs.bind (Runs.gEu t _ (by decide)) ?_
    refine Runs.bind (Runs.add _ _) ?_
    iterate 2
      refine Runs.bind (Runs.assume (ixv_lt t _ (by decide))) ?_
      refine Runs.bind (Runs.gDi t _ (by decide)) ?_
      refine Runs.bind (Runs.assume (items_ok _ (hit _))) ?_
      refine Runs.bind (Runs.assume (ixv_lt t _ (by decide))) ?_
      refine Runs.bind (Runs.gEu t _ (by decide)) ?_
      refine Runs.bind (Runs.add _ _) ?_
    exact Runs.ret rfl
  refine Runs.bind (f₁ := dns eu di t.val 8) (a := ⟨pick di t.val 8, items_ok _ (hit _), pick eu t.val 8⟩) ?_ ?_
  · rw [k0_part10_eq_skeleton]; unfold k0_part10_skel
    iterate 2
      refine Runs.bind (Runs.assume (ixv_lt t _ (by decide))) ?_
      refine Runs.bind (Runs.gDi t _ (by decide)) ?_
      refine Runs.bind (Runs.assume (items_ok _ (hit _))) ?_
      refine Runs.bind (Runs.assume (ixv_lt t _ (by decide))) ?_
      refine Runs.bind (Runs.gEu t _ (by decide)) ?_
      refine Runs.bind (Runs.add _ _) ?_
    refine Runs.bind (Runs.assume (ixv_lt t _ (by decide))) ?_
    refine Runs.bind (Runs.gDi t _ (by decide)) ?_
    refine Runs.bind (Runs.assume (items_ok _ (hit _))) ?_
    refine Runs.bind (Runs.assume (ixv_lt t _ (by decide))) ?_
    refine Runs.bind (Runs.gEu t _ (by decide)) ?_
    exact Runs.ret rfl
  refine Runs.bind (f₁ := dns eu di t.val 10) (a := mx (dns eu di t.val 10) 5) ?_ ?_
  · rw [k0_part11_eq_skeleton]; unfold k0_part11_skel
    refine Runs.bind (Runs.add _ _) ?_
    refine Runs.bind (Runs.assume (ixv_lt t _ (by decide))) ?_
    refine Runs.bind (Runs.gDi t _ (by decide)) ?_
    refine Runs.bind (Runs.assume (items_ok _ (hit _))) ?_
    refine Runs.bind (Runs.assume (ixv_lt t _ (by decide))) ?_
    refine Runs.bind (Runs.gEu t _ (by decide)) ?_
    refine Runs.bind (Runs.add _ _) ?_
    iterate 6 refine Runs.bind (Runs.load _ (by decide)) ?_
    exact Runs.ret rfl
  generalize dns eu di t.val 10 = D
  refine Runs.bind (f₁ := D) (a := mx D 15) ?_ ?_
  · rw [k0_part12_eq_skeleton]; unfold k0_part12_skel
    iterate 10 refine Runs.bind (Runs.load _ (by decide)) ?_
    exact Runs.ret rfl
  refine Runs.bind (f₁ := D) (a := mx D 25) ?_ ?_
  · rw [k0_part13_eq_skeleton]; unfold k0_part13_skel
    iterate 10 refine Runs.bind (Runs.load _ (by decide)) ?_
    exact Runs.ret rfl
  refine Runs.bind (f₁ := D) (a := mx D 35) ?_ ?_
  · rw [k0_part14_eq_skeleton]; unfold k0_part14_skel
    iterate 10 refine Runs.bind (Runs.load _ (by decide)) ?_
    exact Runs.ret rfl
  refine Runs.bind (f₁ := D) (a := mx D 45) ?_ ?_
  · rw [k0_part15_eq_skeleton]; unfold k0_part15_skel
    iterate 10 refine Runs.bind (Runs.load _ (by decide)) ?_
    exact Runs.ret rfl
  refine Runs.bind (f₁ := D) (a := ⟨top1 D, am (row D) (top1 D) 3⟩) ?_ ?_
  · rw [k0_part16_eq_skeleton]; unfold k0_part16_skel
    iterate 7 refine Runs.bind (Runs.load _ (by decide)) ?_
    exact Runs.ret rfl
  refine Runs.bind (f₁ := D) (a := am (row D) (top1 D) 8) ?_ ?_
  · rw [k0_part17_eq_skeleton]; unfold k0_part17_skel
    iterate 5 refine Runs.bind (Runs.load _ (by decide)) ?_
    exact Runs.ret rfl
  refine Runs.bind (f₁ := D) (a := am (row D) (top1 D) 13) ?_ ?_
  · rw [k0_part18_eq_skeleton]; unfold k0_part18_skel
    iterate 5 refine Runs.bind (Runs.load _ (by decide)) ?_
    exact Runs.ret rfl
  refine Runs.bind (f₁ := D) (a := am (row D) (top1 D) 18) ?_ ?_
  · rw [k0_part19_eq_skeleton]; unfold k0_part19_skel
    iterate 5 refine Runs.bind (Runs.load _ (by decide)) ?_
    exact Runs.ret rfl
  refine Runs.bind (f₁ := D) (a := am (row D) (top1 D) 23) ?_ ?_
  · rw [k0_part20_eq_skeleton]; unfold k0_part20_skel
    iterate 5 refine Runs.bind (Runs.load _ (by decide)) ?_
    exact Runs.ret rfl
  refine Runs.bind (f₁ := D) (a := am (row D) (top1 D) 28) ?_ ?_
  · rw [k0_part21_eq_skeleton]; unfold k0_part21_skel
    iterate 5 refine Runs.bind (Runs.load _ (by decide)) ?_
    exact Runs.ret rfl
  refine Runs.bind (f₁ := D) (a := am (row D) (top1 D) 33) ?_ ?_
  · rw [k0_part22_eq_skeleton]; unfold k0_part22_skel
    iterate 5 refine Runs.bind (Runs.load _ (by decide)) ?_
    exact Runs.ret rfl
  refine Runs.bind (f₁ := D) (a := am (row D) (top1 D) 38) ?_ ?_
  · rw [k0_part23_eq_skeleton]; unfold k0_part23_skel
    iterate 5 refine Runs.bind (Runs.load _ (by decide)) ?_
    exact Runs.ret rfl
  refine Runs.bind (f₁ := D) (a := am (row D) (top1 D) 43) ?_ ?_
  · rw [k0_part24_eq_skeleton]; unfold k0_part24_skel
    iterate 5 refine Runs.bind (Runs.load _ (by decide)) ?_
    exact Runs.ret rfl
  refine Runs.bind (f₁ := D) (a := am (row D) (top1 D) 48) ?_ ?_
  · rw [k0_part25_eq_skeleton]; unfold k0_part25_skel
    iterate 5 refine Runs.bind (Runs.load _ (by decide)) ?_
    exact Runs.ret rfl
  refine Runs.bind (f₁ := D) (a := ⟨arg1 D, m2 D (arg1 D) 2, cmpi .eq (arg1 D) (w16 (cw 2)), row D 2, neg16⟩) ?_ ?_
  · rw [k0_part26_eq_skeleton]; unfold k0_part26_skel
    iterate 5 refine Runs.bind (Runs.load _ (by decide)) ?_
    exact Runs.ret rfl
  refine Runs.bind (f₁ := D) (a := ⟨m2 D (arg1 D) 7, cmpi .eq (arg1 D) (w16 (cw 7)), row D 7, neg16⟩) ?_ ?_
  · rw [k0_part27_eq_skeleton]; unfold k0_part27_skel
    iterate 5 refine Runs.bind (Runs.load _ (by decide)) ?_
    exact Runs.ret rfl
  refine Runs.bind (f₁ := D) (a := ⟨m2 D (arg1 D) 12, cmpi .eq (arg1 D) (w16 (cw 12)), row D 12, neg16⟩) ?_ ?_
  · rw [k0_part28_eq_skeleton]; unfold k0_part28_skel
    iterate 5 refine Runs.bind (Runs.load _ (by decide)) ?_
    exact Runs.ret rfl
  refine Runs.bind (f₁ := D) (a := ⟨m2 D (arg1 D) 17, cmpi .eq (arg1 D) (w16 (cw 17)), row D 17, neg16⟩) ?_ ?_
  · rw [k0_part29_eq_skeleton]; unfold k0_part29_skel
    iterate 5 refine Runs.bind (Runs.load _ (by decide)) ?_
    exact Runs.ret rfl
  refine Runs.bind (f₁ := D) (a := ⟨m2 D (arg1 D) 22, cmpi .eq (arg1 D) (w16 (cw 22)), row D 22, neg16⟩) ?_ ?_
  · rw [k0_part30_eq_skeleton]; unfold k0_part30_skel
    iterate 5 refine Runs.bind (Runs.load _ (by decide)) ?_
    exact Runs.ret rfl
  refine Runs.bind (f₁ := D) (a := ⟨m2 D (arg1 D) 27, cmpi .eq (arg1 D) (w16 (cw 27)), row D 27, neg16⟩) ?_ ?_
  · rw [k0_part31_eq_skeleton]; unfold k0_part31_skel
    iterate 5 refine Runs.bind (Runs.load _ (by decide)) ?_
    exact Runs.ret rfl
  refine Runs.bind (f₁ := D) (a := ⟨m2 D (arg1 D) 32, cmpi .eq (arg1 D) (w16 (cw 32)), row D 32, neg16⟩) ?_ ?_
  · rw [k0_part32_eq_skeleton]; unfold k0_part32_skel
    iterate 5 refine Runs.bind (Runs.load _ (by decide)) ?_
    exact Runs.ret rfl
  refine Runs.bind (f₁ := D) (a := ⟨m2 D (arg1 D) 37, cmpi .eq (arg1 D) (w16 (cw 37)), row D 37, neg16⟩) ?_ ?_
  · rw [k0_part33_eq_skeleton]; unfold k0_part33_skel
    iterate 5 refine Runs.bind (Runs.load _ (by decide)) ?_
    exact Runs.ret rfl
  refine Runs.bind (f₁ := D) (a := ⟨m2 D (arg1 D) 42, cmpi .eq (arg1 D) (w16 (cw 42)), row D 42, neg16⟩) ?_ ?_
  · rw [k0_part34_eq_skeleton]; unfold k0_part34_skel
    iterate 5 refine Runs.bind (Runs.load _ (by decide)) ?_
    exact Runs.ret rfl
  refine Runs.bind (f₁ := D) (a := ⟨m2 D (arg1 D) 47, cmpi .eq (arg1 D) (w16 (cw 47)), row D 47, neg16⟩) ?_ ?_
  · rw [k0_part35_eq_skeleton]; unfold k0_part35_skel
    iterate 5 refine Runs.bind (Runs.load _ (by decide)) ?_
    exact Runs.ret rfl
  refine Runs.bind (f₁ := D) (a := ⟨top2 D, am (mk D (arg1 D)) (top2 D) 1, cmpf .oeq (mk D (arg1 D) 1) (top2 D), 1#32, 50#32⟩) ?_ ?_
  · rw [k0_part36_eq_skeleton]; unfold k0_part36_skel
    iterate 4 refine Runs.bind (Runs.load _ (by decide)) ?_
    exact Runs.ret rfl
  refine Runs.bind (f₁ := D) (a := ⟨am (mk D (arg1 D)) (top2 D) 5, w16 (cw 5)⟩) ?_ ?_
  · rw [k0_part37_eq_skeleton]; unfold k0_part37_skel
    iterate 3 refine Runs.bind (Runs.load _ (by decide)) ?_
    exact Runs.ret rfl
  refine Runs.bind (f₁ := D) (a := ⟨am (mk D (arg1 D)) (top2 D) 8, cmpi .eq (arg1 D) (w16 (cw 8)), row D 8⟩) ?_ ?_
  · rw [k0_part38_eq_skeleton]; unfold k0_part38_skel
    iterate 4 refine Runs.bind (Runs.load _ (by decide)) ?_
    exact Runs.ret rfl
  refine Runs.bind (f₁ := D) (a := ⟨am (mk D (arg1 D)) (top2 D) 11, cmpf .oeq (mk D (arg1 D) 11) (top2 D), 11#32, 50#32⟩) ?_ ?_
  · rw [k0_part39_eq_skeleton]; unfold k0_part39_skel
    iterate 3 refine Runs.bind (Runs.load _ (by decide)) ?_
    exact Runs.ret rfl
  refine Runs.bind (f₁ := D) (a := ⟨am (mk D (arg1 D)) (top2 D) 15, w16 (cw 15)⟩) ?_ ?_
  · rw [k0_part40_eq_skeleton]; unfold k0_part40_skel
    iterate 3 refine Runs.bind (Runs.load _ (by decide)) ?_
    exact Runs.ret rfl
  refine Runs.bind (f₁ := D) (a := ⟨am (mk D (arg1 D)) (top2 D) 18, cmpi .eq (arg1 D) (w16 (cw 18)), row D 18⟩) ?_ ?_
  · rw [k0_part41_eq_skeleton]; unfold k0_part41_skel
    iterate 4 refine Runs.bind (Runs.load _ (by decide)) ?_
    exact Runs.ret rfl
  refine Runs.bind (f₁ := D) (a := ⟨am (mk D (arg1 D)) (top2 D) 21, cmpf .oeq (mk D (arg1 D) 21) (top2 D), 21#32, 50#32⟩) ?_ ?_
  · rw [k0_part42_eq_skeleton]; unfold k0_part42_skel
    iterate 3 refine Runs.bind (Runs.load _ (by decide)) ?_
    exact Runs.ret rfl
  refine Runs.bind (f₁ := D) (a := ⟨am (mk D (arg1 D)) (top2 D) 25, w16 (cw 25)⟩) ?_ ?_
  · rw [k0_part43_eq_skeleton]; unfold k0_part43_skel
    iterate 3 refine Runs.bind (Runs.load _ (by decide)) ?_
    exact Runs.ret rfl
  refine Runs.bind (f₁ := D) (a := ⟨am (mk D (arg1 D)) (top2 D) 28, cmpi .eq (arg1 D) (w16 (cw 28)), row D 28⟩) ?_ ?_
  · rw [k0_part44_eq_skeleton]; unfold k0_part44_skel
    iterate 4 refine Runs.bind (Runs.load _ (by decide)) ?_
    exact Runs.ret rfl
  refine Runs.bind (f₁ := D) (a := ⟨am (mk D (arg1 D)) (top2 D) 31, cmpf .oeq (mk D (arg1 D) 31) (top2 D), 31#32, 50#32⟩) ?_ ?_
  · rw [k0_part45_eq_skeleton]; unfold k0_part45_skel
    iterate 3 refine Runs.bind (Runs.load _ (by decide)) ?_
    exact Runs.ret rfl
  refine Runs.bind (f₁ := D) (a := ⟨am (mk D (arg1 D)) (top2 D) 35, w16 (cw 35)⟩) ?_ ?_
  · rw [k0_part46_eq_skeleton]; unfold k0_part46_skel
    iterate 3 refine Runs.bind (Runs.load _ (by decide)) ?_
    exact Runs.ret rfl
  refine Runs.bind (f₁ := D) (a := ⟨am (mk D (arg1 D)) (top2 D) 38, cmpi .eq (arg1 D) (w16 (cw 38)), row D 38⟩) ?_ ?_
  · rw [k0_part47_eq_skeleton]; unfold k0_part47_skel
    iterate 4 refine Runs.bind (Runs.load _ (by decide)) ?_
    exact Runs.ret rfl
  refine Runs.bind (f₁ := D) (a := ⟨am (mk D (arg1 D)) (top2 D) 41, cmpf .oeq (mk D (arg1 D) 41) (top2 D), 41#32, 50#32⟩) ?_ ?_
  · rw [k0_part48_eq_skeleton]; unfold k0_part48_skel
    iterate 3 refine Runs.bind (Runs.load _ (by decide)) ?_
    exact Runs.ret rfl
  refine Runs.bind (f₁ := D) (a := ⟨am (mk D (arg1 D)) (top2 D) 45, w16 (cw 45)⟩) ?_ ?_
  · rw [k0_part49_eq_skeleton]; unfold k0_part49_skel
    iterate 3 refine Runs.bind (Runs.load _ (by decide)) ?_
    exact Runs.ret rfl
  refine Runs.bind (f₁ := D) (a := ⟨am (mk D (arg1 D)) (top2 D) 48, cmpi .eq (arg1 D) (w16 (cw 48)), row D 48⟩) ?_ ?_
  · rw [k0_part50_eq_skeleton]; unfold k0_part50_skel
    iterate 4 refine Runs.bind (Runs.load _ (by decide)) ?_
    exact Runs.ret rfl
  exact Runs.ret rfl

/-- The trip's sixteen sections in the fetched clicks. -/
def cix (t : Fin k0_t1_loop.trips) : IVec S16 32 := addi (broadcast S16 (Scalar.muli (Scf.iv 0#32 1#32 t) 16#32)) lanes

theorem cix_toNat (t : Fin k0_t1_loop.trips) (x : S16.Idx) : (cix t x).toNat = 16 * t.val + (x 0).val := by
  have ht : t.val < 8 := trips_eq ▸ t.isLt
  have hx : (x 0).val < 16 := (x 0).isLt
  have hl := lanes_toNat x
  have hi := iv_toNat t
  show ((Scf.iv 0#32 1#32 t * 16#32) + lanes x).toNat = _
  simp only [BitVec.toNat_add, BitVec.toNat_mul, hl, hi, BitVec.toNat_ofNat]
  omega

theorem cix_lt (t : Fin k0_t1_loop.trips) : ∀ a x, ((![cix t] : Fin 1 → IVec S16 32) a x).toNat < S128.size a := by
  intro a x
  obtain rfl : a = 0 := Subsingleton.elim _ _
  show (cix t x).toNat < 128
  have ht : t.val < 8 := trips_eq ▸ t.isLt
  have hx : (x 0).val < 16 := (x 0).isLt
  rw [cix_toNat]
  omega

theorem loadIdx_cix (t : Fin k0_t1_loop.trips) (h : ∀ a x, ((![cix t] : Fin 1 → IVec S16 32) a x).toNat < S128.size a) :
    loadIdx ci ![cix t] h = clk ci t.val := by
  funext x
  show ci _ = ci _
  congr 1
  funext a; apply Fin.ext
  obtain rfl : a = 0 := Subsingleton.elim _ _
  have ht : t.val < 8 := trips_eq ▸ t.isLt
  have hx : (x 0).val < 16 := (x 0).isLt
  show (cix t x).toNat = (16 * t.val + (x 0).val) % 128
  rw [cix_toNat]
  omega

theorem Runs.gCi (t : Fin k0_t1_loop.trips) {f : Vec F S50x16 .f32}
    {h : ∀ a x, ((![cix t] : Fin 1 → IVec S16 32) a x).toNat < S128.size a} {hl} :
    Runs d L eu di ci (SparseCore.vectorLoadIdx sCi ![cix t] h hl) f f (clk ci t.val) := by
  rw [← loadIdx_cix ci t h]; exact Runs.gatherCi _

/-- **One trip**: its dense scratch, and both counts grown by the hits of its sixteen sections. -/
theorem trip_runs (hdi : ∀ j, (di j).toNat < 50) (t : Fin k0_t1_loop.trips) (f : Vec F S50x16 .f32) (p : FVec F S16 .f32 × FVec F S16 .f32) :
    Runs d L eu di ci (k0_t1_body L hEu (Memref.isWhole_whole _) hDi (Memref.isWhole_whole _) hCi (Memref.isWhole_whole _) hOu (Memref.isWhole_whole _)
      sEu (Memref.isWhole_whole _) sDi (Memref.isWhole_whole _) sCi (Memref.isWhole_whole _) sDn (Memref.isWhole_whole _) sOu (Memref.isWhole_whole _)
      cc0_scoped0 cc0_scoped1 cc0_scoped2 cc0_scoped3 lanes t p) f (dns eu di t.val 10)
      (addf p.1 (hit1 (dns eu di t.val 10) (clk ci t.val)), addf p.2 (hit2 (dns eu di t.val 10) (clk ci t.val))) := by
  unfold k0_t1_body
  refine Runs.bind (part51_runs d L eu di ci hdi t f) ?_
  generalize dns eu di t.val 10 = D
  refine Runs.bind (Runs.load _ (by decide)) ?_
  refine Runs.bind (Runs.assume (cix_lt t)) ?_
  refine Runs.bind (Runs.gCi d L eu di ci t) ?_
  exact Runs.ret rfl

end Cert.Proof.KI
-- ==== Proof.Tile.lean ====
/-
  A tile's run: its fetches, its eight trips and its write-out, with the counts it leaves.
-/
module

public import proofs.«01_k».proof.Proof.TripBody
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

public import Idealize.ShloMosaic.Lib.WritesUnit

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (L : grid0.Coords)

/-! ## The tile's own semaphores and scratches -/

abbrev g0 : GSem nD τ sig := (tV d L, .dma cc0_scoped0.sem)
abbrev g1 : GSem nD τ sig := (tV d L, .dma cc0_scoped1.sem)
abbrev g2 : GSem nD τ sig := (tV d L, .dma cc0_scoped2.sem)
abbrev g3 : GSem nD τ sig := (tV d L, .dma cc0_scoped3.sem)

theorem own_mem (sm : SemLoc sig) (h : sm.isScoped .scVector = true) : ((tV d L, sm) : GSem nD τ sig) ∈ ownCells (tV d L) :=
  mem_ownCells.mpr ⟨rfl, h⟩
theorem sem_ne {sm sm' : SemLoc sig} (h : sm ≠ sm') : ((tV d L, sm) : GSem nD τ sig) ≠ (tV d L, sm') := fun e => h (Prod.mk.inj e).2

theorem ownSems0_V :
    (ownSems0 (tV d L) : sProp 𝕄)
      = iprop(semVal (g0 d L) 0 ∗ semVal (g1 d L) 0 ∗ semVal (g2 d L) 0 ∗ semVal (g3 d L) 0
          ∗ bigSep (((((ownCells (tV d L)).erase (g0 d L)).erase (g1 d L)).erase (g2 d L)).erase (g3 d L)) fun g => semVal g 0) := by
  unfold SparseCore.Cfg.ownSems0
  rw [SparseCore.bigSep_erase' (own_mem d L (.dma cc0_scoped0.sem) (by decide)),
    SparseCore.bigSep_erase' (Finset.mem_erase.mpr ⟨sem_ne d L (by decide), own_mem d L (.dma cc0_scoped1.sem) (by decide)⟩),
    SparseCore.bigSep_erase' (Finset.mem_erase.mpr ⟨sem_ne d L (by decide), Finset.mem_erase.mpr ⟨sem_ne d L (by decide),
      own_mem d L (.dma cc0_scoped2.sem) (by decide)⟩⟩),
    SparseCore.bigSep_erase' (Finset.mem_erase.mpr ⟨sem_ne d L (by decide), Finset.mem_erase.mpr ⟨sem_ne d L (by decide),
      Finset.mem_erase.mpr ⟨sem_ne d L (by decide), own_mem d L (.dma cc0_scoped3.sem) (by decide)⟩⟩⟩)]

abbrev dRef (b : Ref sig .scVector) : DevRef τ sig := (Proc.scVector (cV L) (jV L)).devRef b
theorem ref_ne {b b' : Ref sig .scVector} (h : b ≠ b') : dRef L b ≠ dRef L b' := fun e => h (Proc.devRef_injective _ e)

theorem ownBufs_V :
    (ownBufs (tV d L) : sProp 𝕄)
      = iprop((∃ f, (tV d L).loc cc0_scratch0 ↦{fullShare} f) ∗ (∃ f, (tV d L).loc cc0_scratch1 ↦{fullShare} f)
          ∗ (∃ f, (tV d L).loc cc0_scratch2 ↦{fullShare} f) ∗ (∃ f, (tV d L).loc cc0_scratch3 ↦{fullShare} f)
          ∗ (∃ f, (tV d L).loc cc0_scratch4 ↦{fullShare} f)
          ∗ bigSep ((((((ownRefs (τ := τ) (.scVector (cV L) (jV L))).erase (dRef L cc0_scratch0)).erase (dRef L cc0_scratch1)).erase
              (dRef L cc0_scratch2)).erase (dRef L cc0_scratch3)).erase (dRef L cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dRef L cc0_scratch0) rfl)).trans ?_
  rw [SparseCore.bigSep_erase' (Finset.mem_erase.mpr ⟨ref_ne L (by decide), SparseCore.Cfg.mem_ownRefs_of_owner (p := Proc.scVector (cV L) (jV L)) (b := dRef L cc0_scratch1) rfl⟩),
    SparseCore.bigSep_erase' (Finset.mem_erase.mpr ⟨ref_ne L (by decide), Finset.mem_erase.mpr ⟨ref_ne L (by decide),
      SparseCore.Cfg.mem_ownRefs_of_owner (p := Proc.scVector (cV L) (jV L)) (b := dRef L cc0_scratch2) rfl⟩⟩),
    SparseCore.bigSep_erase' (Finset.mem_erase.mpr ⟨ref_ne L (by decide), Finset.mem_erase.mpr ⟨ref_ne L (by decide), Finset.mem_erase.mpr ⟨ref_ne L (by decide),
      SparseCore.Cfg.mem_ownRefs_of_owner (p := Proc.scVector (cV L) (jV L)) (b := dRef L cc0_scratch3) rfl⟩⟩⟩),
    SparseCore.bigSep_erase' (Finset.mem_erase.mpr ⟨ref_ne L (by decide), Finset.mem_erase.mpr ⟨ref_ne L (by decide), Finset.mem_erase.mpr ⟨ref_ne L (by decide),
      Finset.mem_erase.mpr ⟨ref_ne L (by decide), SparseCore.Cfg.mem_ownRefs_of_owner (p := Proc.scVector (cV L) (jV L)) (b := dRef L cc0_scratch4) rfl⟩⟩⟩⟩)]

/-! ## The tile's slices of the arrays -/

abbrev slEu : Memref sig .scVector .hbm S2048 .f32 := hEu.slice (Rect.unit (s := S65536) (k0_off1 L) S2048.size (k0_off1_inb L)) (fun _ => rfl)
abbrev slDi : Memref sig .scVector .hbm S2048 .i32 := hDi.slice (Rect.unit (s := S65536) (k0_off1 L) S2048.size (k0_off1_inb L)) (fun _ => rfl)
abbrev slCi : Memref sig .scVector .hbm S128 .i32 := hCi.slice (Rect.unit (s := S4096) (k0_off2 L) S128.size (k0_off2_inb L)) (fun _ => rfl)
abbrev slOu : Memref sig .scVector .hbm S2x16 .f32 :=
  (hOu.slice (Rect.unit (s := S32x2x16) (k0_off3 L) S1x2x16.size (k0_off3_inb L)) (fun _ => rfl)).squeeze S2x16 squeezes_S1x2x16_S2x16

/-- The call's arrays, by their locations. -/
abbrev lEu (d : Dev nD) : Loc nD τ sig := (SparseCore.T d).loc main_v4
abbrev lDi (d : Dev nD) : Loc nD τ sig := (SparseCore.T d).loc main_v5
abbrev lCi (d : Dev nD) : Loc nD τ sig := (SparseCore.T d).loc main_v7
abbrev lOu (d : Dev nD) : Loc nD τ sig := (SparseCore.T d).loc main_v8

theorem pts_s0 (f : Buf (Elt F) ((tV d L).loc cc0_scratch0)) :
    (sEu.view.loc (tV d L) ↦[sEu.view.set]{fullShare} f : sProp 𝕄) = ((tV d L).loc cc0_scratch0 ↦{fullShare} f) := by
  simp only [Memref.view_whole, View.set_whole]
theorem pts_s1 (f : Buf (Elt F) ((tV d L).loc cc0_scratch1)) :
    (sDi.view.loc (tV d L) ↦[sDi.view.set]{fullShare} f : sProp 𝕄) = ((tV d L).loc cc0_scratch1 ↦{fullShare} f) := by
  simp only [Memref.view_whole, View.set_whole]
theorem pts_s2 (f : Buf (Elt F) ((tV d L).loc cc0_scratch2)) :
    (sCi.view.loc (tV d L) ↦[sCi.view.set]{fullShare} f : sProp 𝕄) = ((tV d L).loc cc0_scratch2 ↦{fullShare} f) := by
  simp only [Memref.view_whole, View.set_whole]
theorem pts_s4 (f : Buf (Elt F) ((tV d L).loc cc0_scratch4)) :
    (sOu.view.loc (tV d L) ↦[sOu.view.set]{fullShare} f : sProp 𝕄) = ((tV d L).loc cc0_scratch4 ↦{fullShare} f) := by
  simp only [Memref.view_whole, View.set_whole]

variable [FloatOps F]
/-- Coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- The tile of output row `w`. -/
def tileOf (w : Fin 32) : grid0.Coords := coordsV ⟨w.val % 2, Nat.mod_lt _ (by decide)⟩ ⟨w.val / 2, Nat.div_lt_of_lt_mul (by exact w.isLt)⟩

/-- A pair of counts as the two rows a tile writes. -/
def blk (p : FVec F S16 .f32 × FVec F S16 .f32) (r : Fin 2) (x : Fin 16) : F .f32 := if r.val = 0 then p.1 (lane x) else p.2 (lane x)

omit [FloatOps F] in
theorem blk_pos (x : S2x16.Idx) : ((Shape.reshapeEquiv (s := S1x2x16) (s' := S2x16) (by decide) x) 1).val = (x 0).val
    ∧ ((Shape.reshapeEquiv (s := S1x2x16) (s' := S2x16) (by decide) x) 2).val = (x 1).val := by
  decide +revert +kernel

theorem row_pos (x : S1x16.Idx) : Shape.reshapeEquiv (s := S16) (s' := S1x16) (by decide) x = lane (x 1) := by
  decide +revert +kernel

theorem tileOf_eq (L : grid0.Coords) (w : Fin 32) (h : w.val = 2 * (L 1).val + (L 0).val) : tileOf w = L := by
  have h0 : (L 0).val < 2 := (L 0).isLt
  funext a
  match a with
  | 0 => exact Fin.ext (show w.val % 2 = _ by omega)
  | 1 => exact Fin.ext (show w.val / 2 = _ by omega)

variable (E : Vec F S65536 .f32) (I : Vec F S65536 .i32) (C : Vec F S4096 .i32)

/-- What the tile fetches. -/
def euW : Vec F S2048 .f32 := (slEu L).view.read (Elt F) E
def diW : Vec F S2048 .i32 := (slDi L).view.read (Elt F) I
def ciW : Vec F S128 .i32 := (slCi L).view.read (Elt F) C

/-- The two counts after `n` trips. -/
def cnt (eu : Vec F S2048 .f32) (di : Vec F S2048 .i32) (ci : Vec F S128 .i32) (n : ℕ) : FVec F S16 .f32 × FVec F S16 .f32 :=
  Nat.rec (zero16, zero16) (fun t p => (addf p.1 (hit1 (dns eu di t 10) (clk ci t)), addf p.2 (hit2 (dns eu di t 10) (clk ci t)))) n

abbrev A0 (d : Dev nD) (L : grid0.Coords) (f : Vec F S65536 .f32) : sProp 𝕄 := (slEu L).view.loc (tV d L) ↦[(slEu L).view.set]{fullShare} f
abbrev A1 (d : Dev nD) (L : grid0.Coords) (f : Vec F S65536 .i32) : sProp 𝕄 := (slDi L).view.loc (tV d L) ↦[(slDi L).view.set]{fullShare} f
abbrev A2 (d : Dev nD) (L : grid0.Coords) (f : Vec F S4096 .i32) : sProp 𝕄 := (slCi L).view.loc (tV d L) ↦[(slCi L).view.set]{fullShare} f
abbrev A3 (d : Dev nD) (L : grid0.Coords) (f : Vec F S32x2x16 .f32) : sProp 𝕄 := (slOu L).view.loc (tV d L) ↦[(slOu L).view.set]{fullShare} f

/-- The loop's invariant: the scratches as fetched, the dense scratch at whatever it holds, and the counts carried. -/
def inv (n : ℕ) (p : FVec F S16 .f32 × FVec F S16 .f32) : sProp 𝕄 :=
  iprop(⌜p = cnt (euW L E) (diW L I) (ciW L C) n⌝ ∗ ∃ f, held d L (euW L E) (diW L I) (ciW L C) f)

theorem read_out (b : Vec F S2x16 .f32) (p : FVec F S16 .f32 × FVec F S16 .f32) :
    sOu.view.read (Elt F) (sOu.view.writes (Elt F) b
      [⟨Rect.unit (s := S2x16) ![1, 0] S1x16.size inb_S2x16_S1x16_1_0, shapeCast S1x16 p.2 shapeCasts_S16_S1x16⟩,
       ⟨Rect.unit (s := S2x16) ![0, 0] S1x16.size inb_S2x16_S1x16_0_0, shapeCast S1x16 p.1 shapeCasts_S16_S1x16⟩])
      = fun y => blk p (y 0) (y 1) := by
  funext y
  let z : S1x16.Idx := fun | 0 => (0 : Fin 1) | 1 => y 1
  have hy : (y 0).val < 2 := (y 0).isLt
  have hz : ∀ v : FVec F S16 .f32, shapeCast S1x16 v shapeCasts_S16_S1x16 z = v (lane (y 1)) := fun v => congrArg v (row_pos z)
  by_cases h : (y 0).val = 0
  · refine (View.read_writes_cons_unit_of_not_mem _ _ (s := S2x16) (off' := ![1, 0]) (size := S1x16.size) _ _ _ y rfl 0 (.inl (by rw [h]; decide))).trans ?_
    refine (View.read_writes_cons_unit_of_mem _ _ (s := S2x16) (off' := ![0, 0]) (size := S1x16.size) _ _ _ y z rfl (fun a => match a with
        | 0 => by simpa [z] using h
        | 1 => by simp [z])).trans ((hz _).trans ?_)
    exact (if_pos h).symm
  · refine (View.read_writes_cons_unit_of_mem _ _ (s := S2x16) (off' := ![1, 0]) (size := S1x16.size) _ _ _ y z rfl (fun a => match a with
        | 0 => by show (y 0).val = 1 + 0; omega
        | 1 => by simp [z])).trans ((hz _).trans ?_)
    exact (if_neg h).symm

/-- The call's output: row `w` is tile `w`'s counts. -/
def outB : Vec F S32x2x16 .f32 := fun j =>
  blk (cnt (euW (tileOf (j 0)) E) (diW (tileOf (j 0)) I) (ciW (tileOf (j 0)) C) 8) (j 1) (j 2)

/-- The tile's part of the output, once written, is the call's output there. -/
theorem out_pts (f₀ : Vec F S32x2x16 .f32) (w : Vec F S2x16 .f32)
    (hw : w = fun y => blk (cnt (euW L E) (diW L I) (ciW L C) 8) (y 0) (y 1)) :
    (A3 d L ((slOu L).view.writes (Elt F) f₀ [⟨Rect.whole S2x16, w⟩]) : sProp 𝕄) = A3 d L (outB E I C) := by
  refine pointsTo_congr fun j hj => ?_
  obtain ⟨x, -, rfl⟩ := Finset.mem_map.mp hj
  have h1 : (slOu L).view.writes (Elt F) f₀ [⟨Rect.whole S2x16, w⟩] ((slOu L).view.emb x) = w x :=
    congrFun (View.read_writes_whole (slOu L).view f₀ w) x
  rw [h1, hw]
  obtain ⟨q1, q2⟩ := blk_pos x
  have h0 : ((slOu L).view.emb x 0).val = 2 * (L 1).val + (L 0).val := by
    show k0_off3 L 0 + 1 * ((Shape.reshapeEquiv (s := S1x2x16) (s' := S2x16) (by decide) x) 0).val = _
    rw [k0_off3_eq]
    have : ((Shape.reshapeEquiv (s := S1x2x16) (s' := S2x16) (by decide) x) 0).val < 1 := ((Shape.reshapeEquiv (s := S1x2x16) (s' := S2x16) (by decide) x) 0).isLt
    simp only [Matrix.cons_val_zero]
    omega
  have e1 : ((slOu L).view.emb x 1) = x 0 := Fin.ext (by
    show k0_off3 L 1 + 1 * ((Shape.reshapeEquiv (s := S1x2x16) (s' := S2x16) (by decide) x) 1).val = _
    rw [k0_off3_eq, q1]; simp)
  have e2 : ((slOu L).view.emb x 2) = x 1 := Fin.ext (by
    show k0_off3 L 2 + 1 * ((Shape.reshapeEquiv (s := S1x2x16) (s' := S2x16) (by decide) x) 2).val = _
    rw [k0_off3_eq, q2]; simp)
  have e0 : tileOf ((slOu L).view.emb x 0) = L := tileOf_eq L _ h0
  show _ = blk (cnt (euW (tileOf ((slOu L).view.emb x 0)) E) (diW (tileOf ((slOu L).view.emb x 0)) I) (ciW (tileOf ((slOu L).view.emb x 0)) C) 8)
    ((slOu L).view.emb x 1) ((slOu L).view.emb x 2)
  rw [e0, e1, e2]

omit [FloatOps F] in
/-- A buffer written whole holds what was written. -/
theorem whole_writes (r : Ref sig .scVector) (f w : r.ty.Contents (Elt F)) :
    (Memref.whole r).view.writes (Elt F) f [⟨Rect.whole r.ty.shape, w⟩] = w := by
  rw [← View.write_univ_eq_writes_whole]
  exact View.write_whole_univ r f w

theorem fetch0 (b w : Vec F S2048 .f32) : sEu.view.writes (Elt F) b [⟨Rect.whole S2048, w⟩] = w :=
  whole_writes cc0_scratch0 b w
theorem fetch1 (b w : Vec F S2048 .i32) : sDi.view.writes (Elt F) b [⟨Rect.whole S2048, w⟩] = w :=
  whole_writes cc0_scratch1 b w
theorem fetch2 (b w : Vec F S128 .i32) : sCi.view.writes (Elt F) b [⟨Rect.whole S128, w⟩] = w :=
  whole_writes cc0_scratch2 b w

set_option maxRecDepth 4000 in
set_option maxHeartbeats 1000000 in
theorem tile_body (hF : (K (F := F)).Facts) (hI : ∀ j, (I j).toNat < 50) (O : CellTallies nD τ sig (HIx 1)) (W : Waits sig (HIx 1)) (hO : ∀ g, O g none = 0) (f₀ : Vec F S32x2x16 .f32) :
    iprop(levAts (K (F := F)).L (K (F := F)).lev ∗ emp
        ∗ (A0 d L E ∗ A1 d L I ∗ A2 d L C ∗ A3 d L f₀)
        ∗ scopedBufs (tV d L) ∗ scopedSems0 (tV d L) ∗ owes (tV d L) O W)
      ⊢ wp frame (wpE (defs₀ (F := F)) 𝒱₀ (tV d L) none) Set.univ
          (cc0__sc_body L hEu (Memref.isWhole_whole _) hDi (Memref.isWhole_whole _) hCi (Memref.isWhole_whole _) hOu (Memref.isWhole_whole _)
            sEu (Memref.isWhole_whole _) sDi (Memref.isWhole_whole _) sCi (Memref.isWhole_whole _) sDn (Memref.isWhole_whole _) sOu (Memref.isWhole_whole _)
            cc0_scoped0 cc0_scoped1 cc0_scoped2 cc0_scoped3)
          fun _ => iprop((A0 d L E ∗ A1 d L I ∗ A2 d L C ∗ A3 d L (outB E I C))
            ∗ scopedBufs (tV d L) ∗ scopedSems0 (tV d L)
            ∗ ∃ W', ⌜∀ p ∈ W', p ∈ W ∨ p.2 = none⌝ ∗ owes (tV d L) O W') := by
  simp only [cc0__sc_body_eq_skeleton]; unfold cc0__sc_body_skel
  rw [k0_part52_eq_skeleton]; unfold k0_part52_skel
  rw [(K (F := F)).scopedBufs_V hF d (cV L) (jV L), SparseCore.Cfg.scopedSems0_V (Val := Elt F) d (cV L) (jV L), ownSems0_V, ownBufs_V]
  iintro ⟨#Hlv, -, ⟨H0, H1, H2, H3⟩, ⟨⟨%b0, Hb0⟩, ⟨%b1, Hb1⟩, ⟨%b2, Hb2⟩, ⟨%b3, Hb3⟩, ⟨%b4, Hb4⟩, Hbufs⟩, ⟨Hs0, Hs1, Hs2, Hs3, Hsems⟩, HO⟩
  ihave Hmw := ((K (F := F)).mayWaits_none (thr := tV d L) hO) $$ Hlv
  unfold A0 A1 A2 A3
  ihave Hb0 := (Entails.of_eq (pts_s0 (F := F) d L _).symm) $$ Hb0
  ihave Hb1 := (Entails.of_eq (pts_s1 (F := F) d L _).symm) $$ Hb1
  ihave Hb2 := (Entails.of_eq (pts_s2 (F := F) d L _).symm) $$ Hb2
  sl_exec (disch := exact View.amount_pos _ _ (show 0 < _ by decide))
  have e0 : sEu.view.writes (Elt F) b0 [⟨Rect.whole S2048, tile_body.sl.dma0 L E⟩] = euW L E := fetch0 b0 _
  have e1 : sDi.view.writes (Elt F) b1 [⟨Rect.whole S2048, tile_body.sl.dma0_1 L I⟩] = diW L I := fetch1 b1 _
  have e2 : sCi.view.writes (Elt F) b2 [⟨Rect.whole S128, tile_body.sl.dma0_2 L C⟩] = ciW L C := fetch2 b2 _
  rw [e0, e1, e2]
  rw [bind_assoc]
  sl_for (inv d L E I C) $$ [Hb0 Hb1 Hb2 Hb3]
  case region =>
    intro k p
    unfold inv
    iintro ⟨%hp, %f, H⟩
    have hd : ∀ j, (diW L I j).toNat < 50 := fun j => hI ((slDi L).view.emb j)
    have key := trip_runs d L (euW L E) (diW L I) (ciW L C) hd k f p
    unfold tile_body.sl.prog.body_1
    rw [show tile_body.sl.v5 = lanes from rfl]
    have key' := key fun p => iprop(⌜p = cnt (euW L E) (diW L I) (ciW L C) (k.val + 1)⌝ ∗ ∃ f, held d L (euW L E) (diW L I) (ciW L C) f)
    iapply key'
    isplitl [H]; · iexact H
    iintro H
    isplitr; · ipureintro; rw [hp]; rfl
    iexists _; iexact H
  · unfold inv
    isplitr; · ipureintro; rfl
    iexists b3
    unfold held
    isplitl [Hb3]; · iexact Hb3
    isplitl [Hb0]; · iapply (Entails.of_eq (pts_s0 (F := F) d L _)); iexact Hb0
    isplitl [Hb1]; · iapply (Entails.of_eq (pts_s1 (F := F) d L _)); iexact Hb1
    iapply (Entails.of_eq (pts_s2 (F := F) d L _)); iexact Hb2
  iintro %p HI
  unfold inv held
  icases HI with ⟨%hp, %f3, Hb3, Hb0, Hb1, Hb2⟩
  ihave Hb4 := (Entails.of_eq (pts_s4 (F := F) d L _).symm) $$ Hb4
  sl_exec (disch := exact View.amount_pos _ _ (show 0 < _ by decide))
  have hw : tile_body.sl.dma4 d L b4 p = fun y => blk (cnt (euW L E) (diW L I) (ciW L C) 8) (y 0) (y 1) := by
    rw [hp]; exact (read_out b4 _ :)
  ihave H3 := (Entails.of_eq (out_pts (F := F) d L E I C f₀ _ hw)) $$ H3
  sl_step
  isplitl [H0 H1 H2 H3]
  · isplitl [H0]; · iexact H0
    isplitl [H1]; · iexact H1
    isplitl [H2]; · iexact H2
    iexact H3
  isplitl [Hb0 Hb1 Hb2 Hb3 Hb4 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iapply (Entails.of_eq (pts_s4 (F := F) d L _)); iexact Hb4
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  rotate_left
  · iexact HO
  · ipureintro
    intro q hq
    simp only [Finset.mem_insert] at hq
    rcases hq with rfl | rfl | rfl | rfl | hq
    · exact .inr rfl
    · exact .inr rfl
    · exact .inr rfl
    · exact .inr rfl
    · exact .inl hq

end Cert.Proof.KI
-- ==== Proof.Launch.lean ====
/-
  The whole program's run: the host operations, the call dealt over the tiles, the host operations after it.
-/
module

public import proofs.«01_k».proof.Proof.Tile
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

public import Idealize.ShloMosaic.Lib.Pipeline.Frame

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after seq seqK tcRefs)
open Idealize.ShloMosaic.Tactic

variable {F : FTy → Type}

local notation "𝕄" => MT nD τ sig (HIx 1) (Elt F) ℕ UU ℕ

variable [FloatOps F]

/-! ## The arrays, dealt over the tiles -/

omit [FloatOps F] in
/-- An array is the tiles' parts of it, for parts told apart by the tile's number `2·s + c`. -/
theorem pts_deal {ℓ : Loc nD τ sig} (S : grid0.Coords → Finset (Idx ℓ)) (pos : Idx ℓ → ℕ) (hp : ∀ i, pos i < 32)
    (hS : ∀ L i, i ∈ S L ↔ pos i = 2 * (L 1).val + (L 0).val) (f : Buf (Elt F) ℓ) :
    (bigSep (Finset.univ : Finset (Fin (grid0.bound 0))) fun c => bigSep (Finset.univ : Finset (Fin (grid0.bound 1))) fun s => (ℓ ↦[S (coordsV c s)]{fullShare} f : sProp 𝕄))
      = (ℓ ↦{fullShare} f) := by
  have hv : ∀ (c : Fin (grid0.bound 0)) (s : Fin (grid0.bound 1)) i, i ∈ S (coordsV c s) ↔ pos i = 2 * s.val + c.val := fun c s i => hS (coordsV c s) i
  rw [bigSep_congr fun c _ => (pointsTo_biUnion (ℓ := ℓ) (q := fullShare) (f := f) Finset.univ (fun s : Fin (grid0.bound 1) => S (coordsV c s)) (fun s _ s' _ hne => by
      refine Finset.disjoint_left.mpr fun i h1 h2 => hne (Fin.ext ?_)
      have e1 := (hv c s i).mp h1
      have e2 := (hv c s' i).mp h2
      omega)).symm,
    ← pointsTo_biUnion (ℓ := ℓ) Finset.univ (fun c : Fin (grid0.bound 0) => Finset.univ.biUnion fun s : Fin (grid0.bound 1) => S (coordsV c s)) (fun c _ c' _ hne => by
      refine Finset.disjoint_left.mpr fun i h1 h2 => hne (Fin.ext ?_)
      obtain ⟨s, -, h1⟩ := Finset.mem_biUnion.mp h1
      obtain ⟨s', -, h2⟩ := Finset.mem_biUnion.mp h2
      have e1 := (hv c s i).mp h1
      have e2 := (hv c' s' i).mp h2
      have hc : c.val < 2 := c.isLt
      have hc' : c'.val < 2 := c'.isLt
      omega)]
  congr 1
  refine Finset.eq_univ_iff_forall.mpr fun i => ?_
  have h := hp i
  refine Finset.mem_biUnion.mpr ⟨⟨pos i % 2, (by omega : pos i % 2 < 2)⟩, Finset.mem_univ _, Finset.mem_biUnion.mpr ⟨⟨pos i / 2, (by omega : pos i / 2 < 16)⟩, Finset.mem_univ _, ?_⟩⟩
  refine (hv _ _ i).mpr ?_
  show pos i = 2 * (pos i / 2) + pos i % 2
  omega

omit [FloatOps F] in
theorem deal0 (d : Dev nD) (f : Vec F S65536 .f32) :
    (bigSep (Finset.univ : Finset (Fin (grid0.bound 0))) fun c => bigSep (Finset.univ : Finset (Fin (grid0.bound 1))) fun s => (A0 d (coordsV c s) f : sProp 𝕄))
      = (lEu d ↦{fullShare} f) :=
  pts_deal (ℓ := lEu d) (fun L => (slEu L).view.set) (fun i => (i 0).val / 2048)
    (fun i => by have : (i 0).val < 65536 := (i 0).isLt; show (i 0).val / 2048 < 32; omega)
    (fun L i => by
      show i ∈ ((View.whole (main_v4_scv : Ref sig .scVector)).slice (Rect.unit (s := S65536) (k0_off1 L) S2048.size (k0_off1_inb L))).set ↔ _
      rw [View.set_slice_whole, Rect.mem_set_unit, k0_off1_eq]
      constructor
      · intro h
        obtain ⟨h1, h2⟩ := h 0
        change 4096 * (L 1).val + 2048 * (L 0).val ≤ (i 0).val at h1
        change (i 0).val < 4096 * (L 1).val + 2048 * (L 0).val + 2048 at h2
        show (i 0).val / 2048 = _
        omega
      · intro h a
        change (i 0).val / 2048 = _ at h
        match a with
        | 0 =>
          show 4096 * (L 1).val + 2048 * (L 0).val ≤ (i 0).val ∧ (i 0).val < 4096 * (L 1).val + 2048 * (L 0).val + 2048
          omega) f

omit [FloatOps F] in
theorem deal1 (d : Dev nD) (f : Vec F S65536 .i32) :
    (bigSep (Finset.univ : Finset (Fin (grid0.bound 0))) fun c => bigSep (Finset.univ : Finset (Fin (grid0.bound 1))) fun s => (A1 d (coordsV c s) f : sProp 𝕄))
      = (lDi d ↦{fullShare} f) :=
  pts_deal (ℓ := lDi d) (fun L => (slDi L).view.set) (fun i => (i 0).val / 2048)
    (fun i => by have : (i 0).val < 65536 := (i 0).isLt; show (i 0).val / 2048 < 32; omega)
    (fun L i => by
      show i ∈ ((View.whole (main_v5_scv : Ref sig .scVector)).slice (Rect.unit (s := S65536) (k0_off1 L) S2048.size (k0_off1_inb L))).set ↔ _
      rw [View.set_slice_whole, Rect.mem_set_unit, k0_off1_eq]
      constructor
      · intro h
        obtain ⟨h1, h2⟩ := h 0
        change 4096 * (L 1).val + 2048 * (L 0).val ≤ (i 0).val at h1
        change (i 0).val < 4096 * (L 1).val + 2048 * (L 0).val + 2048 at h2
        show (i 0).val / 2048 = _
        omega
      · intro h a
        change (i 0).val / 2048 = _ at h
        match a with
        | 0 =>
          show 4096 * (L 1).val + 2048 * (L 0).val ≤ (i 0).val ∧ (i 0).val < 4096 * (L 1).val + 2048 * (L 0).val + 2048
          omega) f

omit [FloatOps F] in
theorem deal2 (d : Dev nD) (f : Vec F S4096 .i32) :
    (bigSep (Finset.univ : Finset (Fin (grid0.bound 0))) fun c => bigSep (Finset.univ : Finset (Fin (grid0.bound 1))) fun s => (A2 d (coordsV c s) f : sProp 𝕄))
      = (lCi d ↦{fullShare} f) :=
  pts_deal (ℓ := lCi d) (fun L => (slCi L).view.set) (fun i => (i 0).val / 128)
    (fun i => by have : (i 0).val < 4096 := (i 0).isLt; show (i 0).val / 128 < 32; omega)
    (fun L i => by
      show i ∈ ((View.whole (main_v7_scv : Ref sig .scVector)).slice (Rect.unit (s := S4096) (k0_off2 L) S128.size (k0_off2_inb L))).set ↔ _
      rw [View.set_slice_whole, Rect.mem_set_unit, k0_off2_eq]
      constructor
      · intro h
        obtain ⟨h1, h2⟩ := h 0
        change 256 * (L 1).val + 128 * (L 0).val ≤ (i 0).val at h1
        change (i 0).val < 256 * (L 1).val + 128 * (L 0).val + 128 at h2
        show (i 0).val / 128 = _
        omega
      · intro h a
        change (i 0).val / 128 = _ at h
        match a with
        | 0 =>
          show 256 * (L 1).val + 128 * (L 0).val ≤ (i 0).val ∧ (i 0).val < 256 * (L 1).val + 128 * (L 0).val + 128
          omega) f

omit [FloatOps F] in
theorem deal3 (d : Dev nD) (f : Vec F S32x2x16 .f32) :
    (bigSep (Finset.univ : Finset (Fin (grid0.bound 0))) fun c => bigSep (Finset.univ : Finset (Fin (grid0.bound 1))) fun s => (A3 d (coordsV c s) f : sProp 𝕄))
      = (lOu d ↦{fullShare} f) :=
  pts_deal (ℓ := lOu d) (fun L => (slOu L).view.set) (fun i => (i 0).val)
    (fun i => (i 0).isLt)
    (fun L i => by
      show i ∈ (slOu L).view.set ↔ _
      rw [show (slOu L).view.set = ((View.whole (main_v8_scv : Ref sig .scVector)).slice (Rect.unit (s := S32x2x16) (k0_off3 L) S1x2x16.size (k0_off3_inb L))).set
          from View.set_reshape _ _, View.set_slice_whole, Rect.mem_set_unit, k0_off3_eq]
      have hi1 : (i 1).val < 2 := (i 1).isLt
      have hi2 : (i 2).val < 16 := (i 2).isLt
      constructor
      · intro h
        obtain ⟨h1, h2⟩ := h 0
        change 2 * (L 1).val + (L 0).val ≤ (i 0).val at h1
        change (i 0).val < 2 * (L 1).val + (L 0).val + 1 at h2
        omega
      · intro h a
        match a with
        | 0 =>
          show 2 * (L 1).val + (L 0).val ≤ (i 0).val ∧ (i 0).val < 2 * (L 1).val + (L 0).val + 1
          omega
        | 1 => exact ⟨Nat.zero_le _, by show (i 1).val < 0 + 2; omega⟩
        | 2 => exact ⟨Nat.zero_le _, by show (i 2).val < 0 + 16; omega⟩) f

/-! ## The host program around the call -/

def opsA : List (HloOp τ sig (Elt F)) :=
  [StableHlo.unary main_arg3 main_v0 ((extractStridedSlice S40960x1 ![0, 1] · slices_S40960x2_S40960x1_0_1) : (⟨S40960x2, .i32⟩ : BufTy).Contents (Elt F) → (⟨S40960x1, .i32⟩ : BufTy).Contents (Elt F)),
   StableHlo.reshape main_v0 main_v1 (rfl : (.i32 : EltTy) = .i32) shapeCasts_S40960x1_S40960,
   StableHlo.reshape main_v1 main_v2 (rfl : (.i32 : EltTy) = .i32) shapeCasts_S40960_S4096x10,
   StableHlo.nullary main_c (constantI S_ 32 49#32),
   StableHlo.TRef.unary (.of main_c : StableHlo.TRef sig ⟨S_, .i32⟩) main_call0.v0 id,
   StableHlo.TRef.binary (.of main_v2 : StableHlo.TRef sig ⟨S4096x10, .i32⟩) main_call0.v0 main_call0.v1 (fun x v => pad S4096x16 ![0, 0] ![0, 6] ![0, 0] x v pads_S4096x10_S4096x16_000_060 h_S_),
   StableHlo.reshape main_arg0 main_v4 (rfl : (.f32 : EltTy) = .f32) shapeCasts_S4096x16_S65536,
   StableHlo.reshape main_v3 main_v5 (rfl : (.i32 : EltTy) = .i32) shapeCasts_S4096x16_S65536,
   StableHlo.unary main_arg2 main_v6 ((extractStridedSlice S4096x1 ![0, 1] · slices_S4096x2_S4096x1_0_1) : (⟨S4096x2, .i32⟩ : BufTy).Contents (Elt F) → (⟨S4096x1, .i32⟩ : BufTy).Contents (Elt F)),
   StableHlo.reshape main_v6 main_v7 (rfl : (.i32 : EltTy) = .i32) shapeCasts_S4096x1_S4096]
def opsB : List (HloOp τ sig (Elt F)) :=
  [StableHlo.unary main_v8 main_v9 ((extractStridedSlice S32x1x16 ![0, 0, 0] · slices_S32x2x16_S32x1x16_0_0_0) : (⟨S32x2x16, .f32⟩ : BufTy).Contents (Elt F) → (⟨S32x1x16, .f32⟩ : BufTy).Contents (Elt F)),
   StableHlo.reshape main_v9 main_v10 (rfl : (.f32 : EltTy) = .f32) shapeCasts_S32x1x16_S32x16,
   StableHlo.nullary main_cst (constant S_ .f32 0x00000000#32),
   StableHlo.binary main_v10 main_cst main_v11 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.unary main_v8 main_v12 ((extractStridedSlice S32x1x16 ![0, 1, 0] · slices_S32x2x16_S32x1x16_0_1_0) : (⟨S32x2x16, .f32⟩ : BufTy).Contents (Elt F) → (⟨S32x1x16, .f32⟩ : BufTy).Contents (Elt F)),
   StableHlo.reshape main_v12 main_v13 (rfl : (.f32 : EltTy) = .f32) shapeCasts_S32x1x16_S32x16,
   StableHlo.nullary main_cst_0 (constant S_ .f32 0x00000000#32),
   StableHlo.binary main_v13 main_cst_0 main_v14 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))]

theorem main_eq (d : Dev nD) :
    main (F := F) d = seqK opsA ((K (F := F)).run d 0 >>= fun _ => seqK opsB (pure ⟨⟩)) := rfl

variable (m : (ℓ : Loc nD τ sig) → Buf (Elt F) ℓ) (ρ : Dev nD → PrngReg)

abbrev v4' : DevRef τ sig := Proc.devRef .tc (main_v4 : Ref sig .tc)
abbrev v5' : DevRef τ sig := Proc.devRef .tc (main_v5 : Ref sig .tc)
abbrev v7' : DevRef τ sig := Proc.devRef .tc (main_v7 : Ref sig .tc)
abbrev v8' : DevRef τ sig := Proc.devRef .tc (main_v8 : Ref sig .tc)

/-- What the buffers hold at the call; after it; at the end. -/
def VA (d : Dev nD) : Valuation τ sig (Elt F) := after opsA (fun b => m (d, b))
def cE (d : Dev nD) : Vec F S65536 .f32 := VA m d v4'
def cI (d : Dev nD) : Vec F S65536 .i32 := VA m d v5'
def cC (d : Dev nD) : Vec F S4096 .i32 := VA m d v7'
def cO (d : Dev nD) : Vec F S32x2x16 .f32 := VA m d v8'
def VB (d : Dev nD) : Valuation τ sig (Elt F) := Function.update (VA m d) v8' (outB (cE m d) (cI m d) (cC m d))
def VC (d : Dev nD) : Valuation τ sig (Elt F) := after opsB (VB m d)

omit [FloatOps F] in
theorem nCore_zero : (K (F := F)).nCore 0 = grid0.bound 0 := rfl
omit [FloatOps F] in
theorem nSub_zero : (K (F := F)).nSub 0 = grid0.bound 1 := rfl

/-! ## What the handshakes carry -/

/-- What tile `L` takes, and what it brings back. -/
def goT (d : Dev nD) (L : grid0.Coords) : sProp 𝕄 := iprop(A0 d L (cE m d) ∗ A1 d L (cI m d) ∗ A2 d L (cC m d) ∗ A3 d L (cO m d))
def tdT (d : Dev nD) (L : grid0.Coords) : sProp 𝕄 :=
  iprop(A0 d L (cE m d) ∗ A1 d L (cI m d) ∗ A2 d L (cC m d) ∗ A3 d L (outB (cE m d) (cI m d) (cC m d)))

instance goT_storable (d : Dev nD) (L : grid0.Coords) : BI.Storable (upEmb : UEmb _ 𝕄) (goT m d L) := by
  unfold goT; infer_instance
instance tdT_storable (d : Dev nD) (L : grid0.Coords) : BI.Storable (upEmb : UEmb _ 𝕄) (tdT m d L) := by
  unfold tdT; infer_instance

abbrev EH : Emb UH 𝕄 := embL

def P : (K (F := F)).Pay (nD := nD) (Val := Elt F) (Name := ℕ) (U := UU) where
  st := fun q d c => match q with
    | 0 => bigSep Finset.univ fun s : Fin (grid0.bound 1) => goT m d (coordsV (Fin.cast nCore_zero c) s)
  dn := fun q d c => match q with
    | 0 => bigSep Finset.univ fun s : Fin (grid0.bound 1) => tdT m d (coordsV (Fin.cast nCore_zero c) s)
  go := fun q d c s => match q with | 0 => goT m d (coordsV (Fin.cast nCore_zero c) (Fin.cast nSub_zero s))
  td := fun q d c s => match q with | 0 => tdT m d (coordsV (Fin.cast nCore_zero c) (Fin.cast nSub_zero s))
  x := fun _ _ => iprop(emp)

instance P_storable : (P (F := F) m).IsStorable where
  st q d c := match q with
    | 0 => (inferInstance : BI.Storable (upEmb : UEmb _ 𝕄) (bigSep Finset.univ fun s : Fin (grid0.bound 1) => goT m d (coordsV (Fin.cast nCore_zero c) s)))
  dn q d c := match q with
    | 0 => (inferInstance : BI.Storable (upEmb : UEmb _ 𝕄) (bigSep Finset.univ fun s : Fin (grid0.bound 1) => tdT m d (coordsV (Fin.cast nCore_zero c) s)))
  go q d c s := match q with
    | 0 => (inferInstance : BI.Storable (upEmb : UEmb _ 𝕄) (goT m d (coordsV (Fin.cast nCore_zero c) (Fin.cast nSub_zero s))))
  td q d c s := match q with
    | 0 => (inferInstance : BI.Storable (upEmb : UEmb _ 𝕄) (tdT m d (coordsV (Fin.cast nCore_zero c) (Fin.cast nSub_zero s))))

/-! ## The launch theorem's obligations -/

theorem defs₀_vector (c : Fin τ.nSC) (s : Fin τ.nSub) :
    defs₀ (F := F) (.scVector c s) 0 ()
      = SparseCore.onTile hcore0 hsub0 (fun c s => cc0__sc_body (coordsV c s) hEu (Memref.isWhole_whole _) hDi (Memref.isWhole_whole _) hCi (Memref.isWhole_whole _) hOu (Memref.isWhole_whole _)
            sEu (Memref.isWhole_whole _) sDi (Memref.isWhole_whole _) sCi (Memref.isWhole_whole _) sDn (Memref.isWhole_whole _) sOu (Memref.isWhole_whole _)
            cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every item the call is given is a column of a tile's table. -/
def Ok : Prop := ∀ d j, ((cI m d) j).toNat < 50

set_option maxRecDepth 1024 in
theorem tileObl (hF : (K (F := F)).Facts) (hok : Ok m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (cE m d) (cI m d) (cC m d) hF (hok d) O W hO (cO m d)).trans (wp_mono frame _ _ fun _ => obl_post)

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin (grid0.bound 1) => goT m d (coordsV (Fin.cast nCore_zero c) s)) ⊢ |={Set.univ}=> iprop(
      (bigSep Finset.univ fun i : Fin ((K (F := F)).nSub 0) => goT m d (coordsV (Fin.cast nCore_zero c) (Fin.cast nSub_zero i)))
      ∗ ((bigSep Finset.univ fun i : Fin ((K (F := F)).nSub 0) => tdT m d (coordsV (Fin.cast nCore_zero c) (Fin.cast nSub_zero i)))
          -∗ bigSep Finset.univ fun s : Fin (grid0.bound 1) => tdT m d (coordsV (Fin.cast nCore_zero c) s)))
  rw [bigSep_tasks (F := F) (fun s => goT m d (coordsV (Fin.cast nCore_zero c) s)),
    bigSep_tasks (F := F) (fun s => tdT m d (coordsV (Fin.cast nCore_zero c) s))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

/-- The four arrays the call is handed. -/
abbrev T4 : Finset (DevRef τ sig) := {v4', v5', v7', v8'}

omit [FloatOps F] in
theorem held_T4 (d : Dev nD) (W : Valuation τ sig (Elt F)) :
    (StableHlo.held (SparseCore.T d) T4 W : sProp 𝕄)
      = iprop((lEu d ↦{fullShare} W v4') ∗ (lDi d ↦{fullShare} W v5') ∗ (lCi d ↦{fullShare} W v7') ∗ lOu d ↦{fullShare} W v8') := by
  unfold StableHlo.held T4
  rw [SparseCore.bigSep_insert' (by decide), SparseCore.bigSep_insert' (by decide), SparseCore.bigSep_insert' (by decide), bigSep_singleton]

omit [FloatOps F] in
theorem T4_sub : T4 ⊆ tcRefs τ sig := by
  intro b hb
  simp only [Finset.mem_insert, Finset.mem_singleton] at hb
  rcases hb with rfl | rfl | rfl | rfl <;> exact StableHlo.devRef_mem_tcRefs _

omit [FloatOps F] in
theorem ucRefs_eq : Pipeline.ucRefs τ sig = tcRefs τ sig := by
  refine Finset.filter_true_of_mem fun b hb => ?_
  obtain ⟨r, -, rfl⟩ := Finset.mem_map.mp hb
  revert r
  decide

omit [FloatOps F] in
theorem unscoped_held (d : Dev nD) : (unscopedBufs d (fun b => m ((SparseCore.T d).loc b)) : sProp 𝕄) = StableHlo.held (SparseCore.T d) (tcRefs τ sig) (fun b => m (d, b)) := by
  rw [← ucRefs_eq]
  exact Pipeline.unscopedBufs_held d (fun b => m (d, b))

theorem st0_eq (d : Dev nD) :
    (bigSep Finset.univ fun c : Fin ((K (F := F)).nCore 0) => (P m).st 0 d c)
      = iprop((lEu d ↦{fullShare} cE m d) ∗ (lDi d ↦{fullShare} cI m d) ∗ (lCi d ↦{fullShare} cC m d) ∗ lOu d ↦{fullShare} cO m d) := by
  show (bigSep (Finset.univ : Finset (Fin (grid0.bound 0))) fun c => bigSep (Finset.univ : Finset (Fin (grid0.bound 1))) fun s => goT m d (coordsV c s)) = _
  simp only [goT, bigSep_sep']
  rw [deal0, deal1, deal2, deal3]

theorem dn0_eq (d : Dev nD) :
    (bigSep Finset.univ fun c : Fin ((K (F := F)).nCore 0) => (P m).dn 0 d c)
      = iprop((lEu d ↦{fullShare} cE m d) ∗ (lDi d ↦{fullShare} cI m d) ∗ (lCi d ↦{fullShare} cC m d)
          ∗ lOu d ↦{fullShare} outB (cE m d) (cI m d) (cC m d)) := by
  show (bigSep (Finset.univ : Finset (Fin (grid0.bound 0))) fun c => bigSep (Finset.univ : Finset (Fin (grid0.bound 1))) fun s => tdT m d (coordsV c s)) = _
  simp only [tdT, bigSep_sep']
  rw [deal0, deal1, deal2, deal3]

theorem VB_ne (d : Dev nD) {b : DevRef τ sig} (h : b ≠ v8') : VB m d b = VA m d b := Function.update_of_ne h _ _
theorem VB_v8 (d : Dev nD) : VB m d v8' = outB (cE m d) (cI m d) (cC m d) := Function.update_self _ _ _

/-- The buffers after the call: the four arrays as the tiles leave them, the rest untouched. -/
theorem held_VB (d : Dev nD) :
    (StableHlo.held (SparseCore.T d) (tcRefs τ sig) (VB m d) : sProp 𝕄)
      = iprop(((lEu d ↦{fullShare} cE m d) ∗ (lDi d ↦{fullShare} cI m d) ∗ (lCi d ↦{fullShare} cC m d)
          ∗ lOu d ↦{fullShare} outB (cE m d) (cI m d) (cC m d)) ∗ StableHlo.held (SparseCore.T d) (tcRefs τ sig \ T4) (VA m d)) := by
  rw [StableHlo.held_sub_split (SparseCore.T d) T4_sub (VB m d), held_T4, VB_v8, VB_ne m d (show v4' ≠ v8' by decide),
    VB_ne m d (show v5' ≠ v8' by decide), VB_ne m d (show v7' ≠ v8' by decide),
    StableHlo.held_congr (SparseCore.T d) (V := VB m d) (V' := VA m d) fun b hb => VB_ne m d fun e =>
      (Finset.mem_sdiff.mp hb).2 (e ▸ (by decide : v8' ∈ T4))]
  rfl

theorem opsA_sub : ∀ op ∈ opsA (F := F), op.bufs ⊆ tcRefs τ sig := by
  refine List.forall_iff_forall_mem.mp ?_
  simp [opsA, List.Forall]
theorem opsB_sub : ∀ op ∈ opsB (F := F), op.bufs ⊆ tcRefs τ sig := by
  refine List.forall_iff_forall_mem.mp ?_
  simp [opsB, List.Forall]
theorem opsA_fresh : ∀ op ∈ opsA (F := F), op.fresh = ∅ :=
  List.forall_iff_forall_mem.mp (StableHlo.forall_fresh_of_map rfl)
theorem opsB_fresh : ∀ op ∈ opsB (F := F), op.fresh = ∅ :=
  List.forall_iff_forall_mem.mp (StableHlo.forall_fresh_of_map rfl)

abbrev FIN (d : Dev nD) : sProp 𝕄 := StableHlo.held (SparseCore.T d) (tcRefs τ sig) (VC m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq, ← StableHlo.seq_bind_seqK]
  iintro ⟨#Hctx, Hst, ⟨Hb, Hheld, Hts, -⟩, -⟩
  iapply (StableHlo.wp_seq 𝒱 none Set.univ d (tcRefs τ sig) _ opsA opsA_sub opsA_fresh (fun b => m (d, b))) $$ [Hb Hheld]
  · isplitl [Hb] <;> iassumption
  iintro ⟨Hb, Hheld⟩
  ihave Hh := (Entails.of_eq (show (StableHlo.held (d.tc : Thread nD τ) (tcRefs τ sig) (after opsA fun b => m (d, b)) : sProp 𝕄) = _
    from StableHlo.held_sub_split (SparseCore.T d) T4_sub (VA m d))) $$ Hheld
  icases Hh with ⟨H4, Hrest⟩
  ihave H4' := (Entails.of_eq (held_T4 d (VA m d))) $$ H4
  rw [wp_bind]
  iapply ((K (F := F)).wp_run (D (F := F)) 𝒱 (EH := EH) (P := P m) κ d 0) $$ [Hst H4' Hb Hrest Hts]
  isplitr; · iexact Hctx
  isplitl [Hst]; · iexact Hst
  isplitl [H4']
  · rw [st0_eq]; iexact H4'
  iintro ⟨Hst, Hdn⟩
  ihave Hdn' := (Entails.of_eq (dn0_eq m d)) $$ Hdn
  ihave Hall := (Entails.of_eq (held_VB m d).symm) $$ [Hdn' Hrest]
  · isplitl [Hdn'] <;> iassumption
  rw [← StableHlo.seq_bind_seqK]
  iapply (StableHlo.wp_seq 𝒱 none Set.univ d (tcRefs τ sig) _ opsB opsB_sub opsB_fresh (VB m d)) $$ [Hb Hall]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ tcRefs τ sig, s'.mem.mem (d, b) = VC m d b

theorem hfin (d : Dev nD) (s' : Phys nD τ sig (Elt F)) : iprop(FIN m d ∗ SI s') ⊢ (⌜fq m d s'⌝ : sProp 𝕄) := by
  iintro ⟨H, HSI⟩
  ihave H' := (Entails.of_eq (show FIN m d = bigSep (tcRefs τ sig) (fun b => ((d, b) ↦{fullShare} VC m d b : sProp 𝕄)) from rfl)) $$ H
  iapply (SI_pointsTo_bufs_agree (st := s') (c := d) (qs := fun _ => fullShare) (F := VC m d) (tcRefs τ sig))
  isplitl [HSI]; · iexact HSI
  iexact H'

/-- The run of the whole program: every TensorCore buffer ends at what the two lines of host operations and the tiles leave. -/
theorem run_main [∀ e, Nonempty (Elt F e)] (hok : Ok m) :
    θ_run (defs (F := F)) (threads (F := F)) ⟨m, fun _ => 0, ρ⟩
      (fun r => (∀ d, ∀ b ∈ tcRefs τ sig, r.2.mem (d, b) = VC m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hok)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.KI
-- ==== Proof.Inputs.lean ====
/-
  The run read at its ends: what the call reads of the argument arrays, and what the results are of its output.
-/
module

public import proofs.«01_k».proof.Proof.Launch
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

public import Idealize.ShloMosaic.Lib.Pipeline.Frame
public import Idealize.ShloMosaic.Lib.Pointwise

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after seq seqK tcRefs)
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The argument arrays, and what the call reads of them -/

abbrev a0 (d : Dev nD) : Vec F S4096x16 .f32 := m ((SparseCore.T d).loc main_arg0)
abbrev a1 (d : Dev nD) : Vec F S4096 .f32 := m ((SparseCore.T d).loc main_arg1)
abbrev a2 (d : Dev nD) : Vec F S4096x2 .i32 := m ((SparseCore.T d).loc main_arg2)
abbrev a3 (d : Dev nD) : Vec F S40960x2 .i32 := m ((SparseCore.T d).loc main_arg3)

theorem cE_eq (d : Dev nD) : cE m d = shapeCast S65536 (a0 m d) shapeCasts_S4096x16_S65536 := by
  unfold cE VA opsA
  after_results
  rfl

theorem cI_eq (d : Dev nD) : cI m d = shapeCast S65536 (pad S4096x16 ![0, 0] ![0, 6] ![0, 0]
    (shapeCast S4096x10 (shapeCast S40960 (extractStridedSlice S40960x1 ![0, 1] (a3 m d) slices_S40960x2_S40960x1_0_1) shapeCasts_S40960x1_S40960)
      shapeCasts_S40960_S4096x10) (constantI S_ 32 49#32) pads_S4096x10_S4096x16_000_060 h_S_) shapeCasts_S4096x16_S65536 := by
  unfold cI VA opsA
  after_results
  rfl

theorem cC_eq (d : Dev nD) :
    cC m d = shapeCast S4096 (extractStridedSlice S4096x1 ![0, 1] (a2 m d) slices_S4096x2_S4096x1_0_1) shapeCasts_S4096x1_S4096 := by
  unfold cC VA opsA
  after_results
  rfl

theorem v11_eq (d : Dev nD) : VC m d (Proc.devRef .tc (main_v11 : Ref sig .tc))
    = Host.reduceAdd (shapeCast S32x16 (extractStridedSlice S32x1x16 ![0, 0, 0] (outB (cE m d) (cI m d) (cC m d)) slices_S32x2x16_S32x1x16_0_0_0)
        shapeCasts_S32x1x16_S32x16) (constant S_ .f32 0x00000000#32) reducesTo_S32x16_S_d0_1 h_S_ := by
  rw [← VB_v8 m d]
  unfold VC opsB
  after_results
  rfl

theorem v14_eq (d : Dev nD) : VC m d (Proc.devRef .tc (main_v14 : Ref sig .tc))
    = Host.reduceAdd (shapeCast S32x16 (extractStridedSlice S32x1x16 ![0, 1, 0] (outB (cE m d) (cI m d) (cC m d)) slices_S32x2x16_S32x1x16_0_1_0)
        shapeCasts_S32x1x16_S32x16) (constant S_ .f32 0x00000000#32) reducesTo_S32x16_S_d0_1 h_S_ := by
  rw [← VB_v8 m d]
  unfold VC opsB
  after_results
  rfl

/-- The references the two lines of host operations write. -/
def wA : List (Ref sig .tc) := [main_v0, main_v1, main_v2, main_c, main_call0_v0, main_v3, main_v4, main_v5, main_v6, main_v7]
def wB : List (Ref sig .tc) := [main_v9, main_v10, main_cst, main_v11, main_v12, main_v13, main_cst_0, main_v14]

/-- A buffer nothing writes ends as it began. -/
theorem VC_arg (d : Dev nD) (r : Ref sig .tc) (hA : r ∉ wA) (hB : r ∉ wB) (h8 : Proc.devRef (τ := τ) .tc r ≠ v8') :
    VC m d (Proc.devRef .tc r) = m ((SparseCore.T d).loc r) := by
  unfold VC
  rw [StableHlo.after_of_writes_sub opsB _ (StableHlo.forall_writes_sub_of_map (W := wB) rfl) hB, VB_ne m d h8]
  unfold VA
  rw [StableHlo.after_of_writes_sub opsA _ (StableHlo.forall_writes_sub_of_map (W := wA) rfl) hA]

/-- The run's end at the arguments, the two results, and the semaphores. -/
theorem run_args [∀ e, Nonempty (Elt F e)] (hok : Ok m) :
    θ_run (defs (F := F)) (threads (F := F)) ⟨m, fun _ => 0, ρ⟩ (fun r =>
      (∀ d : Dev nD, r.2.mem ((SparseCore.T d).loc main_v11) = VC m d (Proc.devRef .tc (main_v11 : Ref sig .tc))
        ∧ r.2.mem ((SparseCore.T d).loc main_v14) = VC m d (Proc.devRef .tc (main_v14 : Ref sig .tc))
        ∧ r.2.mem ((SparseCore.T d).loc main_arg0) = m ((SparseCore.T d).loc main_arg0)
        ∧ r.2.mem ((SparseCore.T d).loc main_arg1) = m ((SparseCore.T d).loc main_arg1)
        ∧ r.2.mem ((SparseCore.T d).loc main_arg2) = m ((SparseCore.T d).loc main_arg2)
        ∧ r.2.mem ((SparseCore.T d).loc main_arg3) = m ((SparseCore.T d).loc main_arg3)) ∧ r.2.sem = fun _ => 0) := by
  refine (θ_run (defs (F := F)) _ _).mono (fun r h => ⟨fun d => ?_, h.2⟩) (run_main m ρ hok)
  have hr := fun r' : Ref sig .tc => h.1 d _ (StableHlo.devRef_mem_tcRefs r')
  exact ⟨hr main_v11, hr main_v14, (hr main_arg0).trans (VC_arg m d _ (by decide) (by decide) (by decide)),
    (hr main_arg1).trans (VC_arg m d _ (by decide) (by decide) (by decide)),
    (hr main_arg2).trans (VC_arg m d _ (by decide) (by decide) (by decide)),
    (hr main_arg3).trans (VC_arg m d _ (by decide) (by decide) (by decide))⟩

/-! ## Read at an index -/

/-- Place `k` of section `s` in a flat array of 16 places per section. -/
abbrev at16 (s : Fin 4096) (k : Fin 16) : S65536.Idx := ix1 ⟨s.val * 16 + k.val, by omega⟩

theorem cE_at (d : Dev nD) (s : Fin 4096) (k : Fin 16) : cE m d (at16 s k) = a0 m d (ix2 s k) := by
  rw [cE_eq]
  have hs := s.isLt
  have hk := k.isLt
  refine congrArg (a0 m d) (Shape.reshapeEquiv_eq_of_vals _ _ _ (s.val * 16 + k.val) (s.val * 16 + k.val) ?_ ?_ rfl)
  · exact rowMajor_val2 _ 16 rfl
  · exact rowMajor_val1 _

theorem cC_at (d : Dev nD) (s : Fin 4096) : cC m d (ix1 s) = a2 m d (ix2 s 1) := by
  rw [cC_eq]
  pointwise

theorem cI_at (d : Dev nD) (s : Fin 4096) (k : Fin 16) (hk : k.val < 10) :
    cI m d (at16 s k) = a3 m d (ix2 ⟨s.val * 10 + k.val, by omega⟩ 1) := by
  rw [cI_eq]
  pointwise
  rw [dif_pos (by omega)]
  exact congrArg (fun n => a3 m d (ix2 n 1)) (Fin.ext (by show (s.val * 16 + k.val) / 16 * 10 + (s.val * 16 + k.val) % 16 = s.val * 10 + k.val; omega))

theorem cI_pad (d : Dev nD) (s : Fin 4096) (k : Fin 16) (hk : ¬ k.val < 10) : cI m d (at16 s k) = 49#32 := by
  rw [cI_eq]
  pointwise
  rw [dif_neg (by omega)]

/-- Items below 50 in the argument are items below 50 at the call: what the padding adds is 49. -/
theorem ok_of_items (h : ∀ d n, ((a3 m d) (ix2 n 1)).toNat < 50) : Ok m := by
  intro d j
  have hj : (j 0).val < 65536 := (j 0).isLt
  have e : j = at16 ⟨(j 0).val / 16, by omega⟩ ⟨(j 0).val % 16, by omega⟩ := by
    funext a
    match a with
    | 0 => exact Fin.ext (by show (j 0).val = (j 0).val / 16 * 16 + (j 0).val % 16; omega)
  rw [e]
  by_cases hk : (j 0).val % 16 < 10
  · rw [cI_at m d _ _ hk]
    exact h d _
  · rw [cI_pad m d _ _ hk]
    decide

end Cert.Proof.KI
-- ==== Proof.RefRun.lean ====
/-
  The reference's run: a straight line of host operations, read at its two results.
-/
module

public import Idealize.ShloMosaic.Lib.StableHlo.Run
public import Idealize.ShloMosaic.Lib.Pointwise
public import proofs.«01_k».proof.Proof.Gen.ReferenceIdeal

@[expose] public section

noncomputable section

namespace Cert.Proof.Ref

open Cert.ReferenceIdeal Cert.ReferenceIdeal.Gen
open Idealize.ShloMosaic Idealize.SL.Sem
open Idealize.ShloMosaic.StableHlo (after seq tcRefs)

variable {F : FTy → Type} [FloatOps F]

/-! ## The operations, in four stretches: the clicks' table, the dispatches' table, the two argmaxes, the counts -/

def ops1 : List (HloOp τ sig (Elt F)) :=
  [StableHlo.unary main_arg0 main_v0 ((extractStridedSlice S4096x10 ![0, 0] · slices_S4096x16_S4096x10_0_0) : (⟨S4096x16, .f32⟩ : BufTy).Contents (Elt F) → (⟨S4096x10, .f32⟩ : BufTy).Contents (Elt F)),
   StableHlo.nullary main_cst (constant S_ .f32 0x00000000#32),
   StableHlo.unary main_cst main_v1 (broadcastInDim S4096x50 ![] bcast_S_S4096x50 : (⟨S_, .f32⟩ : BufTy).Contents (Elt F) → (⟨S4096x50, .f32⟩ : BufTy).Contents (Elt F)),
   StableHlo.unary main_arg2 main_v2 ((extractStridedSlice S4096x1 ![0, 0] · slices_S4096x2_S4096x1_0_0) : (⟨S4096x2, .i32⟩ : BufTy).Contents (Elt F) → (⟨S4096x1, .i32⟩ : BufTy).Contents (Elt F)),
   StableHlo.reshape main_v2 main_v3 (rfl : (.i32 : EltTy) = .i32) shapeCasts_S4096x1_S4096,
   StableHlo.unary main_arg2 main_v4 ((extractStridedSlice S4096x1 ![0, 1] · slices_S4096x2_S4096x1_0_1) : (⟨S4096x2, .i32⟩ : BufTy).Contents (Elt F) → (⟨S4096x1, .i32⟩ : BufTy).Contents (Elt F)),
   StableHlo.reshape main_v4 main_v5 (rfl : (.i32 : EltTy) = .i32) shapeCasts_S4096x1_S4096,
   StableHlo.nullary main_c (constantI S_ 32 0#32),
   StableHlo.unary main_c main_v6 (broadcastInDim S4096 ![] bcast_S_S4096 : (⟨S_, .i32⟩ : BufTy).Contents (Elt F) → (⟨S4096, .i32⟩ : BufTy).Contents (Elt F)),
   StableHlo.binary main_v3 main_v6 main_v7 (cmpi .slt : (⟨S4096, .i32⟩ : BufTy).Contents (Elt F) → (⟨S4096, .i32⟩ : BufTy).Contents (Elt F) → (⟨S4096, .i1⟩ : BufTy).Contents (Elt F)),
   StableHlo.nullary main_c_0 (constantI S_ 32 4096#32),
   StableHlo.unary main_c_0 main_v8 (broadcastInDim S4096 ![] bcast_S_S4096 : (⟨S_, .i32⟩ : BufTy).Contents (Elt F) → (⟨S4096, .i32⟩ : BufTy).Contents (Elt F)),
   StableHlo.binary main_v3 main_v8 main_v9 (addi : (⟨S4096, .i32⟩ : BufTy).Contents (Elt F) → (⟨S4096, .i32⟩ : BufTy).Contents (Elt F) → (⟨S4096, .i32⟩ : BufTy).Contents (Elt F)),
   StableHlo.ternary main_v7 main_v9 main_v3 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
   StableHlo.nullary main_c_1 (constantI S_ 32 0#32),
   StableHlo.unary main_c_1 main_v11 (broadcastInDim S4096 ![] bcast_S_S4096 : (⟨S_, .i32⟩ : BufTy).Contents (Elt F) → (⟨S4096, .i32⟩ : BufTy).Contents (Elt F)),
   StableHlo.binary main_v5 main_v11 main_v12 (cmpi .slt : (⟨S4096, .i32⟩ : BufTy).Contents (Elt F) → (⟨S4096, .i32⟩ : BufTy).Contents (Elt F) → (⟨S4096, .i1⟩ : BufTy).Contents (Elt F)),
   StableHlo.nullary main_c_2 (constantI S_ 32 50#32),
   StableHlo.unary main_c_2 main_v13 (broadcastInDim S4096 ![] bcast_S_S4096 : (⟨S_, .i32⟩ : BufTy).Contents (Elt F) → (⟨S4096, .i32⟩ : BufTy).Contents (Elt F)),
   StableHlo.binary main_v5 main_v13 main_v14 (addi : (⟨S4096, .i32⟩ : BufTy).Contents (Elt F) → (⟨S4096, .i32⟩ : BufTy).Contents (Elt F) → (⟨S4096, .i32⟩ : BufTy).Contents (Elt F)),
   StableHlo.ternary main_v12 main_v14 main_v5 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
   StableHlo.unary main_v10 main_v16 (broadcastInDim S4096x1 ![0] bcast_S4096_S4096x1_0 : (⟨S4096, .i32⟩ : BufTy).Contents (Elt F) → (⟨S4096x1, .i32⟩ : BufTy).Contents (Elt F)),
   StableHlo.unary main_v15 main_v17 (broadcastInDim S4096x1 ![0] bcast_S4096_S4096x1_0 : (⟨S4096, .i32⟩ : BufTy).Contents (Elt F) → (⟨S4096x1, .i32⟩ : BufTy).Contents (Elt F)),
   StableHlo.binary main_v16 main_v17 main_v18 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
   StableHlo.ternary main_v1 main_v18 main_arg1 main_v19 ((fun x i u => Host.scatterAdd scatter_S4096x50_S4096x2_S4096_n_01_01_1 x i u) : (⟨S4096x50, .f32⟩ : BufTy).Contents (Elt F) → (⟨S4096x2, .i32⟩ : BufTy).Contents (Elt F) → (⟨S4096, .f32⟩ : BufTy).Contents (Elt F) → (⟨S4096x50, .f32⟩ : BufTy).Contents (Elt F))]
def w1 : List (Ref sig .tc) := [main_v0, main_cst, main_v1, main_v2, main_v3, main_v4, main_v5, main_c, main_v6, main_v7, main_c_0, main_v8, main_v9, main_v10, main_c_1, main_v11, main_v12, main_c_2, main_v13, main_v14, main_v15, main_v16, main_v17, main_v18, main_v19]

def ops2 : List (HloOp τ sig (Elt F)) :=
  [StableHlo.nullary main_cst_3 (constant S_ .f32 0x00000000#32),
   StableHlo.unary main_cst_3 main_v20 (broadcastInDim S4096x50 ![] bcast_S_S4096x50 : (⟨S_, .f32⟩ : BufTy).Contents (Elt F) → (⟨S4096x50, .f32⟩ : BufTy).Contents (Elt F)),
   StableHlo.unary main_arg3 main_v21 ((extractStridedSlice S40960x1 ![0, 0] · slices_S40960x2_S40960x1_0_0) : (⟨S40960x2, .i32⟩ : BufTy).Contents (Elt F) → (⟨S40960x1, .i32⟩ : BufTy).Contents (Elt F)),
   StableHlo.reshape main_v21 main_v22 (rfl : (.i32 : EltTy) = .i32) shapeCasts_S40960x1_S40960,
   StableHlo.unary main_arg3 main_v23 ((extractStridedSlice S40960x1 ![0, 1] · slices_S40960x2_S40960x1_0_1) : (⟨S40960x2, .i32⟩ : BufTy).Contents (Elt F) → (⟨S40960x1, .i32⟩ : BufTy).Contents (Elt F)),
   StableHlo.reshape main_v23 main_v24 (rfl : (.i32 : EltTy) = .i32) shapeCasts_S40960x1_S40960,
   StableHlo.reshape main_v0 main_v25 (rfl : (.f32 : EltTy) = .f32) shapeCasts_S4096x10_S40960,
   StableHlo.nullary main_c_4 (constantI S_ 32 0#32),
   StableHlo.unary main_c_4 main_v26 (broadcastInDim S40960 ![] bcast_S_S40960 : (⟨S_, .i32⟩ : BufTy).Contents (Elt F) → (⟨S40960, .i32⟩ : BufTy).Contents (Elt F)),
   StableHlo.binary main_v22 main_v26 main_v27 (cmpi .slt : (⟨S40960, .i32⟩ : BufTy).Contents (Elt F) → (⟨S40960, .i32⟩ : BufTy).Contents (Elt F) → (⟨S40960, .i1⟩ : BufTy).Contents (Elt F)),
   StableHlo.nullary main_c_5 (constantI S_ 32 4096#32),
   StableHlo.unary main_c_5 main_v28 (broadcastInDim S40960 ![] bcast_S_S40960 : (⟨S_, .i32⟩ : BufTy).Contents (Elt F) → (⟨S40960, .i32⟩ : BufTy).Contents (Elt F)),
   StableHlo.binary main_v22 main_v28 main_v29 (addi : (⟨S40960, .i32⟩ : BufTy).Contents (Elt F) → (⟨S40960, .i32⟩ : BufTy).Contents (Elt F) → (⟨S40960, .i32⟩ : BufTy).Contents (Elt F)),
   StableHlo.ternary main_v27 main_v29 main_v22 main_v30 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
   StableHlo.nullary main_c_6 (constantI S_ 32 0#32),
   StableHlo.unary main_c_6 main_v31 (broadcastInDim S40960 ![] bcast_S_S40960 : (⟨S_, .i32⟩ : BufTy).Contents (Elt F) → (⟨S40960, .i32⟩ : BufTy).Contents (Elt F)),
   StableHlo.binary main_v24 main_v31 main_v32 (cmpi .slt : (⟨S40960, .i32⟩ : BufTy).Contents (Elt F) → (⟨S40960, .i32⟩ : BufTy).Contents (Elt F) → (⟨S40960, .i1⟩ : BufTy).Contents (Elt F)),
   StableHlo.nullary main_c_7 (constantI S_ 32 50#32),
   StableHlo.unary main_c_7 main_v33 (broadcastInDim S40960 ![] bcast_S_S40960 : (⟨S_, .i32⟩ : BufTy).Contents (Elt F) → (⟨S40960, .i32⟩ : BufTy).Contents (Elt F)),
   StableHlo.binary main_v24 main_v33 main_v34 (addi : (⟨S40960, .i32⟩ : BufTy).Contents (Elt F) → (⟨S40960, .i32⟩ : BufTy).Contents (Elt F) → (⟨S40960, .i32⟩ : BufTy).Contents (Elt F)),
   StableHlo.ternary main_v32 main_v34 main_v24 main_v35 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
   StableHlo.unary main_v30 main_v36 (broadcastInDim S40960x1 ![0] bcast_S40960_S40960x1_0 : (⟨S40960, .i32⟩ : BufTy).Contents (Elt F) → (⟨S40960x1, .i32⟩ : BufTy).Contents (Elt F)),
   StableHlo.unary main_v35 main_v37 (broadcastInDim S40960x1 ![0] bcast_S40960_S40960x1_0 : (⟨S40960, .i32⟩ : BufTy).Contents (Elt F) → (⟨S40960x1, .i32⟩ : BufTy).Contents (Elt F)),
   StableHlo.binary main_v36 main_v37 main_v38 ((fun a b => concatenate S40960x2 1 [⟨S40960x1, a⟩, ⟨S40960x1, b⟩] concatenates_S40960x1_S40960x1_S40960x2_d1) : (⟨S40960x1, .i32⟩ : BufTy).Contents (Elt F) → (⟨S40960x1, .i32⟩ : BufTy).Contents (Elt F) → (⟨S40960x2, .i32⟩ : BufTy).Contents (Elt F)),
   StableHlo.ternary main_v20 main_v38 main_v25 main_v39 ((fun x i u => Host.scatterAdd scatter_S4096x50_S40960x2_S40960_n_01_01_1 x i u) : (⟨S4096x50, .f32⟩ : BufTy).Contents (Elt F) → (⟨S40960x2, .i32⟩ : BufTy).Contents (Elt F) → (⟨S40960, .f32⟩ : BufTy).Contents (Elt F) → (⟨S4096x50, .f32⟩ : BufTy).Contents (Elt F))]
def w2 : List (Ref sig .tc) := [main_cst_3, main_v20, main_v21, main_v22, main_v23, main_v24, main_v25, main_c_4, main_v26, main_v27, main_c_5, main_v28, main_v29, main_v30, main_c_6, main_v31, main_v32, main_c_7, main_v33, main_v34, main_v35, main_v36, main_v37, main_v38, main_v39]

def ops3 : List (HloOp τ sig (Elt F)) :=
  [StableHlo.TRef.nullary main_call0.v0 (iotaInDim S4096x50 32 1),
   StableHlo.TRef.nullary main_call0.cst (constant S_ .f32 0xFF800000#32),
   StableHlo.TRef.nullary main_call0.c (constantI S_ 32 0#32),
   StableHlo.TRef.quaternary (.of main_v19 : StableHlo.TRef sig ⟨S4096x50, .f32⟩) main_call0.v0 main_call0.cst main_call0.c main_call0.v1_0 (fun x y u v j => (Host.argReduce reducer_argmax_f32_i32 x y u v reducesTo_S4096x50_S4096_d1 h_S_ j).1),
   StableHlo.TRef.quaternary (.of main_v19 : StableHlo.TRef sig ⟨S4096x50, .f32⟩) main_call0.v0 main_call0.cst main_call0.c main_call0.v1_1 (fun x y u v j => (Host.argReduce reducer_argmax_f32_i32 x y u v reducesTo_S4096x50_S4096_d1 h_S_ j).2),
   StableHlo.TRef.nullary main_call1.v0 (iotaInDim S4096x50 32 1),
   StableHlo.TRef.nullary main_call1.cst (constant S_ .f32 0xFF800000#32),
   StableHlo.TRef.nullary main_call1.c (constantI S_ 32 0#32),
   StableHlo.TRef.quaternary (.of main_v39 : StableHlo.TRef sig ⟨S4096x50, .f32⟩) main_call1.v0 main_call1.cst main_call1.c main_call1.v1_0 (fun x y u v j => (Host.argReduce reducer_argmax_f32_i32 x y u v reducesTo_S4096x50_S4096_d1 h_S_ j).1),
   StableHlo.TRef.quaternary (.of main_v39 : StableHlo.TRef sig ⟨S4096x50, .f32⟩) main_call1.v0 main_call1.cst main_call1.c main_call1.v1_1 (fun x y u v j => (Host.argReduce reducer_argmax_f32_i32 x y u v reducesTo_S4096x50_S4096_d1 h_S_ j).2)]
def w3 : List (Ref sig .tc) := [main_call0_v0, main_call0_cst, main_call0_c, main_call0_v1_0, main_v40, main_call1_v0, main_call1_cst, main_call1_c, main_call1_v1_0, main_v41]

def ops4 : List (HloOp τ sig (Elt F)) :=
  [StableHlo.unary main_v39 main_values ((fun x => (Host.topK S4096x2 1 (FloatOps.cmpfTotal .gt) x sliceFits_S4096x50_S4096x2).1) : (⟨S4096x50, .f32⟩ : BufTy).Contents (Elt F) → (⟨S4096x2, .f32⟩ : BufTy).Contents (Elt F)),
   StableHlo.unary main_v39 main_indices ((fun x => (Host.topK S4096x2 1 (FloatOps.cmpfTotal .gt) x sliceFits_S4096x50_S4096x2).2) : (⟨S4096x50, .f32⟩ : BufTy).Contents (Elt F) → (⟨S4096x2, .i32⟩ : BufTy).Contents (Elt F)),
   StableHlo.binary main_v40 main_v41 main_v42 (cmpi .eq : (⟨S4096, .i32⟩ : BufTy).Contents (Elt F) → (⟨S4096, .i32⟩ : BufTy).Contents (Elt F) → (⟨S4096, .i1⟩ : BufTy).Contents (Elt F)),
   StableHlo.unary main_v42 main_v43 ((extui 32 · natLt_1_32) : (⟨S4096, .i1⟩ : BufTy).Contents (Elt F) → (⟨S4096, .i32⟩ : BufTy).Contents (Elt F)),
   StableHlo.nullary main_c_8 (constantI S_ 32 0#32),
   StableHlo.binary main_v43 main_c_8 main_v44 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
   StableHlo.unary main_v44 main_v45 (sitofp .f32 : (⟨S_, .i32⟩ : BufTy).Contents (Elt F) → (⟨S_, .f32⟩ : BufTy).Contents (Elt F)),
   StableHlo.unary main_v40 main_v46 (broadcastInDim S4096x1 ![0] bcast_S4096_S4096x1_0 : (⟨S4096, .i32⟩ : BufTy).Contents (Elt F) → (⟨S4096x1, .i32⟩ : BufTy).Contents (Elt F)),
   StableHlo.unary main_v46 main_v47 (broadcastInDim S4096x2 ![0, 1] bcast_S4096x1_S4096x2_0_1 : (⟨S4096x1, .i32⟩ : BufTy).Contents (Elt F) → (⟨S4096x2, .i32⟩ : BufTy).Contents (Elt F)),
   StableHlo.binary main_v47 main_indices main_v48 (cmpi .eq : (⟨S4096x2, .i32⟩ : BufTy).Contents (Elt F) → (⟨S4096x2, .i32⟩ : BufTy).Contents (Elt F) → (⟨S4096x2, .i1⟩ : BufTy).Contents (Elt F)),
   StableHlo.unary main_v48 main_v49 ((extui 32 · natLt_1_32) : (⟨S4096x2, .i1⟩ : BufTy).Contents (Elt F) → (⟨S4096x2, .i32⟩ : BufTy).Contents (Elt F)),
   StableHlo.nullary main_c_9 (constantI S_ 32 0#32),
   StableHlo.binary main_v49 main_c_9 main_v50 ((fun x v => Host.reduce IntOp.addi x v reducesTo_S4096x2_S_d0_1 h_S_) : (⟨S4096x2, .i32⟩ : BufTy).Contents (Elt F) → (⟨S_, .i32⟩ : BufTy).Contents (Elt F) → (⟨S_, .i32⟩ : BufTy).Contents (Elt F)),
   StableHlo.unary main_v50 main_v51 (sitofp .f32 : (⟨S_, .i32⟩ : BufTy).Contents (Elt F) → (⟨S_, .f32⟩ : BufTy).Contents (Elt F))]
def w4 : List (Ref sig .tc) := [main_values, main_indices, main_v42, main_v43, main_c_8, main_v44, main_v45, main_v46, main_v47, main_v48, main_v49, main_c_9, main_v50, main_v51]

def ops : List (HloOp τ sig (Elt F)) := ops1 ++ (ops2 ++ (ops3 ++ ops4))

theorem main_eq (d : Dev nD) : main (F := F) d = seq ops := rfl

/-! ## The values -/

/-- A column of indices, a negative one counted from the end. -/
def wrap {s : Shape} (h : S_.BroadcastsInDim s (![] : Fin 0 → Fin s.rank)) (n : BitVec 32) (x : IVec s 32) : IVec s 32 :=
  select (cmpi .slt x (broadcastInDim s ![] h (constantI S_ 32 0#32))) (addi x (broadcastInDim s ![] h (constantI S_ 32 n))) x

/-- The table of the clicks, and of the dispatches. -/
def click (x1 : Vec F S4096 .f32) (x2 : Vec F S4096x2 .i32) : Vec F S4096x50 .f32 :=
  Host.scatterAdd scatter_S4096x50_S4096x2_S4096_n_01_01_1 (broadcastInDim S4096x50 ![] bcast_S_S4096x50 (constant S_ .f32 0x00000000#32))
    (concatenate S4096x2 1 [
      ⟨S4096x1, broadcastInDim S4096x1 ![0] bcast_S4096_S4096x1_0 (wrap bcast_S_S4096 4096#32
        (shapeCast S4096 (extractStridedSlice S4096x1 ![0, 0] x2 slices_S4096x2_S4096x1_0_0) shapeCasts_S4096x1_S4096))⟩,
      ⟨S4096x1, broadcastInDim S4096x1 ![0] bcast_S4096_S4096x1_0 (wrap bcast_S_S4096 50#32
        (shapeCast S4096 (extractStridedSlice S4096x1 ![0, 1] x2 slices_S4096x2_S4096x1_0_1) shapeCasts_S4096x1_S4096))⟩]
      concatenates_S4096x1_S4096x1_S4096x2_d1) x1
def disp (x0 : Vec F S4096x16 .f32) (x3 : Vec F S40960x2 .i32) : Vec F S4096x50 .f32 :=
  Host.scatterAdd scatter_S4096x50_S40960x2_S40960_n_01_01_1 (broadcastInDim S4096x50 ![] bcast_S_S4096x50 (constant S_ .f32 0x00000000#32))
    (concatenate S40960x2 1 [
      ⟨S40960x1, broadcastInDim S40960x1 ![0] bcast_S40960_S40960x1_0 (wrap bcast_S_S40960 4096#32
        (shapeCast S40960 (extractStridedSlice S40960x1 ![0, 0] x3 slices_S40960x2_S40960x1_0_0) shapeCasts_S40960x1_S40960))⟩,
      ⟨S40960x1, broadcastInDim S40960x1 ![0] bcast_S40960_S40960x1_0 (wrap bcast_S_S40960 50#32
        (shapeCast S40960 (extractStridedSlice S40960x1 ![0, 1] x3 slices_S40960x2_S40960x1_0_1) shapeCasts_S40960x1_S40960))⟩]
      concatenates_S40960x1_S40960x1_S40960x2_d1)
    (shapeCast S40960 (extractStridedSlice S4096x10 ![0, 0] x0 slices_S4096x16_S4096x10_0_0) shapeCasts_S4096x10_S40960)

/-- Each row's first greatest column, and its two greatest columns in order. -/
def best (t : Vec F S4096x50 .f32) : Vec F S4096 .i32 := fun j =>
  (Host.argReduce reducer_argmax_f32_i32 t (iotaInDim S4096x50 32 1) (constant S_ .f32 0xFF800000#32) (constantI S_ 32 0#32)
    reducesTo_S4096x50_S4096_d1 h_S_ j).2
def best2 (t : Vec F S4096x50 .f32) : Vec F S4096x2 .i32 := (Host.topK S4096x2 1 (FloatOps.cmpfTotal .gt) t sliceFits_S4096x50_S4096x2).2

/-- The two results. -/
def res1 (c t : Vec F S4096x50 .f32) : Vec F S_ .f32 :=
  sitofp .f32 (Host.reduce IntOp.addi (extui 32 (cmpi .eq (best c) (best t)) natLt_1_32) (constantI S_ 32 0#32) reducesTo_S4096_S_d0 h_S_)
def res2 (c t : Vec F S4096x50 .f32) : Vec F S_ .f32 :=
  sitofp .f32 (Host.reduce IntOp.addi (extui 32 (cmpi .eq
      (broadcastInDim S4096x2 ![0, 1] bcast_S4096x1_S4096x2_0_1 (broadcastInDim S4096x1 ![0] bcast_S4096_S4096x1_0 (best c)))
      (best2 t)) natLt_1_32) (constantI S_ 32 0#32) reducesTo_S4096x2_S_d0_1 h_S_)

section
variable (V : Valuation τ sig (Elt F))

theorem after1 : after ops1 V (Proc.devRef .tc main_v19) = click (V (Proc.devRef .tc main_arg1)) (V (Proc.devRef .tc main_arg2)) := by
  unfold ops1
  after_results
  rfl
theorem after1_v0 : after ops1 V (Proc.devRef .tc main_v0)
    = extractStridedSlice S4096x10 ![0, 0] (V (Proc.devRef .tc main_arg0)) slices_S4096x16_S4096x10_0_0 := by
  unfold ops1
  after_results
theorem after2 (x0 : Vec F S4096x16 .f32) (h : V (Proc.devRef .tc main_v0) = extractStridedSlice S4096x10 ![0, 0] x0 slices_S4096x16_S4096x10_0_0) :
    after ops2 V (Proc.devRef .tc main_v39) = disp x0 (V (Proc.devRef .tc main_arg3)) := by
  unfold ops2
  after_results
  rw [h]
  rfl
theorem after3_v40 : after ops3 V (Proc.devRef .tc main_v40) = best (V (Proc.devRef .tc main_v19)) := by
  unfold ops3
  after_results
  rfl
theorem after3_v41 : after ops3 V (Proc.devRef .tc main_v41) = best (V (Proc.devRef .tc main_v39)) := by
  unfold ops3
  after_results
  rfl
theorem after4_v45 (c t : Vec F S4096x50 .f32) (h0 : V (Proc.devRef .tc main_v40) = best c) (h1 : V (Proc.devRef .tc main_v41) = best t) :
    after ops4 V (Proc.devRef .tc main_v45) = res1 c t := by
  unfold ops4
  after_results
  rw [h0, h1]
  rfl
theorem after4_v51 (c t : Vec F S4096x50 .f32) (h0 : V (Proc.devRef .tc main_v40) = best c) (h1 : V (Proc.devRef .tc main_v39) = t) :
    after ops4 V (Proc.devRef .tc main_v51) = res2 c t := by
  unfold ops4
  after_results
  rw [h0, h1]
  rfl

theorem keep (W : List (Ref sig .tc)) (l : List (HloOp τ sig (Elt F))) (h : l.map HloOp.writes = W.map fun r => {Proc.devRef (τ := τ) .tc r})
    (r : Ref sig .tc) (hr : r ∉ W) : after l V (Proc.devRef .tc r) = V (Proc.devRef .tc r) :=
  StableHlo.after_of_writes_sub l V (StableHlo.forall_writes_sub_of_map h) hr

theorem keep1 (r : Ref sig .tc) (hr : r ∉ w1) : after ops1 V (Proc.devRef .tc r) = V (Proc.devRef .tc r) := keep V w1 _ rfl r hr
theorem keep2 (r : Ref sig .tc) (hr : r ∉ w2) : after ops2 V (Proc.devRef .tc r) = V (Proc.devRef .tc r) := keep V w2 _ rfl r hr
theorem keep3 (r : Ref sig .tc) (hr : r ∉ w3) : after ops3 V (Proc.devRef .tc r) = V (Proc.devRef .tc r) := keep V w3 _ rfl r hr
theorem keep4 (r : Ref sig .tc) (hr : r ∉ w4) : after ops4 V (Proc.devRef .tc r) = V (Proc.devRef .tc r) := keep V w4 _ rfl r hr

theorem after_ops (b : DevRef τ sig) : after ops V b = after ops4 (after ops3 (after ops2 (after ops1 V))) b := by
  unfold ops
  rw [StableHlo.after_append, StableHlo.after_append, StableHlo.after_append]

theorem keep_arg (r : Ref sig .tc) (h1 : r ∉ w1) (h2 : r ∉ w2) (h3 : r ∉ w3) (h4 : r ∉ w4) :
    after ops V (Proc.devRef .tc r) = V (Proc.devRef .tc r) := by
  rw [after_ops, keep4 _ r h4, keep3 _ r h3, keep2 _ r h2, keep1 _ r h1]

theorem out1 : after ops V (Proc.devRef .tc main_v45)
    = res1 (click (V (Proc.devRef .tc main_arg1)) (V (Proc.devRef .tc main_arg2))) (disp (V (Proc.devRef .tc main_arg0)) (V (Proc.devRef .tc main_arg3))) := by
  rw [after_ops]
  refine after4_v45 _ _ _ ?_ ?_
  · rw [after3_v40, keep2 _ main_v19 (by decide), after1]
  · rw [after3_v41, after2 _ (V (Proc.devRef .tc main_arg0)) (after1_v0 V), keep1 _ main_arg3 (by decide)]
theorem out2 : after ops V (Proc.devRef .tc main_v51)
    = res2 (click (V (Proc.devRef .tc main_arg1)) (V (Proc.devRef .tc main_arg2))) (disp (V (Proc.devRef .tc main_arg0)) (V (Proc.devRef .tc main_arg3))) := by
  rw [after_ops]
  refine after4_v51 _ _ _ ?_ ?_
  · rw [after3_v40, keep2 _ main_v19 (by decide), after1]
  · rw [keep3 _ main_v39 (by decide), after2 _ (V (Proc.devRef .tc main_arg0)) (after1_v0 V), keep1 _ main_arg3 (by decide)]

end

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp [ops, ops1, ops2, ops3, ops4, List.Forall]

theorem run_main (m : (ℓ : Loc nD τ sig) → Buf (Elt F) ℓ) (ρ : Dev nD → PrngReg) :
    θ_run defs (onTc (τ := τ) (main (F := F))) ⟨m, fun _ => 0, ρ⟩ (fun r =>
      (∀ d : Dev nD, r.2.mem ((d.tc : Thread nD τ).loc main_v45)
          = res1 (click (m ((d.tc : Thread nD τ).loc main_arg1)) (m ((d.tc : Thread nD τ).loc main_arg2)))
              (disp (m ((d.tc : Thread nD τ).loc main_arg0)) (m ((d.tc : Thread nD τ).loc main_arg3)))
        ∧ r.2.mem ((d.tc : Thread nD τ).loc main_v51)
          = res2 (click (m ((d.tc : Thread nD τ).loc main_arg1)) (m ((d.tc : Thread nD τ).loc main_arg2)))
              (disp (m ((d.tc : Thread nD τ).loc main_arg0)) (m ((d.tc : Thread nD τ).loc main_arg3)))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)) ∧ r.2.sem = fun _ => 0) :=
  (θ_run defs _ _).mono (fun r h => ⟨fun d => ⟨(h d main_v45).trans (out1 _), (h d main_v51).trans (out2 _),
      (h d main_arg0).trans (keep_arg _ _ (by decide) (by decide) (by decide) (by decide)),
      (h d main_arg1).trans (keep_arg _ _ (by decide) (by decide) (by decide) (by decide)),
      (h d main_arg2).trans (keep_arg _ _ (by decide) (by decide) (by decide) (by decide)),
      (h d main_arg3).trans (keep_arg _ _ (by decide) (by decide) (by decide) (by decide))⟩,
      sem_eq_zero_of_no_sems (by decide) r.2⟩)
    (StableHlo.run_seq scopedRefs_eq scopedSems_eq defs main (fun _ => ops) main_eq (fun _ => ops_sub) m ρ
      (fun _ => List.forall_iff_forall_mem.mp (StableHlo.forall_fresh_of_map rfl)))

end Cert.Proof.Ref

end
-- ==== Proof.Frames.lean ====
/-
  The frames: the preconditions give items below 50, and the run gives the rest.
-/
module

public import proofs.«01_k».proof.Defs
public import proofs.«01_k».proof.Proof.Inputs
public import proofs.«01_k».proof.Proof.Gen.Kernel
public import proofs.«01_k».proof.Proof.Gen.Pre_items_in_range
public import proofs.«01_k».proof.Proof.RefRun

@[expose] public section

noncomputable section

namespace Cert.Proof

open Idealize.ShloMosaic Idealize.SL.Sem

/-- A word at least 0 and below 50 as a signed word is below 50 as a natural number. -/
theorem word_lt {v : BitVec 32} (h0 : IntOp.cmpi .sge v 0#32 = 1#1) (h1 : IntOp.cmpi .slt v 50#32 = 1#1) : v.toNat < 50 := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

section
variable {F : FTy → Type} [FloatOps F]

theorem items_of_range (x0 : FVec F Cert.Pre_items_in_range.S4096x16 .f32) (x1 : FVec F Cert.Pre_items_in_range.S4096 .f32)
    (x2 : IVec Cert.Pre_items_in_range.S4096x2 32) (x3 : IVec Cert.Pre_items_in_range.S40960x2 32)
    (h0 : (Cert.Pre_items_in_range.fn x0 x1 x2 x3).1 = fun _ => 1#1)
    (h1 : (Cert.Pre_items_in_range.fn x0 x1 x2 x3).2 = fun _ => 1#1) (n : Fin 40960) : (x3 (ix2 n 1)).toNat < 50 := by
  have r : shapeCast Cert.Pre_items_in_range.S40960 (extractStridedSlice Cert.Pre_items_in_range.S40960x1 ![0, 1] x3
      Cert.Pre_items_in_range.Facts.slices_S40960x2_S40960x1_0_1) Cert.Pre_items_in_range.Facts.shapeCasts_S40960x1_S40960 (ix1 n) = x3 (ix2 n 1) := by
    pointwise
  rw [← r]
  exact word_lt (congrFun h0 (ix1 n)) (congrFun h1 (ix1 n))

end

theorem quiescent_KernelIdeal : Cert.quiescent_KernelIdeal := fun m g hp =>
  (θ_run (Cert.KernelIdeal.defs (F := Ideal)) _ _).mono (fun _ h => ⟨fun d => (h.1 d).2.2, h.2⟩)
    (Cert.Proof.KI.run_args (F := Ideal) m g
      (Cert.Proof.KI.ok_of_items m fun d n => items_of_range _ _ _ _ (hp d).1 (hp d).2 n))

theorem quiescent_Kernel : Cert.quiescent_Kernel := fun m g hp =>
  (θ_run (Cert.KernelIdeal.defs (F := Bits)) (Cert.KernelIdeal.threads (F := Bits)) _).mono (fun _ h => ⟨fun d => (h.1 d).2.2, h.2⟩)
    (Cert.Proof.KI.run_args (F := Bits) m g
      (Cert.Proof.KI.ok_of_items m fun d n => items_of_range _ _ _ _ (hp d).1 (hp d).2 n))

theorem quiescent_ReferenceIdeal : Cert.quiescent_ReferenceIdeal := fun m g _ =>
  (θ_run (Cert.ReferenceIdeal.defs (F := Ideal)) _ _).mono (fun _ h => ⟨fun d => (h.1 d).2.2, h.2⟩)
    (Cert.Proof.Ref.run_main (F := Ideal) m g)

end Cert.Proof

end
-- ==== Proof.Rank.lean ====
/-
  The first greatest and the second greatest of fifty values, and what the reference's argmax and top-2 say of a row.
-/
module

public import Idealize.ShloMosaic.Lib.Pointwise
public import Idealize.ShloMosaic.Lib.SortFacts
public import Idealize.ShloMosaic.PureOps.Reduce
public import Idealize.ShloMosaic.PureOps.Ideal.Laws
public import proofs.«01_k».proof.Proof.RefRun

@[expose] public section

noncomputable section

namespace Cert.Proof

open Idealize.ShloMosaic

/-! ## The first and the second of fifty values -/

/-- `p` comes before `c`: its value is greater, or equal at the lower place. -/
def Over (g : Fin 50 → EReal) (p c : Fin 50) : Prop := g c < g p ∨ (g c = g p ∧ p < c)
/-- `p` is the place of the greatest value, the first such. -/
def First (g : Fin 50 → EReal) (p : Fin 50) : Prop := ∀ c, c ≠ p → Over g p c
/-- `q` is the place of the greatest value but `p`'s, the first such. -/
def Second (g : Fin 50 → EReal) (p q : Fin 50) : Prop := q ≠ p ∧ ∀ c, c ≠ p → c ≠ q → Over g q c

theorem Over.asymm {g : Fin 50 → EReal} {p c : Fin 50} (h : Over g p c) (h' : Over g c p) : False := by
  rcases h with h | ⟨h, l⟩ <;> rcases h' with h' | ⟨h', l'⟩
  · exact lt_asymm h h'
  · exact absurd h' (ne_of_gt h)
  · exact absurd h (ne_of_gt h')
  · exact lt_asymm l l'
theorem Over.le {g : Fin 50 → EReal} {p c : Fin 50} (h : Over g p c) : g c ≤ g p := by
  rcases h with h | h
  · exact h.le
  · exact h.1.le

theorem First.unique {g : Fin 50 → EReal} {p p' : Fin 50} (h : First g p) (h' : First g p') : p = p' := by
  by_contra e
  exact (h p' (Ne.symm e)).asymm (h' p e)
theorem Second.unique {g : Fin 50 → EReal} {p q q' : Fin 50} (h : Second g p q) (h' : Second g p q') : q = q' := by
  by_contra e
  exact (h.2 q' h'.1 (Ne.symm e)).asymm (h'.2 q h.1 e)

theorem First.le {g : Fin 50 → EReal} {p : Fin 50} (h : First g p) (c : Fin 50) : g c ≤ g p := by
  by_cases e : c = p
  · rw [e]
  · exact (h c e).le
theorem First.lt {g : Fin 50 → EReal} {p : Fin 50} (h : First g p) {c : Fin 50} (hc : c < p) : g c ≠ g p := by
  rcases h c hc.ne with l | ⟨_, l⟩
  · exact l.ne
  · exact absurd l (lt_asymm hc)

theorem First.exists (g : Fin 50 → EReal) : ∃ p, First g p := by
  obtain ⟨m, -, hm⟩ := Finset.exists_max_image Finset.univ g ⟨0, Finset.mem_univ _⟩
  have hne : (Finset.univ.filter fun c => g c = g m).Nonempty := ⟨m, by simp⟩
  refine ⟨(Finset.univ.filter fun c => g c = g m).min' hne, fun c hc => ?_⟩
  have hp := (Finset.mem_filter.mp ((Finset.univ.filter fun c => g c = g m).min'_mem hne)).2
  rcases lt_or_eq_of_le (hm c (Finset.mem_univ _)) with h | h
  · exact Or.inl (lt_of_lt_of_eq h hp.symm)
  · exact Or.inr ⟨h.trans hp.symm, lt_of_le_of_ne (Finset.min'_le _ _ (by simp [h])) (Ne.symm hc)⟩

/-! ## The argmax of a row -/

/-- The word of a place. -/
def word (p : Fin 50) : BitVec 32 := BitVec.ofNat 32 p.val

theorem word_toNat (p : Fin 50) : (word p).toNat = p.val := by
  have := p.isLt
  show (BitVec.ofNat 32 p.val).toNat = _
  rw [BitVec.toNat_ofNat]; omega
theorem word_inj {p q : Fin 50} : word p = word q ↔ p = q :=
  ⟨fun h => Fin.ext (by rw [← word_toNat p, ← word_toNat q, h]), fun h => by rw [h]⟩
theorem word_toInt (p : Fin 50) : (word p).toInt = p.val := by
  have := p.isLt
  rw [BitVec.toInt_eq_toNat_cond, word_toNat]; simp only [Nat.reducePow]; omega

open Cert.ReferenceIdeal Cert.ReferenceIdeal.Gen

/-- Row `s` of a table. -/
def rowOf (t : FVec Ideal S4096x50 .f32) (s : Fin 4096) (c : Fin 50) : EReal := t (ix2 s c)

theorem ofBool_one (p : Bool) : (BitVec.ofBool p = 1#1) ↔ p = true := by cases p <;> decide

/-- The argmax's step keeps the accumulated pair when its value is greater, or equal with the lesser index. -/
theorem step_eq (a b : Ideal .f32 × BitVec 32) : reducer_argmax_f32_i32 (F := Ideal) a b
    = if (b.1 : EReal) < a.1 ∨ ((a.1 : EReal) = b.1 ∧ a.2.toInt < b.2.toInt) then a else b := by
  obtain ⟨x, i⟩ := a
  obtain ⟨y, k⟩ := b
  unfold reducer_argmax_f32_i32
  change EReal at x
  change EReal at y
  simp only [Ideal.cmpf_def, Ideal.cmp]
  have une : decide (x ≠ x) = false := by simp
  rw [une]
  rcases lt_trichotomy y x with h | h | h
  · have h1 : decide (y < x) = true := by simpa using h
    have h2 : decide (x = y) = false := by simpa using h.ne'
    have e : ∀ w : BitVec 1, 1#1 ||| IntOp.andi 0#1 w = 1#1 := by decide
    rw [h1, h2, if_pos (Or.inl h)]
    simp [Scalar.select, IntOp.ori, e]
  · subst h
    by_cases l : i.toInt < k.toInt
    · have e : IntOp.cmpi .slt i k = 1#1 := by simp [IntOp.cmpi, BitVec.slt_eq_decide, l]
      rw [if_pos (Or.inr ⟨rfl, l⟩), e]
      simp [Scalar.select, IntOp.ori, IntOp.andi]
    · have e : IntOp.cmpi .slt i k = 0#1 := by simp [IntOp.cmpi, BitVec.slt_eq_decide, l]
      rw [if_neg (by rintro (h | h); exact absurd h (lt_irrefl _); exact l h.2), e]
      simp [Scalar.select, IntOp.ori, IntOp.andi]
  · have h1 : decide (y < x) = false := by simpa using h.le
    have h2 : decide (x = y) = false := by simpa using h.ne
    rw [h1, h2, if_neg (by rintro (h' | h'); exact absurd h' (not_lt.mpr h.le); exact absurd h'.1 h.ne)]
    simp [Scalar.select, IntOp.ori, IntOp.andi]

/-- A pair not after another: the greater value, or the same with an index no greater. -/
def Ge (r p : Ideal .f32 × BitVec 32) : Prop := (p.1 : EReal) < r.1 ∨ ((p.1 : EReal) = r.1 ∧ r.2.toInt ≤ p.2.toInt)

theorem Ge.refl (r : Ideal .f32 × BitVec 32) : Ge r r := Or.inr ⟨rfl, le_rfl⟩
theorem Ge.trans {r s p : Ideal .f32 × BitVec 32} (h : Ge r s) (h' : Ge s p) : Ge r p := by
  rcases h with h | ⟨h, l⟩ <;> rcases h' with h' | ⟨h', l'⟩
  · exact Or.inl (lt_trans h' h)
  · exact Or.inl (h' ▸ h)
  · exact Or.inl (h ▸ h')
  · exact Or.inr ⟨h'.trans h, l.trans l'⟩

theorem step_ge (a b : Ideal .f32 × BitVec 32) : (reducer_argmax_f32_i32 (F := Ideal) a b = a ∨ reducer_argmax_f32_i32 (F := Ideal) a b = b)
    ∧ Ge (reducer_argmax_f32_i32 (F := Ideal) a b) a ∧ Ge (reducer_argmax_f32_i32 (F := Ideal) a b) b := by
  rw [step_eq]
  by_cases h : (b.1 : EReal) < a.1 ∨ ((a.1 : EReal) = b.1 ∧ a.2.toInt < b.2.toInt)
  · rw [if_pos h]
    refine ⟨Or.inl rfl, Ge.refl _, ?_⟩
    rcases h with h | h
    · exact Or.inl h
    · exact Or.inr ⟨h.1.symm, h.2.le⟩
  · rw [if_neg h]
    refine ⟨Or.inr rfl, ?_, Ge.refl _⟩
    rw [not_or, not_and] at h
    rcases lt_or_eq_of_le (not_lt.mp h.1) with l | l
    · exact Or.inl l
    · exact Or.inr ⟨l, not_lt.mp (h.2 l)⟩

theorem fold_ge (L : List (Ideal .f32 × BitVec 32)) : ∀ i : Ideal .f32 × BitVec 32,
    (L.foldl (reducer_argmax_f32_i32 (F := Ideal)) i = i ∨ L.foldl (reducer_argmax_f32_i32 (F := Ideal)) i ∈ L)
    ∧ ∀ p, p = i ∨ p ∈ L → Ge (L.foldl (reducer_argmax_f32_i32 (F := Ideal)) i) p := by
  induction L with
  | nil => exact fun i => ⟨Or.inl rfl, fun p hp => by rcases hp with rfl | hp; exact Ge.refl _; exact absurd hp List.not_mem_nil⟩
  | cons b L ih =>
    intro i
    obtain ⟨h1, h2⟩ := ih (reducer_argmax_f32_i32 (F := Ideal) i b)
    obtain ⟨s1, s2, s3⟩ := step_ge i b
    rw [List.foldl_cons]
    refine ⟨?_, fun p hp => ?_⟩
    · rcases h1 with h1 | h1
      · rcases s1 with s1 | s1
        · exact Or.inl (h1.trans s1)
        · exact Or.inr (List.mem_cons.mpr (Or.inl (h1.trans s1)))
      · exact Or.inr (List.mem_cons_of_mem _ h1)
    · rcases hp with rfl | hp
      · exact (h2 _ (Or.inl rfl)).trans s2
      · rcases List.mem_cons.mp hp with rfl | hp
        · exact (h2 _ (Or.inl rfl)).trans s3
        · exact h2 _ (Or.inr hp)

theorem drop_row (i : S4096x50.Idx) (s : Fin 4096) : reducesTo_S4096x50_S4096_d1.drop i = ix1 s ↔ i 0 = s := by
  have hv : (reducesTo_S4096x50_S4096_d1.drop i 0).val = (i 0).val := Shape.ReducesTo.drop_apply_val _ i 0
  constructor
  · intro h
    refine Fin.ext ?_
    rw [← hv, h]
    rfl
  · rintro rfl
    funext a
    match a with
    | 0 => exact Fin.ext hv

theorem mem_fiber (t : FVec Ideal S4096x50 .f32) (s : Fin 4096) (p : Ideal .f32 × BitVec 32) :
    p ∈ Host.argReduceFiber t (iotaInDim S4096x50 32 1) reducesTo_S4096x50_S4096_d1 (ix1 s) ↔ ∃ c, p = (rowOf t s c, word c) := by
  unfold Host.argReduceFiber
  rw [List.mem_map]
  constructor
  · rintro ⟨n, hn, rfl⟩
    have hd := of_decide_eq_true (List.mem_filter.mp hn).2
    generalize S4096x50.rowMajor.symm n = i at hd
    have h0 := (drop_row i s).mp hd
    have e : i = ix2 s (i 1) := by
      funext a
      match a with
      | 0 => exact h0
      | 1 => rfl
    exact ⟨i 1, by rw [e]; rfl⟩
  · rintro ⟨c, rfl⟩
    refine ⟨S4096x50.rowMajor (ix2 s c), List.mem_filter.mpr ⟨List.mem_finRange _, decide_eq_true ?_⟩, ?_⟩
    · rw [Equiv.symm_apply_apply]
      exact (drop_row _ s).mpr rfl
    · rw [Equiv.symm_apply_apply]
      rfl

theorem best_first (t : FVec Ideal S4096x50 .f32) (h0 : ∀ j, (0 : EReal) ≤ t j) (s : Fin 4096) :
    ∃ p, First (rowOf t s) p ∧ Ref.best (F := Ideal) t (ix1 s) = word p := by
  have e : Ref.best (F := Ideal) t (ix1 s) = ((Host.argReduceFiber t (iotaInDim S4096x50 32 1) reducesTo_S4096x50_S4096_d1 (ix1 s)).foldl
      (reducer_argmax_f32_i32 (F := Ideal)) (Ideal.ofBits .f32 0xFF800000#32, 0#32)).2 := by
    unfold Ref.best
    rw [Ideal.argReduce_eq_reduce2, Host.reduce2_eq_foldl_fiber]
    rfl
  rw [e]
  obtain ⟨h1, h2⟩ := fold_ge (Host.argReduceFiber t (iotaInDim S4096x50 32 1) reducesTo_S4096x50_S4096_d1 (ix1 s)) (Ideal.ofBits .f32 0xFF800000#32, 0#32)
  have hb : Ideal.ofBits .f32 0xFF800000#32 = (⊥ : EReal) := by simp [Ideal.ofBits, Ideal.ieee]
  have hm : ∃ p, List.foldl (reducer_argmax_f32_i32 (F := Ideal)) (Ideal.ofBits .f32 0xFF800000#32, 0#32)
      (Host.argReduceFiber t (iotaInDim S4096x50 32 1) reducesTo_S4096x50_S4096_d1 (ix1 s)) = (rowOf t s p, word p) := by
    rcases h1 with h1 | h1
    · have g := h2 (rowOf t s 0, word 0) (Or.inr ((mem_fiber t s _).mpr ⟨0, rfl⟩))
      rw [h1] at g
      rcases g with g | g
      · exact absurd g (by rw [hb]; exact not_lt_bot)
      · have := h0 (ix2 s 0)
        have g1 : rowOf t s 0 = ⊥ := g.1.trans hb
        exact absurd (show (0 : EReal) ≤ ⊥ from g1 ▸ this) (by simp)
    · exact (mem_fiber t s _).mp h1
  obtain ⟨p, hp⟩ := hm
  refine ⟨p, fun c hc => ?_, by rw [hp]⟩
  have g := h2 (rowOf t s c, word c) (Or.inr ((mem_fiber t s _).mpr ⟨c, rfl⟩))
  rw [hp] at g
  rcases g with g | ⟨g, l⟩
  · exact Or.inl g
  · refine Or.inr ⟨g, ?_⟩
    simp only [word_toInt] at l
    exact lt_of_le_of_ne (by exact_mod_cast l) (Ne.symm hc)

/-! ## The top two of a row -/

section
variable {n : ℕ} (v : Fin n → EReal)

/-- `a` comes before `b` in the stable sort, greater first. -/
def Before (a b : Fin n) : Prop := v b < v a ∨ (v b = v a ∧ a < b)

theorem before_insert (a : Fin n) (l : List (Fin n)) (ha : ∀ b ∈ l, a < b) (hl : l.Pairwise (Before v)) :
    (insertBefore (fun x y => decide (v y < v x)) a l).Pairwise (Before v) := by
  induction l with
  | nil => exact List.pairwise_singleton _ _
  | cons b l ih =>
    obtain ⟨hb, hl'⟩ := List.pairwise_cons.mp hl
    unfold insertBefore
    by_cases h : v a < v b
    · rw [if_pos (decide_eq_true h)]
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl h
      · exact hb x hx'
    · rw [if_neg (by simpa using h)]
      refine List.pairwise_cons.mpr ⟨fun x hx => ?_, hl⟩
      have hle : v x ≤ v a := by
        rcases List.mem_cons.mp hx with rfl | hx'
        · exact not_lt.mp h
        · rcases hb x hx' with g | g
          · exact g.le.trans (not_lt.mp h)
          · exact g.1.le.trans (not_lt.mp h)
      rcases lt_or_eq_of_le hle with g | g
      · exact Or.inl g
      · exact Or.inr ⟨g, ha x hx⟩

theorem before_sort (l : List (Fin n)) (hl : l.Pairwise (· < ·)) :
    (stableSort (fun x y => decide (v y < v x)) l).Pairwise (Before v) := by
  induction l with
  | nil => exact List.Pairwise.nil
  | cons a l ih =>
    obtain ⟨ha, hl'⟩ := List.pairwise_cons.mp hl
    unfold stableSort
    exact before_insert v a _ (fun b hb => ha b ((perm_stableSort _ l).mem_iff.mp hb)) (ih hl')

theorem sorted_before (i j : Fin n) (h : i < j) :
    Before v (sortedFrom (fun x y => decide (v y < v x)) i) (sortedFrom (fun x y => decide (v y < v x)) j) := by
  have hp : ∀ a b : Fin (sortPositions n fun x y => decide (v y < v x)).length, a < b →
      Before v ((sortPositions n fun x y => decide (v y < v x)).get a) ((sortPositions n fun x y => decide (v y < v x)).get b) :=
    List.pairwise_iff_get.mp (before_sort v (List.finRange n) (List.pairwise_lt_finRange n))
  unfold sortedFrom
  exact hp _ _ (by simp only [Fin.lt_def, Fin.val_cast]; exact h)
end

theorem sort_first (g : Fin 50 → EReal) : First g (sortedFrom (fun x y => decide (g y < g x)) 0) := fun c hc => by
  obtain ⟨k, rfl⟩ := sortedFrom_surjective (fun x y => decide (g y < g x)) c
  have hk : k ≠ 0 := fun e => hc (by rw [e])
  exact sorted_before g 0 k (Fin.pos_iff_ne_zero.mpr hk)
theorem sort_second (g : Fin 50 → EReal) :
    Second g (sortedFrom (fun x y => decide (g y < g x)) 0) (sortedFrom (fun x y => decide (g y < g x)) 1) := by
  refine ⟨fun e => absurd (sortedFrom_injective _ e) (by decide), fun c hc hc' => ?_⟩
  obtain ⟨k, rfl⟩ := sortedFrom_surjective (fun x y => decide (g y < g x)) c
  have hk : k ≠ 0 := fun e => hc (by rw [e])
  have hk' : k ≠ 1 := fun e => hc' (by rw [e])
  refine sorted_before g 1 k ?_
  have := k.isLt
  have h0 : k.val ≠ 0 := fun e => hk (Fin.ext e)
  have h1 : k.val ≠ 1 := fun e => hk' (Fin.ext e)
  exact Fin.lt_def.mpr (show 1 < k.val by omega)

theorem best2_eq (t : FVec Ideal S4096x50 .f32) (s : Fin 4096) (q : Fin 2) :
    Ref.best2 (F := Ideal) t (ix2 s q) = word (sortedFrom (fun x y => decide (rowOf t s y < rowOf t s x)) (q.castLE (by decide))) := by
  have hal : ∀ k : Fin 50, Shape.Idx.along (s := S4096x50) (ix2 s (q.castLE (by decide))) 1 k = ix2 s k := fun k => by
    funext a
    match a with
    | 0 => rfl
    | 1 => rfl
  have hj : (fun a => ⟨0 + ((ix2 s q : S4096x2.Idx) (a.cast sliceFits_S4096x50_S4096x2.1.symm)).val,
      Nat.lt_of_lt_of_le (Nat.add_lt_add_left ((ix2 s q : S4096x2.Idx) _).isLt _) (sliceFits_S4096x50_S4096x2.2 a)⟩ : S4096x50.Idx)
      = ix2 s (q.castLE (by decide)) := by
    funext a
    match a with
    | 0 => exact Fin.ext (Nat.zero_add _)
    | 1 => exact Fin.ext (Nat.zero_add _)
  have hc : ∀ k k' : Fin 50, (FloatOps.cmpfTotal (F := Ideal) .gt (t (Shape.Idx.along (s := S4096x50) (ix2 s (q.castLE (by decide))) 1 k))
      (t (Shape.Idx.along (s := S4096x50) (ix2 s (q.castLE (by decide))) 1 k')) == 1#1) = decide (rowOf t s k' < rowOf t s k) := fun k k' => by
    rw [hal, hal]
    show (BitVec.ofBool (decide (rowOf t s k' < rowOf t s k)) == 1#1) = _
    cases decide (rowOf t s k' < rowOf t s k) <;> rfl
  let cmp : EReal × BitVec 32 → EReal × BitVec 32 → BitVec 1 := fun l r => FloatOps.cmpfTotal (F := Ideal) (φ := .f32) .gt l.1 r.1
  let ix : IVec S4096x50 32 := fun i => if hd : 1 < S4096x50.rank then iotaInDim S4096x50 32 ⟨1, hd⟩ i else 0#32
  have e1 : Ref.best2 (F := Ideal) t (ix2 s q) = (Host.sort2 S4096x50 1 cmp t ix).2 (ix2 s (q.castLE (by decide))) :=
    congrArg (Host.sort2 S4096x50 1 cmp t ix).2 hj
  have e2 : (Host.sort2 S4096x50 1 cmp t ix).2 (ix2 s (q.castLE (by decide)))
      = ix (Shape.Idx.along (s := S4096x50) (ix2 s (q.castLE (by decide))) 1 (sortedFrom (fun k k' : Fin 50 =>
          (FloatOps.cmpfTotal (F := Ideal) .gt (t (Shape.Idx.along (s := S4096x50) (ix2 s (q.castLE (by decide))) 1 k))
            (t (Shape.Idx.along (s := S4096x50) (ix2 s (q.castLE (by decide))) 1 k')) == 1#1)) (q.castLE (by decide)))) := rfl
  have e3 := congrArg (fun R : Fin 50 → Fin 50 → Bool => ix (ix2 s (sortedFrom R (q.castLE (by decide))))) (funext fun k => funext fun k' => hc k k')
  exact (e1.trans e2).trans ((congrArg ix (hal _)).trans e3)

theorem best2_first (t : FVec Ideal S4096x50 .f32) (s : Fin 4096) :
    ∃ p q, First (rowOf t s) p ∧ Second (rowOf t s) p q ∧ Ref.best2 (F := Ideal) t (ix2 s 0) = word p ∧ Ref.best2 (F := Ideal) t (ix2 s 1) = word q :=
  ⟨_, _, sort_first _, sort_second _, best2_eq t s 0, best2_eq t s 1⟩

end Cert.Proof

end
-- ==== Proof.KRank.lean ====
/-
  The kernel's two choices of a section: what its maxima and its least equal rows say of the fifty values, and the dense rows as sums.
-/
module

public import Idealize.ShloMosaic.Lib.IdealHost
public import proofs.«01_k».proof.Proof.Inputs
public import proofs.«01_k».proof.Proof.Rank

@[expose] public section

noncomputable section

namespace Cert.Proof.KI

open Cert.KernelIdeal Cert.KernelIdeal.Gen
open Idealize.ShloMosaic

/-! ## The constants -/

theorem zero_val : (Scalar.ofBits (F := Ideal) .f32 0x00000000#32 : EReal) = 0 := Ideal.ofBits_zero_f32
theorem one_val : (Scalar.ofBits (F := Ideal) .f32 0x3F800000#32 : EReal) = 1 := Ideal.ofBits_one_f32
theorem neg_val : (Scalar.ofBits (F := Ideal) .f32 0xBF800000#32 : EReal) = ((-(1 : ℝ) : ℝ) : EReal) := by
  show Ideal.ofBits .f32 0xBF800000#32 = _
  simp [Ideal.ofBits, Ideal.ieee, -EReal.coe_mul, -EReal.coe_neg]; norm_num
theorem neg_lt : (Scalar.ofBits (F := Ideal) .f32 0xBF800000#32 : EReal) < 0 := by
  rw [neg_val]
  exact EReal.coe_neg'.mpr (by norm_num)

/-! ## A row at a lane -/

theorem row_idx (x : S16.Idx) : ((Shape.reshapeEquiv (s := S1x16) (s' := S16) (by decide) x) 1).val = (x 0).val := by
  decide +revert +kernel

theorem row_at (f : Vec Ideal S50x16 .f32) (c : Fin 50) (x : S16.Idx) : row f c.val x = f (ix2 c (x 0)) := by
  show f _ = f _
  refine congrArg f (funext fun a => ?_)
  have hx := row_idx x
  have hm : c.val % 50 = c.val := Nat.mod_eq_of_lt c.isLt
  match a with
  | 0 =>
    refine Fin.ext ?_
    have h0 : ((Shape.reshapeEquiv (s := S1x16) (s' := S16) (by decide) x) 0).val < 1 := ((Shape.reshapeEquiv (s := S1x16) (s' := S16) (by decide) x) 0).isLt
    show c.val % 50 + 1 * ((Shape.reshapeEquiv (s := S1x16) (s' := S16) (by decide) x) 0).val = c.val
    omega
  | 1 =>
    refine Fin.ext ?_
    show 0 + 1 * ((Shape.reshapeEquiv (s := S1x16) (s' := S16) (by decide) x) 1).val = (x 0).val
    omega

/-! ## The maxima -/

theorem mx_ge (f : Vec Ideal S50x16 .f32) (x : S16.Idx) (n c : ℕ) (hc : c ≤ n) : (row f c x : EReal) ≤ mx f n x := by
  induction n with
  | zero =>
    obtain rfl : c = 0 := by omega
    exact le_refl (row f 0 x : EReal)
  | succ n ih =>
    show (row f c x : EReal) ≤ max (mx f n x : EReal) (row f (n + 1) x)
    by_cases h : c = n + 1
    · rw [h]; exact le_max_right _ _
    · exact (ih (by omega)).trans (le_max_left _ _)
theorem mx_le (f : Vec Ideal S50x16 .f32) (x : S16.Idx) (b : EReal) (n : ℕ) (h : ∀ c, c ≤ n → (row f c x : EReal) ≤ b) : (mx f n x : EReal) ≤ b := by
  induction n with
  | zero => exact h 0 le_rfl
  | succ n ih =>
    show max (mx f n x : EReal) (row f (n + 1) x) ≤ b
    exact max_le (ih fun c hc => h c (by omega)) (h _ le_rfl)

theorem m2_ge (f : Vec Ideal S50x16 .f32) (a : IVec S16 32) (x : S16.Idx) (n c : ℕ) (hc : c < n) : (mk f a c x : EReal) ≤ m2 f a n x := by
  induction n with
  | zero => omega
  | succ n ih =>
    show (mk f a c x : EReal) ≤ max (m2 f a n x : EReal) (mk f a n x)
    by_cases h : c = n
    · rw [h]; exact le_max_right _ _
    · exact (ih (by omega)).trans (le_max_left _ _)
theorem m2_le (f : Vec Ideal S50x16 .f32) (a : IVec S16 32) (x : S16.Idx) (b : EReal)
    (hb : (Scalar.ofBits (F := Ideal) .f32 0xBF800000#32 : EReal) ≤ b) (n : ℕ) (h : ∀ c, c < n → (mk f a c x : EReal) ≤ b) :
    (m2 f a n x : EReal) ≤ b := by
  induction n with
  | zero => exact hb
  | succ n ih =>
    show max (m2 f a n x : EReal) (mk f a n x) ≤ b
    exact max_le (ih fun c hc => h c (by omega)) (h _ (by omega))

/-! ## The least equal row -/

theorem min_word (a b : ℕ) (ha : a ≤ 50) (hb : b ≤ 50) :
    IntOp.minsi (BitVec.ofNat 32 a) (BitVec.ofNat 32 b) = BitVec.ofNat 32 (min a b) := by
  have e : (BitVec.ofNat 32 a).slt (BitVec.ofNat 32 b) = decide (a < b) := by
    rw [BitVec.slt_eq_decide]
    refine decide_eq_decide.mpr ?_
    rw [BitVec.toInt_eq_toNat_cond, BitVec.toInt_eq_toNat_cond, BitVec.toNat_ofNat, BitVec.toNat_ofNat]
    simp only [Nat.reducePow]
    omega
  unfold IntOp.minsi
  rw [e]
  by_cases h : a < b
  · rw [decide_eq_true h, min_eq_left h.le]; rfl
  · rw [decide_eq_false h, min_eq_right (not_lt.mp h)]; rfl

/-- The least row equal to the greatest value, of fifty rows, is the first greatest. -/
theorem am_word (g : ℕ → FVec Ideal S16 .f32) (m : FVec Ideal S16 .f32) (x : S16.Idx) (h : Fin 50 → EReal)
    (hg : ∀ c : Fin 50, (g c.val x : EReal) = h c) (p : Fin 50) (hp : First h p) (hm : (m x : EReal) = h p) : am g m 50 x = word p := by
  have key : ∀ n, n ≤ 50 → am g m n x = BitVec.ofNat 32 (if p.val < n then p.val else 50) := by
    intro n
    induction n with
    | zero => intro _; rw [if_neg (Nat.not_lt_zero _)]; rfl
    | succ n ih =>
      intro hn
      have hpl := p.isLt
      have st : am g m (n + 1) x = IntOp.minsi (am g m n x)
          (Scalar.select (BitVec.ofBool (decide ((g n x : EReal) = m x))) (BitVec.ofNat 32 n) (BitVec.ofNat 32 50)) := rfl
      rw [st, ih (by omega), hm, hg ⟨n, by omega⟩]
      rcases lt_trichotomy n p.val with l | l | l
      · have e : decide (h ⟨n, by omega⟩ = h p) = false := decide_eq_false (hp.lt (Fin.lt_def.mpr l))
        rw [e, if_neg (by omega), if_neg (by omega)]
        exact min_word 50 50 le_rfl le_rfl
      · have e : decide (h ⟨n, by omega⟩ = h p) = true := decide_eq_true (congrArg h (Fin.ext l))
        rw [e, if_neg (by omega), if_pos (by omega)]
        refine (min_word 50 n le_rfl (by omega)).trans ?_
        rw [min_eq_right (by omega), l]
      · rw [if_pos l, if_pos (by omega)]
        cases decide (h ⟨n, by omega⟩ = h p)
        · refine (min_word p.val 50 (by omega) le_rfl).trans ?_
          rw [min_eq_left (by omega)]
        · refine (min_word p.val n (by omega) (by omega)).trans ?_
          rw [min_eq_left (by omega)]
  rw [key 50 le_rfl, if_pos p.isLt]
  rfl

/-! ## The two choices -/

section
variable (D : Vec Ideal S50x16 .f32) (x : S16.Idx) (h : Fin 50 → EReal) (hg : ∀ c : Fin 50, (row D c.val x : EReal) = h c)
include hg

theorem arg1_word (p : Fin 50) (hp : First h p) : arg1 D x = word p := by
  refine am_word (row D) (top1 D) x h hg p hp (le_antisymm ?_ ?_)
  · refine mx_le D x _ 49 fun c hc => ?_
    rw [hg ⟨c, by omega⟩]
    exact hp.le _
  · rw [← hg p]
    exact mx_ge D x 49 p.val (by have := p.isLt; omega)

theorem arg2_word (h0 : ∀ c, 0 ≤ h c) (p q : Fin 50) (hp : First h p) (hq : Second h p q) : arg2 D x = word q := by
  have hmk : ∀ c : Fin 50, (mk D (arg1 D) c.val x : EReal) = if c = p then (Scalar.ofBits (F := Ideal) .f32 0xBF800000#32 : EReal) else h c := by
    intro c
    have e : (mk D (arg1 D) c.val x : EReal)
        = Scalar.select (BitVec.ofBool (arg1 D x == word c)) (Scalar.ofBits (F := Ideal) .f32 0xBF800000#32 : EReal) (row D c.val x : EReal) := rfl
    rw [e, arg1_word D x h hg p hp, hg c]
    by_cases hc : c = p
    · rw [if_pos hc, hc, beq_self_eq_true]; rfl
    · have : (word p == word c) = false := by rw [beq_eq_false_iff_ne]; exact fun e => hc (word_inj.mp e).symm
      rw [if_neg hc, this]; rfl
  have hF : First (fun c => if c = p then (Scalar.ofBits (F := Ideal) .f32 0xBF800000#32 : EReal) else h c) q := by
    intro c hc
    unfold Over
    dsimp only
    rw [if_neg hq.1]
    by_cases hcp : c = p
    · rw [if_pos hcp]
      exact Or.inl (lt_of_lt_of_le neg_lt (h0 q))
    · rw [if_neg hcp]
      exact hq.2 c hcp hc
  refine am_word (mk D (arg1 D)) (top2 D) x _ hmk q hF (le_antisymm ?_ ?_)
  · refine m2_le D (arg1 D) x _ ?_ 50 fun c hc => ?_
    · rw [if_neg hq.1]
      exact neg_lt.le.trans (h0 q)
    · rw [hmk ⟨c, hc⟩]
      exact hF.le _
  · rw [← hmk q]
    exact m2_ge D (arg1 D) x 50 q.val q.isLt

end

/-- A choice's word against an item's. -/
def ind (P : Prop) [Decidable P] : EReal := if P then 1 else 0

theorem hit1_at (D : Vec Ideal S50x16 .f32) (c : IVec S16 32) (x : S16.Idx) : (hit1 D c x : EReal) = ind (arg1 D x = c x) := by
  have e : (hit1 D c x : EReal) = Scalar.select (BitVec.ofBool (arg1 D x == c x)) (Scalar.ofBits (F := Ideal) .f32 0x3F800000#32 : EReal)
    (Scalar.ofBits (F := Ideal) .f32 0x00000000#32 : EReal) := rfl
  rw [e, one_val, zero_val]
  unfold ind
  by_cases h : arg1 D x = c x
  · rw [if_pos h, h, beq_self_eq_true]; rfl
  · rw [if_neg h, beq_eq_false_iff_ne.mpr h]; rfl

theorem hit2_at (D : Vec Ideal S50x16 .f32) (c : IVec S16 32) (x : S16.Idx) :
    (hit2 D c x : EReal) = ind (arg1 D x = c x ∨ arg2 D x = c x) := by
  have e : (hit2 D c x : EReal) = Scalar.select (IntOp.ori (BitVec.ofBool (arg1 D x == c x)) (BitVec.ofBool (arg2 D x == c x)))
    (Scalar.ofBits (F := Ideal) .f32 0x3F800000#32 : EReal) (Scalar.ofBits (F := Ideal) .f32 0x00000000#32 : EReal) := rfl
  rw [e, one_val, zero_val]
  unfold ind
  by_cases h : arg1 D x = c x <;> by_cases h' : arg2 D x = c x
  · rw [if_pos (Or.inl h), h, h', beq_self_eq_true]; rfl
  · rw [if_pos (Or.inl h), h, beq_self_eq_true, beq_eq_false_iff_ne.mpr h']; rfl
  · rw [if_pos (Or.inr h'), h', beq_self_eq_true, beq_eq_false_iff_ne.mpr h]; rfl
  · rw [if_neg (fun e => e.elim h h'), beq_eq_false_iff_ne.mpr h, beq_eq_false_iff_ne.mpr h']; rfl

/-! ## The dense rows -/

theorem lane_col (c : Fin 50) (y : S16.Idx) : lane (col (ix2 c (y 0))) = y := by
  funext a
  obtain rfl : a = 0 := Subsingleton.elim _ _
  rfl

theorem add_at (f : Vec Ideal S50x16 .f32) (it : IVec S16 32) (v : Vec Ideal S16 .f32) (j : S50x16.Idx) :
    (addAt f it v j : EReal) = if (it (lane (col j))).toNat = (j 0).val then (f j : EReal) + (v (lane (col j)) : EReal) else (f j : EReal) := rfl

theorem dns_succ (eu : Vec Ideal S2048 .f32) (di : Vec Ideal S2048 .i32) (t n : ℕ) :
    dns eu di t (n + 1) = addAt (dns eu di t n) (pick di t n) (pick eu t n) := rfl

theorem dns_at (eu : Vec Ideal S2048 .f32) (di : Vec Ideal S2048 .i32) (t : ℕ) (c : Fin 50) (y : S16.Idx) (n : ℕ) :
    (dns eu di t n (ix2 c (y 0)) : EReal)
      = ∑ k ∈ Finset.range n, if (di (slot t k y)).toNat = c.val then (eu (slot t k y) : EReal) else 0 := by
  induction n with
  | zero =>
    rw [Finset.sum_range_zero]
    exact zero_val
  | succ n ih =>
    have e := add_at (dns eu di t n) (pick di t n) (pick eu t n) (ix2 c (y 0))
    rw [lane_col] at e
    refine (congrFun (dns_succ eu di t n) _).trans (e.trans ?_)
    rw [Finset.sum_range_succ, ← ih]
    unfold pick
    by_cases h : (di (slot t n y)).toNat = c.val
    · exact (if_pos h).trans (congrArg (fun z : EReal => (dns eu di t n (ix2 c (y 0)) : EReal) + z) (if_pos h).symm)
    · exact (if_neg h).trans ((add_zero _).symm.trans (congrArg (fun z : EReal => (dns eu di t n (ix2 c (y 0)) : EReal) + z) (if_neg h).symm))

/-! ## The tile's fetched values, by section -/

/-- The section of lane `x` of trip `t` of tile `w`. -/
abbrev sec (w : Fin 32) (t : Fin 8) (x : Fin 16) : Fin 4096 := ⟨128 * w.val + 16 * t.val + x.val, by omega⟩

section
variable (w : Fin 32) (t : Fin 8) (x : S16.Idx)

theorem slot_val (k : Fin 16) : k0_off1 (tileOf w) 0 + 1 * (slot t.val k.val x 0).val = (sec w t (x 0)).val * 16 + k.val := by
  have hx : (x 0).val < 16 := (x 0).isLt
  have ht := t.isLt
  have hk := k.isLt
  have hs : (slot t.val k.val x 0).val = (16 * t.val + (x 0).val) * 16 + k.val := Nat.mod_eq_of_lt (by omega)
  have ho : k0_off1 (tileOf w) 0 = 4096 * (w.val / 2) + 2048 * (w.val % 2) := by rw [k0_off1_eq]; rfl
  rw [hs, ho]
  show _ = (128 * w.val + 16 * t.val + (x 0).val) * 16 + k.val
  omega

theorem euW_at (E : Vec Ideal S65536 .f32) (k : Fin 16) : euW (tileOf w) E (slot t.val k.val x) = E (at16 (sec w t (x 0)) k) := by
  show E _ = E _
  refine congrArg E (funext fun (a : Fin 1) => Fin.ext ?_)
  obtain rfl : a = 0 := Subsingleton.elim _ _
  exact slot_val w t x k
theorem diW_at (I : Vec Ideal S65536 .i32) (k : Fin 16) : diW (tileOf w) I (slot t.val k.val x) = I (at16 (sec w t (x 0)) k) := by
  show I _ = I _
  refine congrArg I (funext fun (a : Fin 1) => Fin.ext ?_)
  obtain rfl : a = 0 := Subsingleton.elim _ _
  exact slot_val w t x k
theorem clk_at (C : Vec Ideal S4096 .i32) : clk (ciW (tileOf w) C) t.val x = C (ix1 (sec w t (x 0))) := by
  show C _ = C _
  refine congrArg C (funext fun (a : Fin 1) => Fin.ext ?_)
  obtain rfl : a = 0 := Subsingleton.elim _ _
  have hx : (x 0).val < 16 := (x 0).isLt
  have ht := t.isLt
  have hs : (cslot t.val x 0).val = 16 * t.val + (x 0).val := Nat.mod_eq_of_lt (by omega)
  have ho : k0_off2 (tileOf w) 0 = 256 * (w.val / 2) + 128 * (w.val % 2) := by rw [k0_off2_eq]; rfl
  show k0_off2 (tileOf w) 0 + 1 * (cslot t.val x 0).val = 128 * w.val + 16 * t.val + (x 0).val
  rw [hs, ho]
  omega

end

end Cert.Proof.KI

end
-- ==== Proof.Tables.lean ====
/-
  The reference's two tables at an index: each is the sum of the updates that name its row and column.
-/
module

public import Idealize.ShloMosaic.Lib.Pointwise
public import Idealize.ShloMosaic.Lib.IdealHost
public import Idealize.ShloMosaic.Lib.Routing.OpsPair
public import proofs.«01_k».proof.Proof.Rank

@[expose] public section

noncomputable section

namespace Cert.Proof

open Cert.ReferenceIdeal Cert.ReferenceIdeal.Gen
open Idealize.ShloMosaic

/-! ## A scatter of scalars by a list of index pairs -/

section
variable {N : ℕ}

/-- The scatter of `N` scalars into the table, update `n` going to the row and the column that pair `n` names. -/
abbrev PairDims (N : ℕ) : Type := ScatterDims S4096x50 (⟨2, ![N, 2]⟩ : Shape) (⟨1, ![N]⟩ : Shape)

theorem pair_lands (d : PairDims N) (hiw : d.insertedWindowDims = [0, 1]) (hsd : d.scatterDimsToOperandDims = [0, 1])
    (hiv : d.indexVectorDim = 1) (idx : IVec (⟨2, ![N, 2]⟩ : Shape) 32) (n : Fin N) (s : Fin 4096) (c : Fin 50) :
    d.resultIdx? (ix1 n) idx = some (ix2 s c) ↔ (idx (ix2 n 0)).toInt = s.val ∧ (idx (ix2 n 1)).toInt = c.val := by
  have hm : ∀ q : Fin 2, q ∈ d.scatterDimsToOperandDims := fun q => by rw [hsd]; fin_cases q <;> simp
  have hwin : ∀ q : Fin 2, d.window (ix1 n) q = 0 := fun q => by
    unfold ScatterDims.window
    rw [dif_neg fun h => (of_decide_eq_true (List.mem_filter.1 h).2) (by rw [hiw]; fin_cases q <;> simp)]
  have hsi : ∀ q : Fin 2, d.siIdx (ix1 n) ⟨d.scatterDimsToOperandDims.idxOf q, List.idxOf_lt_length_iff.2 (hm q)⟩ = ix2 n q := fun q => by
    funext b
    apply Fin.ext
    match b with
    | ⟨0, _⟩ =>
      unfold ScatterDims.siIdx
      rw [dif_neg (by rw [hiv]; exact (by decide : (0 : ℕ) ≠ 1))]
      unfold ScatterDims.siCoord
      simp only [Fin.val_cast]
      exact congrArg (fun a : Fin 1 => ((ix1 n : (⟨1, ![N]⟩ : Shape).Idx) a).val) (Subsingleton.elim _ 0)
    | ⟨1, _⟩ =>
      unfold ScatterDims.siIdx
      rw [dif_pos (by rw [hiv])]
      show List.idxOf q d.scatterDimsToOperandDims = q.val
      rw [hsd]
      fin_cases q <;> rfl
  have hstart : ∀ q : Fin 2, d.start (ix1 n) idx q = (idx (ix2 n q)).toInt := fun q => by
    unfold ScatterDims.start
    rw [dif_pos (hm q), hsi]
  rw [Routing.resultIdx?_eq_some]
  constructor
  · intro h
    have h0 := h 0
    have h1 := h 1
    rw [hstart, hwin] at h0 h1
    exact ⟨by simpa using h0, by simpa using h1⟩
  · rintro ⟨h0, h1⟩ a
    rw [hstart, hwin]
    match a with
    | ⟨0, _⟩ => simpa using h0
    | ⟨1, _⟩ => simpa using h1

theorem sum_ix1 (f : (⟨1, ![N]⟩ : Shape).Idx → EReal) : ∑ j, f j = ∑ n : Fin N, f (ix1 n) :=
  Fintype.sum_equiv ⟨fun j => j 0, fun n => ix1 n, fun j => (eq_ix1 j).symm, fun _ => rfl⟩ _ _ fun j => congrArg f (eq_ix1 j)

theorem scatter_pairs (d : PairDims N) (hiw : d.insertedWindowDims = [0, 1]) (hsd : d.scatterDimsToOperandDims = [0, 1])
    (hiv : d.indexVectorDim = 1) (x : FVec Ideal S4096x50 .f32) (idx : IVec (⟨2, ![N, 2]⟩ : Shape) 32)
    (u : FVec Ideal (⟨1, ![N]⟩ : Shape) .f32) (s : Fin 4096) (c : Fin 50) :
    (Host.scatterAdd (F := Ideal) d x idx u (ix2 s c) : EReal) = x (ix2 s c)
      + ∑ n : Fin N, if (idx (ix2 n 0)).toInt = s.val ∧ (idx (ix2 n 1)).toInt = c.val then (u (ix1 n) : EReal) else 0 := by
  show (x (ix2 s c) : EReal) + ∑ j ∈ Finset.univ.filter (fun j => d.resultIdx? j idx = some (ix2 s c)), (u j : EReal) = _
  rw [Finset.sum_filter, sum_ix1]
  refine congrArg (fun z : EReal => (x (ix2 s c) : EReal) + z) (Finset.sum_congr rfl fun n _ => ?_)
  have h := pair_lands d hiw hsd hiv idx n s c
  by_cases hp : (idx (ix2 n 0)).toInt = s.val ∧ (idx (ix2 n 1)).toInt = c.val
  · rw [if_pos hp, if_pos (h.mpr hp)]
  · rw [if_neg hp, if_neg (fun e => hp (h.mp e))]

end

/-- A word below 2³¹ is not wrapped. -/
theorem wrap_self {sh : Shape} (h : S_.BroadcastsInDim sh (![] : Fin 0 → Fin sh.rank)) (n : BitVec 32) (x : IVec sh 32) (i : sh.Idx)
    (hx : (x i).toNat < 2 ^ 31) : Ref.wrap h n x i = x i := Routing.wrap_of_lt (x i) _ hx

theorem toInt_eq {v : BitVec 32} (h : v.toNat < 2 ^ 31) : v.toInt = v.toNat := by
  rw [BitVec.toInt_eq_toNat_cond]; simp only [Nat.reducePow] at h ⊢; omega

/-! ## The tables -/

variable (x0 : FVec Ideal S4096x16 .f32) (x1 : FVec Ideal S4096 .f32) (x2 : IVec S4096x2 32) (x3 : IVec S40960x2 32)

/-- The dispatches' table: row `s`, column `c` sums what section `s` gives its ten items where the item is `c`. -/
def tab (s : Fin 4096) (c : Fin 50) : EReal :=
  ∑ k : Fin 10, if (x3 (ix2 ⟨s.val * 10 + k.val, by omega⟩ 1)).toNat = c.val then (x0 (ix2 s (k.castLE (by decide))) : EReal) else 0

theorem ind_pair {a b : BitVec 32} {n s c : ℕ} (ha : a.toNat = n) (hn : n < 2 ^ 31) (hb : b.toNat < 50) :
    (a.toInt = (s : ℤ) ∧ b.toInt = (c : ℤ)) ↔ (n = s ∧ b.toNat = c) := by
  rw [toInt_eq (ha ▸ hn), toInt_eq (lt_trans hb (by norm_num)), ha]
  exact and_congr Nat.cast_inj Nat.cast_inj

theorem click_at (hr : ∀ n : Fin 4096, x2 (ix2 n 0) = BitVec.ofNat 32 n.val) (hi : ∀ n : Fin 4096, (x2 (ix2 n 1)).toNat < 50)
    (s : Fin 4096) (c : Fin 50) :
    (Ref.click (F := Ideal) x1 x2 (ix2 s c) : EReal) = if (x2 (ix2 s 1)).toNat = c.val then (x1 (ix1 s) : EReal) else 0 := by
  have hr' : ∀ n : Fin 4096, (x2 (ix2 n 0)).toNat = n.val := fun n => by
    rw [hr, BitVec.toNat_ofNat]; exact Nat.mod_eq_of_lt (by omega)
  have e0 : ∀ n : Fin 4096, shapeCast S4096 (extractStridedSlice S4096x1 ![0, 0] x2 slices_S4096x2_S4096x1_0_0) shapeCasts_S4096x1_S4096 (ix1 n) = x2 (ix2 n 0) := fun n => by pointwise
  have e1 : ∀ n : Fin 4096, shapeCast S4096 (extractStridedSlice S4096x1 ![0, 1] x2 slices_S4096x2_S4096x1_0_1) shapeCasts_S4096x1_S4096 (ix1 n) = x2 (ix2 n 1) := fun n => by pointwise
  have z : (broadcastInDim S4096x50 ![] bcast_S_S4096x50 (constant (F := Ideal) S_ .f32 0x00000000#32) (ix2 s c) : EReal) = 0 := Ideal.ofBits_zero_f32
  unfold Ref.click
  generalize hy0 : shapeCast S4096 (extractStridedSlice S4096x1 ![0, 0] x2 slices_S4096x2_S4096x1_0_0) shapeCasts_S4096x1_S4096 = y0 at e0 ⊢
  generalize hy1 : shapeCast S4096 (extractStridedSlice S4096x1 ![0, 1] x2 slices_S4096x2_S4096x1_0_1) shapeCasts_S4096x1_S4096 = y1 at e1 ⊢
  have w0 : ∀ n : Fin 4096, Ref.wrap bcast_S_S4096 4096#32 y0 (ix1 n) = x2 (ix2 n 0) := fun n =>
    (wrap_self _ _ _ _ (by rw [e0, hr']; omega)).trans (e0 n)
  have w1 : ∀ n : Fin 4096, Ref.wrap bcast_S_S4096 50#32 y1 (ix1 n) = x2 (ix2 n 1) := fun n =>
    (wrap_self _ _ _ _ (by rw [e1]; exact lt_trans (hi n) (by norm_num))).trans (e1 n)
  generalize Ref.wrap bcast_S_S4096 4096#32 y0 = z0 at w0 ⊢
  generalize Ref.wrap bcast_S_S4096 50#32 y1 = z1 at w1 ⊢
  have c0 : ∀ n : Fin 4096, concatenate S4096x2 1 [⟨S4096x1, broadcastInDim S4096x1 ![0] bcast_S4096_S4096x1_0 z0⟩,
      ⟨S4096x1, broadcastInDim S4096x1 ![0] bcast_S4096_S4096x1_0 z1⟩] concatenates_S4096x1_S4096x1_S4096x2_d1 (ix2 n 0) = z0 (ix1 n) := fun n => by pointwise
  have c1 : ∀ n : Fin 4096, concatenate S4096x2 1 [⟨S4096x1, broadcastInDim S4096x1 ![0] bcast_S4096_S4096x1_0 z0⟩,
      ⟨S4096x1, broadcastInDim S4096x1 ![0] bcast_S4096_S4096x1_0 z1⟩] concatenates_S4096x1_S4096x1_S4096x2_d1 (ix2 n 1) = z1 (ix1 n) := fun n => by pointwise
  refine (scatter_pairs _ rfl rfl rfl _ _ x1 s c).trans ?_
  rw [z, zero_add]
  have key : ∀ n : Fin 4096, (if (concatenate S4096x2 1 [⟨S4096x1, broadcastInDim S4096x1 ![0] bcast_S4096_S4096x1_0 z0⟩,
      ⟨S4096x1, broadcastInDim S4096x1 ![0] bcast_S4096_S4096x1_0 z1⟩] concatenates_S4096x1_S4096x1_S4096x2_d1 (ix2 n 0)).toInt = s.val
      ∧ (concatenate S4096x2 1 [⟨S4096x1, broadcastInDim S4096x1 ![0] bcast_S4096_S4096x1_0 z0⟩,
      ⟨S4096x1, broadcastInDim S4096x1 ![0] bcast_S4096_S4096x1_0 z1⟩] concatenates_S4096x1_S4096x1_S4096x2_d1 (ix2 n 1)).toInt = c.val
      then (x1 (ix1 n) : EReal) else 0) = if n = s then (if (x2 (ix2 n 1)).toNat = c.val then (x1 (ix1 n) : EReal) else 0) else 0 := fun n => by
    rw [c0, c1, w0, w1]
    have hp := ind_pair (s := s.val) (c := c.val) (hr' n) (by omega) (hi n)
    by_cases h : n = s
    · rw [if_pos h]
      exact if_congr (hp.trans ⟨fun q => q.2, fun q => ⟨congrArg Fin.val h, q⟩⟩) rfl rfl
    · rw [if_neg h, if_neg fun q => h (Fin.ext (hp.mp q).1)]
  refine (Finset.sum_congr rfl fun n _ => key n).trans ?_
  rw [Finset.sum_ite_eq' Finset.univ s, if_pos (Finset.mem_univ s)]

/-- Update `n` of the dispatches is item `n % 10` of section `n / 10`. -/
def slots : Fin 4096 × Fin 10 ≃ Fin 40960 where
  toFun p := ⟨p.1.val * 10 + p.2.val, by omega⟩
  invFun n := (⟨n.val / 10, by omega⟩, ⟨n.val % 10, by omega⟩)
  left_inv p := by
    obtain ⟨a, b⟩ := p
    exact Prod.ext (Fin.ext (by show (a.val * 10 + b.val) / 10 = a.val; omega)) (Fin.ext (by show (a.val * 10 + b.val) % 10 = b.val; omega))
  right_inv n := Fin.ext (by show n.val / 10 * 10 + n.val % 10 = n.val; omega)

theorem disp_at (hr : ∀ (a : Fin 4096) (k : Fin 10), x3 (ix2 (slots (a, k)) 0) = BitVec.ofNat 32 a.val)
    (hi : ∀ n : Fin 40960, (x3 (ix2 n 1)).toNat < 50) (s : Fin 4096) (c : Fin 50) :
    (Ref.disp (F := Ideal) x0 x3 (ix2 s c) : EReal) = tab x0 x3 s c := by
  have hr' : ∀ (a : Fin 4096) (k : Fin 10), (x3 (ix2 (slots (a, k)) 0)).toNat = a.val := fun a k => by
    rw [hr, BitVec.toNat_ofNat]; exact Nat.mod_eq_of_lt (by omega)
  have hr2 : ∀ n : Fin 40960, (x3 (ix2 n 0)).toNat < 4096 := fun n => by
    obtain ⟨⟨a, k⟩, rfl⟩ := slots.surjective n
    rw [hr']; exact a.isLt
  have e0 : ∀ n : Fin 40960, shapeCast S40960 (extractStridedSlice S40960x1 ![0, 0] x3 slices_S40960x2_S40960x1_0_0) shapeCasts_S40960x1_S40960 (ix1 n) = x3 (ix2 n 0) := fun n => by pointwise
  have e1 : ∀ n : Fin 40960, shapeCast S40960 (extractStridedSlice S40960x1 ![0, 1] x3 slices_S40960x2_S40960x1_0_1) shapeCasts_S40960x1_S40960 (ix1 n) = x3 (ix2 n 1) := fun n => by pointwise
  have eu : ∀ (a : Fin 4096) (k : Fin 10), shapeCast S40960 (extractStridedSlice S4096x10 ![0, 0] x0 slices_S4096x16_S4096x10_0_0) shapeCasts_S4096x10_S40960
      (ix1 (slots (a, k))) = x0 (ix2 a (k.castLE (by decide))) := fun a k => by
    refine congrArg (extractStridedSlice S4096x10 ![0, 0] x0 slices_S4096x16_S4096x10_0_0)
      (Shape.reshapeEquiv_eq_of_vals _ _ (ix2 a k) (a.val * 10 + k.val) (a.val * 10 + k.val) ?_ ?_ rfl) |>.trans ?_
    · exact rowMajor_val2 _ 10 rfl
    · exact rowMajor_val1 _
    · pointwise
      rfl
  have z : (broadcastInDim S4096x50 ![] bcast_S_S4096x50 (constant (F := Ideal) S_ .f32 0x00000000#32) (ix2 s c) : EReal) = 0 := Ideal.ofBits_zero_f32
  unfold Ref.disp
  generalize shapeCast S40960 (extractStridedSlice S40960x1 ![0, 0] x3 slices_S40960x2_S40960x1_0_0) shapeCasts_S40960x1_S40960 = y0 at e0 ⊢
  generalize shapeCast S40960 (extractStridedSlice S40960x1 ![0, 1] x3 slices_S40960x2_S40960x1_0_1) shapeCasts_S40960x1_S40960 = y1 at e1 ⊢
  generalize shapeCast S40960 (extractStridedSlice S4096x10 ![0, 0] x0 slices_S4096x16_S4096x10_0_0) shapeCasts_S4096x10_S40960 = u at eu ⊢
  have w0 : ∀ n : Fin 40960, Ref.wrap bcast_S_S40960 4096#32 y0 (ix1 n) = x3 (ix2 n 0) := fun n =>
    (wrap_self _ _ _ _ (by rw [e0]; exact lt_trans (hr2 n) (by norm_num))).trans (e0 n)
  have w1 : ∀ n : Fin 40960, Ref.wrap bcast_S_S40960 50#32 y1 (ix1 n) = x3 (ix2 n 1) := fun n =>
    (wrap_self _ _ _ _ (by rw [e1]; exact lt_trans (hi n) (by norm_num))).trans (e1 n)
  generalize Ref.wrap bcast_S_S40960 4096#32 y0 = z0 at w0 ⊢
  generalize Ref.wrap bcast_S_S40960 50#32 y1 = z1 at w1 ⊢
  refine (scatter_pairs _ rfl rfl rfl _ _ u s c).trans ?_
  rw [z, zero_add, ← slots.sum_comp, Fintype.sum_prod_type]
  have c0 : ∀ n : Fin 40960, concatenate S40960x2 1 [⟨S40960x1, broadcastInDim S40960x1 ![0] bcast_S40960_S40960x1_0 z0⟩,
      ⟨S40960x1, broadcastInDim S40960x1 ![0] bcast_S40960_S40960x1_0 z1⟩] concatenates_S40960x1_S40960x1_S40960x2_d1 (ix2 n 0) = z0 (ix1 n) := fun n => by pointwise
  have c1 : ∀ n : Fin 40960, concatenate S40960x2 1 [⟨S40960x1, broadcastInDim S40960x1 ![0] bcast_S40960_S40960x1_0 z0⟩,
      ⟨S40960x1, broadcastInDim S40960x1 ![0] bcast_S40960_S40960x1_0 z1⟩] concatenates_S40960x1_S40960x1_S40960x2_d1 (ix2 n 1) = z1 (ix1 n) := fun n => by pointwise
  have key : ∀ a : Fin 4096, (∑ k : Fin 10, if (concatenate S40960x2 1 [⟨S40960x1, broadcastInDim S40960x1 ![0] bcast_S40960_S40960x1_0 z0⟩,
      ⟨S40960x1, broadcastInDim S40960x1 ![0] bcast_S40960_S40960x1_0 z1⟩] concatenates_S40960x1_S40960x1_S40960x2_d1 (ix2 (slots (a, k)) 0)).toInt = s.val
      ∧ (concatenate S40960x2 1 [⟨S40960x1, broadcastInDim S40960x1 ![0] bcast_S40960_S40960x1_0 z0⟩,
      ⟨S40960x1, broadcastInDim S40960x1 ![0] bcast_S40960_S40960x1_0 z1⟩] concatenates_S40960x1_S40960x1_S40960x2_d1 (ix2 (slots (a, k)) 1)).toInt = c.val
      then (u (ix1 (slots (a, k))) : EReal) else 0) = if a = s then tab x0 x3 a c else 0 := fun a => by
    by_cases h : a = s
    · rw [if_pos h]
      refine Finset.sum_congr rfl fun k _ => ?_
      rw [c0, c1, w0, w1, eu]
      have hp := ind_pair (s := s.val) (c := c.val) (hr' a k) (by omega) (hi (slots (a, k)))
      exact if_congr (hp.trans ⟨fun q => q.2, fun q => ⟨congrArg Fin.val h, q⟩⟩) rfl rfl
    · rw [if_neg h]
      refine Finset.sum_eq_zero fun k _ => ?_
      rw [c0, c1, w0, w1]
      have hp := ind_pair (s := s.val) (c := c.val) (hr' a k) (by omega) (hi (slots (a, k)))
      exact if_neg fun q => h (Fin.ext (hp.mp q).1)
  refine (Finset.sum_congr rfl fun a _ => key a).trans ?_
  rw [Finset.sum_ite_eq' Finset.univ s, if_pos (Finset.mem_univ s)]

/-- The table of the dispatches is nonnegative when its updates are. -/
theorem tab_nonneg (h : ∀ (s : Fin 4096) (k : Fin 10), (0 : EReal) ≤ x0 (ix2 s (k.castLE (by decide)))) (s : Fin 4096) (c : Fin 50) :
    0 ≤ tab x0 x3 s c := by
  refine Finset.sum_nonneg fun k _ => ?_
  by_cases e : (x3 (ix2 ⟨s.val * 10 + k.val, by omega⟩ 1)).toNat = c.val
  · rw [if_pos e]; exact h s k
  · rw [if_neg e]

end Cert.Proof

end
-- ==== Proof.Value.lean ====
/-
  The two counts: the kernel's sums over its tiles and the reference's over the sections are sums of the same indicators.
-/
module

public import Idealize.ShloMosaic.Lib.IndicatorCount
public import proofs.«01_k».proof.Proof.KRank
public import proofs.«01_k».proof.Proof.Tables

@[expose] public section

noncomputable section

namespace Cert.Proof

open Idealize.ShloMosaic
open Cert.Proof.KI (ind)

/-! ## What the preconditions say of the arguments -/

/-- The arguments' pairs name each section in turn and an item below 50; clicks are positive, and what an item is given is nonnegative. -/
structure Good (x0 : FVec Ideal Cert.ReferenceIdeal.S4096x16 .f32) (x1 : FVec Ideal Cert.ReferenceIdeal.S4096 .f32)
    (x2 : IVec Cert.ReferenceIdeal.S4096x2 32) (x3 : IVec Cert.ReferenceIdeal.S40960x2 32) : Prop where
  crow : ∀ n : Fin 4096, x2 (ix2 n 0) = BitVec.ofNat 32 n.val
  citem : ∀ n : Fin 4096, (x2 (ix2 n 1)).toNat < 50
  drow : ∀ (a : Fin 4096) (k : Fin 10), x3 (ix2 (slots (a, k)) 0) = BitVec.ofNat 32 a.val
  ditem : ∀ n : Fin 40960, (x3 (ix2 n 1)).toNat < 50
  pos : ∀ n : Fin 4096, (0 : EReal) < x1 (ix1 n)
  nonneg : ∀ (s : Fin 4096) (k : Fin 10), (0 : EReal) ≤ x0 (ix2 s (k.castLE (by decide)))

/-! ## A count of words as a sum of indicators -/

theorem cast_count (n : ℕ) (hn : n < 2 ^ 31) : (((BitVec.ofNat 32 n).toInt : ℝ) : EReal) = (n : EReal) := by
  have h : (BitVec.ofNat 32 n).toInt = n := by
    rw [BitVec.toInt_eq_toNat_cond, BitVec.toNat_ofNat]
    simp only [Nat.reducePow] at hn ⊢
    omega
  rw [h]
  rfl

theorem count_sum {sh : Shape} {axes : List (Fin sh.rank)} (h : sh.ReducesTo axes Cert.ReferenceIdeal.S_) (b : IVec sh 1)
    (hc : Fintype.card sh.Idx < 2 ^ 31) (hw : 1 < 32) (j : Cert.ReferenceIdeal.S_.Idx) :
    (sitofp (F := Ideal) .f32 (Host.reduce IntOp.addi (extui 32 b hw) (constantI Cert.ReferenceIdeal.S_ 32 0#32) h
      Cert.ReferenceIdeal.Gen.h_S_) j : EReal) = ∑ i, ind (b i = 1#1) := by
  have e : Host.reduce IntOp.addi (extui 32 b hw) (constantI Cert.ReferenceIdeal.S_ 32 0#32) h Cert.ReferenceIdeal.Gen.h_S_ j
      = BitVec.ofNat 32 (Finset.univ.filter fun i => b i = 1#1).card := by
    rw [Host.reduce_eq_fold, Finset.filter_true_of_mem fun i _ => funext fun a => a.elim0]
    exact IndicatorCount.fold_addi_setWidth_eq_card b Finset.univ
  show (((Host.reduce IntOp.addi (extui 32 b hw) (constantI Cert.ReferenceIdeal.S_ 32 0#32) h Cert.ReferenceIdeal.Gen.h_S_ j).toInt : ℝ) : EReal) = _
  rw [e, cast_count _ (lt_of_le_of_lt (Finset.card_filter_le _ _) hc)]
  unfold ind
  rw [Finset.sum_boole]

/-! ## The reference's results -/

section
open Cert.ReferenceIdeal Cert.ReferenceIdeal.Gen

variable {x0 : FVec Ideal S4096x16 .f32} {x1 : FVec Ideal S4096 .f32} {x2 : IVec S4096x2 32} {x3 : IVec S40960x2 32}

theorem best_click (G : Good x0 x1 x2 x3) (s : Fin 4096) : Ref.best (F := Ideal) (Ref.click (F := Ideal) x1 x2) (ix1 s) = x2 (ix2 s 1) := by
  have hat : ∀ (s : Fin 4096) (c : Fin 50), (Ref.click (F := Ideal) x1 x2 (ix2 s c) : EReal) = if (x2 (ix2 s 1)).toNat = c.val then (x1 (ix1 s) : EReal) else 0 :=
    click_at x1 x2 G.crow G.citem
  have h0 : ∀ j, (0 : EReal) ≤ Ref.click (F := Ideal) x1 x2 j := fun j => by
    rw [eq_ix2 j]
    refine le_of_le_of_eq ?_ (hat (j 0) (j 1)).symm
    by_cases h : (x2 (ix2 (j 0) 1)).toNat = (j 1).val
    · exact le_of_le_of_eq (G.pos (j 0)).le (if_pos h).symm
    · exact le_of_eq (if_neg h).symm
  obtain ⟨p, hp, e⟩ := best_first (Ref.click (F := Ideal) x1 x2) h0 s
  have hF : First (rowOf (Ref.click (F := Ideal) x1 x2) s) ⟨(x2 (ix2 s 1)).toNat, G.citem s⟩ := fun c hc => by
    refine Or.inl ?_
    unfold rowOf
    rw [hat, hat, if_pos rfl, if_neg fun h => hc (Fin.ext h.symm)]
    exact G.pos s
  rw [e, hp.unique hF]
  refine BitVec.eq_of_toNat_eq ?_
  rw [word_toNat]

/-- What the reference chooses in section `s`. -/
theorem choices (G : Good x0 x1 x2 x3) (s : Fin 4096) : ∃ p q, First (tab x0 x3 s) p ∧ Second (tab x0 x3 s) p q
    ∧ Ref.best (F := Ideal) (Ref.disp (F := Ideal) x0 x3) (ix1 s) = word p
    ∧ Ref.best2 (F := Ideal) (Ref.disp (F := Ideal) x0 x3) (ix2 s 0) = word p
    ∧ Ref.best2 (F := Ideal) (Ref.disp (F := Ideal) x0 x3) (ix2 s 1) = word q := by
  have hrow : ∀ s, rowOf (Ref.disp (F := Ideal) x0 x3) s = tab x0 x3 s := fun s => funext fun c => disp_at x0 x3 G.drow G.ditem s c
  have h0 : ∀ j, (0 : EReal) ≤ Ref.disp (F := Ideal) x0 x3 j := fun j => by
    rw [eq_ix2 j]
    exact le_of_le_of_eq (tab_nonneg x0 x3 G.nonneg (j 0) (j 1)) (disp_at x0 x3 G.drow G.ditem (j 0) (j 1)).symm
  obtain ⟨p, hp, e⟩ := best_first (Ref.disp (F := Ideal) x0 x3) h0 s
  obtain ⟨p', q, hp', hq, e0, e1⟩ := best2_first (Ref.disp (F := Ideal) x0 x3) s
  obtain rfl := hp.unique hp'
  rw [hrow] at hp hq
  exact ⟨p, q, hp, hq, e, e0, e1⟩

/-- The section's two choices, as places. -/
def fst (G : Good x0 x1 x2 x3) (s : Fin 4096) : Fin 50 := (choices G s).choose
def snd (G : Good x0 x1 x2 x3) (s : Fin 4096) : Fin 50 := (choices G s).choose_spec.choose
theorem choices_spec (G : Good x0 x1 x2 x3) (s : Fin 4096) : First (tab x0 x3 s) (fst G s) ∧ Second (tab x0 x3 s) (fst G s) (snd G s)
    ∧ Ref.best (F := Ideal) (Ref.disp (F := Ideal) x0 x3) (ix1 s) = word (fst G s)
    ∧ Ref.best2 (F := Ideal) (Ref.disp (F := Ideal) x0 x3) (ix2 s 0) = word (fst G s)
    ∧ Ref.best2 (F := Ideal) (Ref.disp (F := Ideal) x0 x3) (ix2 s 1) = word (snd G s) := (choices G s).choose_spec.choose_spec

theorem eq_one {a b : BitVec 32} : IntOp.cmpi .eq a b = 1#1 ↔ a = b := by
  show BitVec.ofBool (a == b) = 1#1 ↔ _
  rw [ofBool_one, beq_iff_eq]

theorem ind_congr {P Q : Prop} [Decidable P] [Decidable Q] (h : P ↔ Q) : ind P = ind Q := if_congr h rfl rfl

theorem card1 : Fintype.card S4096.Idx < 2 ^ 31 := by
  rw [Fintype.card_congr (⟨fun j => j 0, fun n => ix1 n, fun j => (eq_ix1 j).symm, fun _ => rfl⟩ : S4096.Idx ≃ Fin 4096), Fintype.card_fin]
  norm_num
/-- A pair of coordinates as an index. -/
def pairs {A B : ℕ} : (⟨2, ![A, B]⟩ : Shape).Idx ≃ Fin A × Fin B := ⟨fun j => (j 0, j 1), fun p => ix2 p.1 p.2, fun j => (eq_ix2 j).symm, fun _ => rfl⟩
theorem card2 : Fintype.card S4096x2.Idx < 2 ^ 31 := by
  rw [Fintype.card_congr (pairs (A := 4096) (B := 2)), Fintype.card_prod, Fintype.card_fin, Fintype.card_fin]
  norm_num

theorem res1_sum (G : Good x0 x1 x2 x3) (j : S_.Idx) :
    (Ref.res1 (F := Ideal) (Ref.click (F := Ideal) x1 x2) (Ref.disp (F := Ideal) x0 x3) j : EReal) = ∑ s : Fin 4096, ind (word (fst G s) = x2 (ix2 s 1)) := by
  unfold Ref.res1
  refine (count_sum _ _ card1 _ j).trans ((sum_ix1 _).trans (Finset.sum_congr rfl fun s _ => ind_congr ?_))
  refine (eq_one (a := Ref.best (F := Ideal) (Ref.click (F := Ideal) x1 x2) (ix1 s)) (b := Ref.best (F := Ideal) (Ref.disp (F := Ideal) x0 x3) (ix1 s))).trans ?_
  rw [best_click G, (choices_spec G s).2.2.1]
  exact eq_comm

theorem res2_sum (G : Good x0 x1 x2 x3) (j : S_.Idx) :
    (Ref.res2 (F := Ideal) (Ref.click (F := Ideal) x1 x2) (Ref.disp (F := Ideal) x0 x3) j : EReal)
      = ∑ s : Fin 4096, ind (word (fst G s) = x2 (ix2 s 1) ∨ word (snd G s) = x2 (ix2 s 1)) := by
  unfold Ref.res2
  have hb : ∀ (s : Fin 4096) (r : Fin 2), broadcastInDim S4096x2 ![0, 1] bcast_S4096x1_S4096x2_0_1
      (broadcastInDim S4096x1 ![0] bcast_S4096_S4096x1_0 (Ref.best (F := Ideal) (Ref.click (F := Ideal) x1 x2))) (ix2 s r) = x2 (ix2 s 1) := fun s r => by
    refine Eq.trans ?_ (best_click G s)
    pointwise
  refine (count_sum _ _ card2 _ j).trans ((Fintype.sum_equiv pairs _ (fun p : Fin 4096 × Fin 2 =>
    ind (x2 (ix2 p.1 1) = Ref.best2 (F := Ideal) (Ref.disp (F := Ideal) x0 x3) (ix2 p.1 p.2))) fun i => ind_congr ?_).trans ?_)
  · refine eq_one.trans ?_
    obtain ⟨⟨s, r⟩, rfl⟩ := pairs.symm.surjective i
    exact Eq.congr_left (hb s r)
  · rw [Fintype.sum_prod_type]
    refine Finset.sum_congr rfl fun s _ => ?_
    rw [Fin.sum_univ_two]
    obtain ⟨-, hq, -, e0, e1⟩ := choices_spec G s
    rw [e0, e1]
    unfold ind
    by_cases h : word (fst G s) = x2 (ix2 s 1)
    · have h' : ¬ word (snd G s) = x2 (ix2 s 1) := fun e => hq.1 (word_inj.mp (e.trans h.symm))
      rw [if_pos h.symm, if_neg (Ne.symm h'), if_pos (Or.inl h), add_zero]
    · by_cases h' : word (snd G s) = x2 (ix2 s 1)
      · rw [if_neg (Ne.symm h), if_pos h'.symm, if_pos (Or.inr h'), zero_add]
      · rw [if_neg (Ne.symm h), if_neg (Ne.symm h'), if_neg (fun e => e.elim h h'), add_zero]

end

/-! ## The kernel's results -/

namespace KI
open Cert.KernelIdeal Cert.KernelIdeal.Gen

variable (m : (ℓ : Loc nD τ sig) → Buf (Elt Ideal) ℓ) (d : Dev nD)

section
variable (w : Fin 32) (t : Fin 8) (x : S16.Idx)

/-- The dense rows of a trip are the sections' rows of the dispatches' table. -/
theorem dense_tab (c : Fin 50) : (row (dns (euW (tileOf w) (cE m d)) (diW (tileOf w) (cI m d)) t.val 10) c.val x : EReal)
    = tab (a0 m d) (a3 m d) (sec w t (x 0)) c := by
  refine (row_at _ c x).trans ((dns_at _ _ t.val c x 10).trans ?_)
  rw [Finset.sum_range]
  refine Finset.sum_congr rfl fun k _ => ?_
  have hk : k.val < 16 := by omega
  have e1 : euW (tileOf w) (cE m d) (slot t.val k.val x) = a0 m d (ix2 (sec w t (x 0)) (k.castLE (by decide))) :=
    (euW_at w t x (cE m d) ⟨k.val, hk⟩).trans (cE_at m d _ _)
  have e2 : diW (tileOf w) (cI m d) (slot t.val k.val x) = a3 m d (ix2 ⟨(sec w t (x 0)).val * 10 + k.val, by omega⟩ 1) :=
    (diW_at w t x (cI m d) ⟨k.val, hk⟩).trans (cI_at m d _ _ k.isLt)
  rw [e1, e2]

variable {m d} (G : Good (a0 m d) (a1 m d) (a2 m d) (a3 m d))

theorem click_sec : clk (ciW (tileOf w) (cC m d)) t.val x = a2 m d (ix2 (sec w t (x 0)) 1) :=
  (clk_at w t x (cC m d)).trans (cC_at m d _)

include G in
theorem hit1_sec : (hit1 (dns (euW (tileOf w) (cE m d)) (diW (tileOf w) (cI m d)) t.val 10) (clk (ciW (tileOf w) (cC m d)) t.val) x : EReal)
    = ind (word (fst G (sec w t (x 0))) = a2 m d (ix2 (sec w t (x 0)) 1)) := by
  obtain ⟨hp, -⟩ := choices_spec G (sec w t (x 0))
  rw [hit1_at, click_sec, arg1_word _ x _ (dense_tab m d w t x) _ hp]

include G in
theorem hit2_sec : (hit2 (dns (euW (tileOf w) (cE m d)) (diW (tileOf w) (cI m d)) t.val 10) (clk (ciW (tileOf w) (cC m d)) t.val) x : EReal)
    = ind (word (fst G (sec w t (x 0))) = a2 m d (ix2 (sec w t (x 0)) 1) ∨ word (snd G (sec w t (x 0))) = a2 m d (ix2 (sec w t (x 0)) 1)) := by
  obtain ⟨hp, hq, -⟩ := choices_spec G (sec w t (x 0))
  rw [hit2_at, click_sec, arg1_word _ x _ (dense_tab m d w t x) _ hp,
    arg2_word _ x _ (dense_tab m d w t x) (tab_nonneg _ _ G.nonneg _) _ _ hp hq]

end

theorem cnt_sum (eu : Vec Ideal S2048 .f32) (di : Vec Ideal S2048 .i32) (ci : Vec Ideal S128 .i32) (x : S16.Idx) (n : ℕ) :
    ((cnt eu di ci n).1 x : EReal) = ∑ t ∈ Finset.range n, (hit1 (dns eu di t 10) (clk ci t) x : EReal)
    ∧ ((cnt eu di ci n).2 x : EReal) = ∑ t ∈ Finset.range n, (hit2 (dns eu di t 10) (clk ci t) x : EReal) := by
  induction n with
  | zero => exact ⟨zero_val, zero_val⟩
  | succ n ih =>
    rw [Finset.sum_range_succ, Finset.sum_range_succ, ← ih.1, ← ih.2]
    exact ⟨rfl, rfl⟩

/-- Each section is one lane of one trip of one tile. -/
def secs : S32x16.Idx × Fin 8 ≃ Fin 4096 where
  toFun p := sec (p.1 0) p.2 (p.1 1)
  invFun s := (ix2 ⟨s.val / 128, by omega⟩ ⟨s.val % 16, by omega⟩, ⟨s.val % 128 / 16, by omega⟩)
  left_inv p := by
    obtain ⟨i, t⟩ := p
    have h1 : (i 1).val < 16 := (i 1).isLt
    have ht := t.isLt
    refine Prod.ext ((funext fun a => ?_ : ix2 _ _ = i)) (Fin.ext ?_)
    · match a with
      | 0 => exact Fin.ext (show (128 * (i 0).val + 16 * t.val + (i 1).val) / 128 = (i 0).val by omega)
      | 1 => exact Fin.ext (show (128 * (i 0).val + 16 * t.val + (i 1).val) % 16 = (i 1).val by omega)
    · show (128 * (i 0).val + 16 * t.val + (i 1).val) % 128 / 16 = t.val
      omega
  right_inv s := Fin.ext (by
    show 128 * (s.val / 128) + 16 * (s.val % 128 / 16) + s.val % 16 = s.val
    omega)

theorem sum_secs (f : Fin 4096 → EReal) (g : S32x16.Idx → EReal)
    (h : ∀ i : S32x16.Idx, g i = ∑ t : Fin 8, f (sec (i 0) t (i 1))) : ∑ i, g i = ∑ s, f s := by
  rw [← secs.sum_comp f, Fintype.sum_prod_type]
  exact Finset.sum_congr rfl fun i _ => h i

theorem slice1_at (o : Vec Ideal S32x2x16 .f32) (i : S32x16.Idx) :
    shapeCast S32x16 (extractStridedSlice S32x1x16 ![0, 0, 0] o slices_S32x2x16_S32x1x16_0_0_0) shapeCasts_S32x1x16_S32x16 i = o (ix3 (i 0) 0 (i 1)) := by
  rw [eq_ix2 i]
  pointwise
theorem slice2_at (o : Vec Ideal S32x2x16 .f32) (i : S32x16.Idx) :
    shapeCast S32x16 (extractStridedSlice S32x1x16 ![0, 1, 0] o slices_S32x2x16_S32x1x16_0_1_0) shapeCasts_S32x1x16_S32x16 i = o (ix3 (i 0) 1 (i 1)) := by
  rw [eq_ix2 i]
  pointwise

theorem out1_at (E : Vec Ideal S65536 .f32) (I : Vec Ideal S65536 .i32) (C : Vec Ideal S4096 .i32) (w : Fin 32) (y : Fin 16) :
    outB E I C (ix3 w 0 y) = (cnt (euW (tileOf w) E) (diW (tileOf w) I) (ciW (tileOf w) C) 8).1 (lane y) := by
  unfold outB blk
  exact if_pos rfl
theorem out2_at (E : Vec Ideal S65536 .f32) (I : Vec Ideal S65536 .i32) (C : Vec Ideal S4096 .i32) (w : Fin 32) (y : Fin 16) :
    outB E I C (ix3 w 1 y) = (cnt (euW (tileOf w) E) (diW (tileOf w) I) (ciW (tileOf w) C) 8).2 (lane y) := by
  unfold outB blk
  exact if_neg Nat.one_ne_zero

variable {m d} (G : Good (a0 m d) (a1 m d) (a2 m d) (a3 m d))

theorem v11_sum (j : S_.Idx) : ((VC m d (Proc.devRef .tc (main_v11 : Ref sig .tc)) : Vec Ideal S_ .f32) j : EReal)
    = ∑ s : Fin 4096, ind (word (fst G s) = a2 m d (ix2 s 1)) := by
  rw [v11_eq]
  refine (Ideal.hostReduceAdd_total reducesTo_S32x16_S_d0_1 (fun b => b.elim0) _ _ j).trans ?_
  refine (congrArg (fun z : EReal => z + _) Ideal.ofBits_zero_f32).trans ((zero_add _).trans (sum_secs _ _ fun i => ?_))
  refine (slice1_at _ i).trans ((out1_at _ _ _ (i 0) (i 1)).trans ((cnt_sum _ _ _ _ 8).1.trans ?_))
  rw [Finset.sum_range]
  exact Finset.sum_congr rfl fun t _ => hit1_sec (i 0) t (lane (i 1)) G

theorem v14_sum (j : S_.Idx) : ((VC m d (Proc.devRef .tc (main_v14 : Ref sig .tc)) : Vec Ideal S_ .f32) j : EReal)
    = ∑ s : Fin 4096, ind (word (fst G s) = a2 m d (ix2 s 1) ∨ word (snd G s) = a2 m d (ix2 s 1)) := by
  rw [v14_eq]
  refine (Ideal.hostReduceAdd_total reducesTo_S32x16_S_d0_1 (fun b => b.elim0) _ _ j).trans ?_
  refine (congrArg (fun z : EReal => z + _) Ideal.ofBits_zero_f32).trans ((zero_add _).trans (sum_secs _ _ fun i => ?_))
  refine (slice2_at _ i).trans ((out2_at _ _ _ (i 0) (i 1)).trans ((cnt_sum _ _ _ _ 8).2.trans ?_))
  rw [Finset.sum_range]
  exact Finset.sum_congr rfl fun t _ => hit2_sec (i 0) t (lane (i 1)) G

end KI

end Cert.Proof

end
-- ==== Proof.Main.lean ====
/-
  The value claim: from the preconditions on the arguments, the two runs' counts agree.
-/
module

public import proofs.«01_k».proof.Proof.Frames
public import proofs.«01_k».proof.Proof.Value
public import proofs.«01_k».proof.Proof.Gen.Pre_ranking_inputs

@[expose] public section

noncomputable section

namespace Cert.Proof

open Idealize.ShloMosaic Idealize.SL.Sem

section
open Cert.Pre_ranking_inputs Cert.Pre_ranking_inputs.Facts

theorem good_of_ranking (x0 : FVec Ideal S4096x16 .f32) (x1 : FVec Ideal S4096 .f32) (x2 : IVec S4096x2 32) (x3 : IVec S40960x2 32)
    (h : (fn (F := Ideal) x0 x1 x2 x3).1 = (fun _ => 1#1) ∧ (fn (F := Ideal) x0 x1 x2 x3).2.1 = (fun _ => 1#1)
      ∧ (fn (F := Ideal) x0 x1 x2 x3).2.2.1 = (fun _ => 1#1) ∧ (fn (F := Ideal) x0 x1 x2 x3).2.2.2.1 = (fun _ => 1#1)
      ∧ (fn (F := Ideal) x0 x1 x2 x3).2.2.2.2.1 = (fun _ => 1#1) ∧ (fn (F := Ideal) x0 x1 x2 x3).2.2.2.2.2.1 = (fun _ => 1#1)
      ∧ (fn (F := Ideal) x0 x1 x2 x3).2.2.2.2.2.2.1 = (fun _ => 1#1) ∧ (fn (F := Ideal) x0 x1 x2 x3).2.2.2.2.2.2.2 = (fun _ => 1#1)) :
    Good x0 x1 x2 x3 := by
  obtain ⟨h1, h2, h3, h4, h5, h6, h7, h8⟩ := h
  refine ⟨fun n => ?_, fun n => ?_, fun a k => ?_, fun n => ?_, fun n => ?_, fun s k => ?_⟩
  · have r : shapeCast S4096 (extractStridedSlice S4096x1 ![0, 0] x2 slices_S4096x2_S4096x1_0_0) shapeCasts_S4096x1_S4096 (ix1 n) = x2 (ix2 n 0) := by
      pointwise
    rw [← r]
    exact eq_one.mp (congrFun h1 (ix1 n))
  · have r : shapeCast S4096 (extractStridedSlice S4096x1 ![0, 1] x2 slices_S4096x2_S4096x1_0_1) shapeCasts_S4096x1_S4096 (ix1 n) = x2 (ix2 n 1) := by
      pointwise
    rw [← r]
    exact word_lt (congrFun h2 (ix1 n)) (congrFun h3 (ix1 n))
  · have r : shapeCast S4096x10 (shapeCast S40960 (extractStridedSlice S40960x1 ![0, 0] x3 slices_S40960x2_S40960x1_0_0) shapeCasts_S40960x1_S40960)
        shapeCasts_S40960_S4096x10 (ix2 a k) = x3 (ix2 (slots (a, k)) 0) := by
      pointwise
      rfl
    rw [← r]
    exact eq_one.mp (congrFun h4 (ix2 a k))
  · have r : shapeCast S40960 (extractStridedSlice S40960x1 ![0, 1] x3 slices_S40960x2_S40960x1_0_1) shapeCasts_S40960x1_S40960 (ix1 n) = x3 (ix2 n 1) := by
      pointwise
    rw [← r]
    exact word_lt (congrFun h5 (ix1 n)) (congrFun h6 (ix1 n))
  · have e : BitVec.ofBool (decide (Ideal.ofBits .f32 0x00000000#32 < (x1 (ix1 n) : EReal))) = 1#1 := congrFun h7 (ix1 n)
    rw [ofBool_one, decide_eq_true_eq, Ideal.ofBits_zero_f32] at e
    exact e
  · have r : extractStridedSlice S4096x10 ![0, 0] x0 slices_S4096x16_S4096x10_0_0 (ix2 s k) = x0 (ix2 s (k.castLE (by decide))) := by
      pointwise
      rfl
    have e : BitVec.ofBool (decide (Ideal.ofBits .f32 0x00000000#32 ≤ (extractStridedSlice S4096x10 ![0, 0] x0 slices_S4096x16_S4096x10_0_0 (ix2 s k) : EReal))) = 1#1 :=
      congrFun h8 (ix2 s k)
    rw [ofBool_one, decide_eq_true_eq, Ideal.ofBits_zero_f32, r] at e
    exact e

end

section
open Cert.KernelIdeal
variable (m : (ℓ : Loc nD τ sig) → Buf (Elt Ideal) ℓ)

theorem good (hp : Cert.Pre_KernelIdeal_ranking_inputs m) (d : Dev nD) : Good (KI.a0 m d) (KI.a1 m d) (KI.a2 m d) (KI.a3 m d) :=
  good_of_ranking _ _ _ _ (hp d)

theorem ok (hp : Cert.Pre_KernelIdeal_ranking_inputs m) : KI.Ok m := KI.ok_of_items m fun d n => (good m hp d).ditem n

end

theorem quiescent_KernelIdeal_ranking : Cert.quiescent_KernelIdeal_pre_ranking_inputs := fun m g hp =>
  (θ_run (Cert.KernelIdeal.defs (F := Ideal)) _ _).mono (fun _ h => ⟨fun d => (h.1 d).2.2, h.2⟩) (KI.run_args (F := Ideal) m g (ok m hp))

theorem quiescent_ReferenceIdeal_ranking : Cert.quiescent_ReferenceIdeal_pre_ranking_inputs := fun m g _ =>
  (θ_run (Cert.ReferenceIdeal.defs (F := Ideal)) _ _).mono (fun _ h => ⟨fun d => (h.1 d).2.2, h.2⟩) (Ref.run_main (F := Ideal) m g)

theorem algebraic : Cert.algebraic_KernelIdeal_ReferenceIdeal_pre_ranking_inputs := by
  intro m g m' g' hp ha
  refine ⟨fun d => KI.VC m d (Proc.devRef .tc (Cert.KernelIdeal.main_v11 : Ref Cert.KernelIdeal.sig .tc)),
    fun d => KI.VC m d (Proc.devRef .tc (Cert.KernelIdeal.main_v14 : Ref Cert.KernelIdeal.sig .tc)), ?_, ?_⟩
  · exact (θ_run (Cert.KernelIdeal.defs (F := Ideal)) _ _).mono (fun _ h => h.1) (KI.run_args (F := Ideal) m g (ok m hp))
  · refine (θ_run (Cert.ReferenceIdeal.defs (F := Ideal)) _ _).mono (fun r h d => ?_) (Ref.run_main (F := Ideal) m' g')
    obtain ⟨h1, h2, hr⟩ := h.1 d
    obtain ⟨e0, e1, e2, e3⟩ := ha d
    have G := good m hp d
    refine ⟨h1.trans ?_, h2.trans ?_, hr⟩
    · rw [e0, e1, e2, e3]
      exact funext fun j => (res1_sum G j).trans (KI.v11_sum G j).symm
    · rw [e0, e1, e2, e3]
      exact funext fun j => (res2_sum G j).trans (KI.v14_sum G j).symm

end Cert.Proof

end
-- ==== Proof.UStep.lean ====
/-
  The TensorCore step of the click model, read once for every grid point.

  One point scores 1024 sections: the ten displayed items of a section lie side by side in a row of the staged block, and
  the step runs the three-layer network once per item, putting each item's utility in its own lane of a 16-lane row. The
  definitions below name those pieces, and the equations say what each kind of point (the first, the middle ones, the last)
  leaves in the two output windows and in the scratch.
-/
module

public import proofs.«01_k».proof.Proof.Gen.UtilityIdeal.Value

@[expose] public section
noncomputable section
namespace Cert.UtilityIdeal.Mlp
open Idealize.ShloMosaic Idealize.SL.Sem Cert.UtilityIdeal.Gen
variable {F : FTy → Type} [FloatOps F]

theorem hz : (![0, 0] : Fin 2 → ℕ) = fun _ => 0 := funext fun a => by fin_cases a <;> rfl

/-- The activation of both hidden layers, as the kernel writes it. -/
def act {s : Shape} (x : FVec F s .f32) : FVec F s .f32 :=
  maximumf x (subf (exp (minimumf x (broadcast s (Scalar.ofBits .f32 0x00000000#32))))
    (broadcast s (Scalar.ofBits .f32 0x3F800000#32)))

/-- The first layer of one item of each section: its columns of the block against the item's weights, over the history. -/
def first (hb : Vec F S1024x256 .f32) (w1b : Vec F S128x256 .f32) (xb : FVec F S1024x1280 .f32) (o : Fin 2 → ℕ)
    (h : S1024x1280.Slices o S1024x128) : FVec F S1024x256 .f32 :=
  act (addf (matmul dot_S1024x128_S128x256_S1024x256_1_0_0_1_n_n none (extractStridedSlice S1024x128 o xb h) w1b
    (constant S1024x256 .f32 0x00000000#32)) hb)

/-- The second layer. -/
def second (w2 : Vec F S256x128 .f32) (b2 : FVec F S1x128 .f32) (h1 : FVec F S1024x256 .f32) : FVec F S1024x128 .f32 :=
  act (addf (matmul dot_S1024x256_S256x128_S1024x128_1_0_0_1_n_n none h1 w2 (constant S1024x128 .f32 0x00000000#32))
    (broadcastTo S1024x128 b2 broadcasts_S1x128_S1024x128))

/-- The last weights in lane `k`, zero in the others. -/
def lane (w3 : Vec F S128x1 .f32) (k : BitVec 32) : FVec F S128x16 .f32 :=
  select (cmpi .eq (iota .tc S128x16 32 [1] iota_S128x16_d1_w32) (broadcast S128x16 k))
    (broadcastTo S128x16 (shapeCast S128x1 w3 shapeCasts_S128x1_S128x1) broadcasts_S128x1_S128x16)
    (broadcast S128x16 (Scalar.ofBits .f32 0x00000000#32))

/-- The utilities of one item of each section, in the item's lane. -/
def place (w2 : Vec F S256x128 .f32) (w3 : Vec F S128x1 .f32) (b2 : FVec F S1x128 .f32) (h1 : FVec F S1024x256 .f32)
    (k : BitVec 32) : FVec F S1024x16 .f32 :=
  matmul dot_S1024x128_S128x16_S1024x16_1_0_0_1_n_n none (second w2 b2 h1) (lane w3 k)
    (constant S1024x16 .f32 0x00000000#32)

/-- The utilities of the ten items of each section, lane by lane. -/
def logits (hb : Vec F S1024x256 .f32) (w1b : Vec F S128x256 .f32) (w2 : Vec F S256x128 .f32) (w3 : Vec F S128x1 .f32)
    (b2 : FVec F S1x128 .f32) (b3 : Elt F .f32) (xb : FVec F S1024x1280 .f32) : FVec F S1024x16 .f32 :=
  addf (addf (addf (addf (addf (addf (addf (addf (addf (addf (addf (broadcast S1024x16 (Scalar.ofBits .f32 0x00000000#32))
      (place w2 w3 b2 (first hb w1b xb ![0, 0] slices_S1024x1280_o0_0_S1024x128) 0#32))
      (place w2 w3 b2 (first hb w1b xb ![0, 128] slices_S1024x1280_o0_128_S1024x128) 1#32))
      (place w2 w3 b2 (first hb w1b xb ![0, 256] slices_S1024x1280_o0_256_S1024x128) 2#32))
      (place w2 w3 b2 (first hb w1b xb ![0, 384] slices_S1024x1280_o0_384_S1024x128) 3#32))
      (place w2 w3 b2 (first hb w1b xb ![0, 512] slices_S1024x1280_o0_512_S1024x128) 4#32))
      (place w2 w3 b2 (first hb w1b xb ![0, 640] slices_S1024x1280_o0_640_S1024x128) 5#32))
      (place w2 w3 b2 (first hb w1b xb ![0, 768] slices_S1024x1280_o0_768_S1024x128) 6#32))
      (place w2 w3 b2 (first hb w1b xb ![0, 896] slices_S1024x1280_o0_896_S1024x128) 7#32))
      (place w2 w3 b2 (first hb w1b xb ![0, 1024] slices_S1024x1280_o0_1024_S1024x128) 8#32))
      (place w2 w3 b2 (first hb w1b xb ![0, 1152] slices_S1024x1280_o0_1152_S1024x128) 9#32))
    (broadcast S1024x16 b3)

/-- Their exponentials, zero in the six lanes of no item. -/
def expo (u : FVec F S1024x16 .f32) : FVec F S1024x16 .f32 :=
  select (cmpi .slt (iota .tc S1024x16 32 [1] iota_S1024x16_d1_w32) (broadcast S1024x16 10#32)) (exp u)
    (broadcast S1024x16 (Scalar.ofBits .f32 0x00000000#32))

/-- Each section's sum of them. -/
def segment (u : FVec F S1024x16 .f32) : FVec F S1024x1 .f32 :=
  shapeCast S1024x1 (multiReduction .add [1] S1024 (expo u) 0x00000000#32 reduces_S1024x16_S1024 (.inl rfl) rfl)
    shapeCasts_S1024_S1024x1

/-- The clicked item's utility in its lane, zero in the others. -/
def clicked (p : IVec S1024x1 32) (u : FVec F S1024x16 .f32) : FVec F S1024x16 .f32 :=
  select (cmpi .eq (iota .tc S1024x16 32 [1] iota_S1024x16_d1_w32) (broadcastTo S1024x16 p broadcasts_S1024x1_S1024x16)) u
    (broadcast S1024x16 (Scalar.ofBits .f32 0x00000000#32))

/-- The rows of the scratch a point reads. -/
def rows (i : grid0.Coords) (xs : Vec F S4096x256 .f32) : Vec F S1024x256 .f32 :=
  View.ld xs (Rect.unit (s := S4096x256) (k0_off1 i) S1024x256.size (k0_off1_inb i))

/-- The item part of the first weights. -/
def item (x5 : Vec F S640x256 .f32) : Vec F S128x256 .f32 :=
  View.ld x5 (Rect.unit (s := S640x256) ![512, 0] S128x256.size inb_S640x256_S128x256_512_0)

/-- What the first point leaves in the scratch. -/
def scratch (x1 : Vec F S4096x128 .f32) (x5 : Vec F S640x256 .f32) (x8 : Vec F S1x256 .f32) : FVec F S4096x256 .f32 :=
  k0_pay2 x1 (View.ld x5 (Rect.unit (s := S640x256) ![0, 0] S128x256.size inb_S640x256_S128x256_0_0))
    (View.ld x5 (Rect.unit (s := S640x256) ![128, 0] S128x256.size inb_S640x256_S128x256_128_0))
    (View.ld x5 (Rect.unit (s := S640x256) ![256, 0] S128x256.size inb_S640x256_S128x256_256_0))
    (View.ld x5 (Rect.unit (s := S640x256) ![384, 0] S128x256.size inb_S640x256_S128x256_384_0)) x8

/-- The one bias of the last layer. -/
def bias3 (x10 : Vec F S1x1 .f32) : Elt F .f32 :=
  View.ld x10 (Rect.unit (s := S1x1) ![0, 0] S1x1.size inb_S1x1_S1x1_0_0) (Shape.Idx.first (by decide))

/-- The utilities a point computes, from the scratch it reads. -/
def scores (i : grid0.Coords) (x0 : Vec F S1024x1280 .f32) (x5 : Vec F S640x256 .f32) (x6 : Vec F S256x128 .f32)
    (x7 : Vec F S128x1 .f32) (x9 : Vec F S1x128 .f32) (x10 : Vec F S1x1 .f32) (xs : Vec F S4096x256 .f32) :
    FVec F S1024x16 .f32 :=
  logits (rows i xs) (item x5) x6 x7 (k0_pay4 x9) (bias3 x10) (k0_pay5 x0)

/-- The running totals after a point, from those before. -/
def totals (i : grid0.Coords) (x3 : Vec F S1024x1 .i32) (x4 : Vec F S1024x1 .f32) (u : FVec F S1024x16 .f32)
    (xo : Vec F S8x128 .f32) : FVec F S8x128 .f32 :=
  k0_pay27 (segment u) (clicked (k0_pay6 i x3) u) x4 xo

/-- The totals after the last point: the first row divided by the events. -/
def closing (xo : FVec F S8x128 .f32) : FVec F S8x128 .f32 :=
  k0_pay1 (iota .tc S8x128 32 [0] iota_S8x128_d0_w32) (iota .tc S8x128 32 [1] iota_S8x128_d1_w32) k0_pay26 xo

/-- A buffer written whole reads what was written. -/
theorem read_whole {sig : RefSig} {κ : Kind} {sp : Space} {S : Shape} {e : EltTy} (v : View sig κ sp S e)
    (f : v.ty.Contents (Elt F)) {off : Fin S.rank → ℕ} (h : off = fun _ => 0) (inb : ∀ a, off a + S.size a ≤ S.size a)
    (w : S.Idx → Elt F e) : v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

set_option maxRecDepth 65536
theorem sout0_A_0_eq (c : Dev nD) (i : grid0.Coords) (a1 : Memref sig .tc .vmem S1024x1280 .f32) (h1 : a1.IsWhole) (a2 : Memref sig .tc .vmem S4096x128 .f32) (h2 : a2.IsWhole) (a3 : Memref sig .tc .vmem S1024x2 .i32) (h3 : a3.IsWhole) (a4 : Memref sig .tc .vmem S1024x1 .i32) (h4 : a4.IsWhole) (a5 : Memref sig .tc .vmem S1024x1 .f32) (h5 : a5.IsWhole) (a6 : Memref sig .tc .vmem S640x256 .f32) (h6 : a6.IsWhole) (a7 : Memref sig .tc .vmem S256x128 .f32) (h7 : a7.IsWhole) (a8 : Memref sig .tc .vmem S128x1 .f32) (h8 : a8.IsWhole) (a9 : Memref sig .tc .vmem S1x256 .f32) (h9 : a9.IsWhole) (a10 : Memref sig .tc .vmem S1x128 .f32) (h10 : a10.IsWhole) (a11 : Memref sig .tc .smem S1x1 .f32) (h11 : a11.IsWhole) (a12 : Memref sig .tc .vmem S8x128 .f32) (h12 : a12.IsWhole) (a13 : Memref sig .tc .vmem S1024x16 .f32) (h13 : a13.IsWhole) (a14 : Memref sig .tc .vmem S4096x256 .f32) (h14 : a14.IsWhole) (hc0 : cond0_0 i) (hc1 : ¬cond0_1 i)
    (x0 : Vec F S1024x1280 .f32) (x1 : Vec F S4096x128 .f32) (x2 : Vec F S1024x2 .i32) (x3 : Vec F S1024x1 .i32) (x4 : Vec F S1024x1 .f32) (x5 : Vec F S640x256 .f32) (x6 : Vec F S256x128 .f32) (x7 : Vec F S128x1 .f32) (x8 : Vec F S1x256 .f32) (x9 : Vec F S1x128 .f32) (x10 : Vec F S1x1 .f32) :
    sout0_A_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = scratch x1 x5 x8 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1024x1280) hz, View.ld_unit_zero (S := S4096x128) hz, View.ld_unit_zero (S := S1024x1) hz, View.ld_unit_zero (S := S256x128) hz, View.ld_unit_zero (S := S128x1) hz, View.ld_unit_zero (S := S1x256) hz, View.ld_unit_zero (S := S1x128) hz, View.ld_unit_zero (S := S8x128) hz]
  rfl

theorem out0_B_12_eq (c : Dev nD) (i : grid0.Coords) (a1 : Memref sig .tc .vmem S1024x1280 .f32) (h1 : a1.IsWhole) (a2 : Memref sig .tc .vmem S4096x128 .f32) (h2 : a2.IsWhole) (a3 : Memref sig .tc .vmem S1024x2 .i32) (h3 : a3.IsWhole) (a4 : Memref sig .tc .vmem S1024x1 .i32) (h4 : a4.IsWhole) (a5 : Memref sig .tc .vmem S1024x1 .f32) (h5 : a5.IsWhole) (a6 : Memref sig .tc .vmem S640x256 .f32) (h6 : a6.IsWhole) (a7 : Memref sig .tc .vmem S256x128 .f32) (h7 : a7.IsWhole) (a8 : Memref sig .tc .vmem S128x1 .f32) (h8 : a8.IsWhole) (a9 : Memref sig .tc .vmem S1x256 .f32) (h9 : a9.IsWhole) (a10 : Memref sig .tc .vmem S1x128 .f32) (h10 : a10.IsWhole) (a11 : Memref sig .tc .smem S1x1 .f32) (h11 : a11.IsWhole) (a12 : Memref sig .tc .vmem S8x128 .f32) (h12 : a12.IsWhole) (a13 : Memref sig .tc .vmem S1024x16 .f32) (h13 : a13.IsWhole) (a14 : Memref sig .tc .vmem S4096x256 .f32) (h14 : a14.IsWhole) (hc0 : ¬cond0_0 i) (hc1 : ¬cond0_1 i)
    (x0 : Vec F S1024x1280 .f32) (x1 : Vec F S4096x128 .f32) (x2 : Vec F S1024x2 .i32) (x3 : Vec F S1024x1 .i32) (x4 : Vec F S1024x1 .f32) (x5 : Vec F S640x256 .f32) (x6 : Vec F S256x128 .f32) (x7 : Vec F S128x1 .f32) (x8 : Vec F S1x256 .f32) (x9 : Vec F S1x128 .f32) (x10 : Vec F S1x1 .f32) (xo : Vec F S8x128 .f32) (xs : Vec F S4096x256 .f32) :
    out0_B_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xo xs = expo (scores i x0 x5 x6 x7 x9 x10 xs) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xo xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1024x1280) hz, View.ld_unit_zero (S := S4096x128) hz, View.ld_unit_zero (S := S1024x1) hz, View.ld_unit_zero (S := S256x128) hz, View.ld_unit_zero (S := S128x1) hz, View.ld_unit_zero (S := S1x256) hz, View.ld_unit_zero (S := S1x128) hz, View.ld_unit_zero (S := S8x128) hz]
  rfl

theorem out0_C_12_eq (c : Dev nD) (i : grid0.Coords) (a1 : Memref sig .tc .vmem S1024x1280 .f32) (h1 : a1.IsWhole) (a2 : Memref sig .tc .vmem S4096x128 .f32) (h2 : a2.IsWhole) (a3 : Memref sig .tc .vmem S1024x2 .i32) (h3 : a3.IsWhole) (a4 : Memref sig .tc .vmem S1024x1 .i32) (h4 : a4.IsWhole) (a5 : Memref sig .tc .vmem S1024x1 .f32) (h5 : a5.IsWhole) (a6 : Memref sig .tc .vmem S640x256 .f32) (h6 : a6.IsWhole) (a7 : Memref sig .tc .vmem S256x128 .f32) (h7 : a7.IsWhole) (a8 : Memref sig .tc .vmem S128x1 .f32) (h8 : a8.IsWhole) (a9 : Memref sig .tc .vmem S1x256 .f32) (h9 : a9.IsWhole) (a10 : Memref sig .tc .vmem S1x128 .f32) (h10 : a10.IsWhole) (a11 : Memref sig .tc .smem S1x1 .f32) (h11 : a11.IsWhole) (a12 : Memref sig .tc .vmem S8x128 .f32) (h12 : a12.IsWhole) (a13 : Memref sig .tc .vmem S1024x16 .f32) (h13 : a13.IsWhole) (a14 : Memref sig .tc .vmem S4096x256 .f32) (h14 : a14.IsWhole) (hc0 : ¬cond0_0 i) (hc1 : cond0_1 i)
    (x0 : Vec F S1024x1280 .f32) (x1 : Vec F S4096x128 .f32) (x2 : Vec F S1024x2 .i32) (x3 : Vec F S1024x1 .i32) (x4 : Vec F S1024x1 .f32) (x5 : Vec F S640x256 .f32) (x6 : Vec F S256x128 .f32) (x7 : Vec F S128x1 .f32) (x8 : Vec F S1x256 .f32) (x9 : Vec F S1x128 .f32) (x10 : Vec F S1x1 .f32) (xo : Vec F S8x128 .f32) (xs : Vec F S4096x256 .f32) :
    out0_C_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xo xs = expo (scores i x0 x5 x6 x7 x9 x10 xs) := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xo xs)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1024x1280) hz, View.ld_unit_zero (S := S4096x128) hz, View.ld_unit_zero (S := S1024x1) hz, View.ld_unit_zero (S := S256x128) hz, View.ld_unit_zero (S := S128x1) hz, View.ld_unit_zero (S := S1x256) hz, View.ld_unit_zero (S := S1x128) hz, View.ld_unit_zero (S := S8x128) hz]
  rfl

theorem out0_B_11_eq (c : Dev nD) (i : grid0.Coords) (a1 : Memref sig .tc .vmem S1024x1280 .f32) (h1 : a1.IsWhole) (a2 : Memref sig .tc .vmem S4096x128 .f32) (h2 : a2.IsWhole) (a3 : Memref sig .tc .vmem S1024x2 .i32) (h3 : a3.IsWhole) (a4 : Memref sig .tc .vmem S1024x1 .i32) (h4 : a4.IsWhole) (a5 : Memref sig .tc .vmem S1024x1 .f32) (h5 : a5.IsWhole) (a6 : Memref sig .tc .vmem S640x256 .f32) (h6 : a6.IsWhole) (a7 : Memref sig .tc .vmem S256x128 .f32) (h7 : a7.IsWhole) (a8 : Memref sig .tc .vmem S128x1 .f32) (h8 : a8.IsWhole) (a9 : Memref sig .tc .vmem S1x256 .f32) (h9 : a9.IsWhole) (a10 : Memref sig .tc .vmem S1x128 .f32) (h10 : a10.IsWhole) (a11 : Memref sig .tc .smem S1x1 .f32) (h11 : a11.IsWhole) (a12 : Memref sig .tc .vmem S8x128 .f32) (h12 : a12.IsWhole) (a13 : Memref sig .tc .vmem S1024x16 .f32) (h13 : a13.IsWhole) (a14 : Memref sig .tc .vmem S4096x256 .f32) (h14 : a14.IsWhole) (hc0 : ¬cond0_0 i) (hc1 : ¬cond0_1 i)
    (x0 : Vec F S1024x1280 .f32) (x1 : Vec F S4096x128 .f32) (x2 : Vec F S1024x2 .i32) (x3 : Vec F S1024x1 .i32) (x4 : Vec F S1024x1 .f32) (x5 : Vec F S640x256 .f32) (x6 : Vec F S256x128 .f32) (x7 : Vec F S128x1 .f32) (x8 : Vec F S1x256 .f32) (x9 : Vec F S1x128 .f32) (x10 : Vec F S1x1 .f32) (xo : Vec F S8x128 .f32) (xs : Vec F S4096x256 .f32) :
    out0_B_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xo xs = totals i x3 x4 (scores i x0 x5 x6 x7 x9 x10 xs) xo := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xo xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1024x1280) hz, View.ld_unit_zero (S := S4096x128) hz, View.ld_unit_zero (S := S1024x1) hz, View.ld_unit_zero (S := S256x128) hz, View.ld_unit_zero (S := S128x1) hz, View.ld_unit_zero (S := S1x256) hz, View.ld_unit_zero (S := S1x128) hz, View.ld_unit_zero (S := S8x128) hz]
  rfl

theorem out0_C_11_eq (c : Dev nD) (i : grid0.Coords) (a1 : Memref sig .tc .vmem S1024x1280 .f32) (h1 : a1.IsWhole) (a2 : Memref sig .tc .vmem S4096x128 .f32) (h2 : a2.IsWhole) (a3 : Memref sig .tc .vmem S1024x2 .i32) (h3 : a3.IsWhole) (a4 : Memref sig .tc .vmem S1024x1 .i32) (h4 : a4.IsWhole) (a5 : Memref sig .tc .vmem S1024x1 .f32) (h5 : a5.IsWhole) (a6 : Memref sig .tc .vmem S640x256 .f32) (h6 : a6.IsWhole) (a7 : Memref sig .tc .vmem S256x128 .f32) (h7 : a7.IsWhole) (a8 : Memref sig .tc .vmem S128x1 .f32) (h8 : a8.IsWhole) (a9 : Memref sig .tc .vmem S1x256 .f32) (h9 : a9.IsWhole) (a10 : Memref sig .tc .vmem S1x128 .f32) (h10 : a10.IsWhole) (a11 : Memref sig .tc .smem S1x1 .f32) (h11 : a11.IsWhole) (a12 : Memref sig .tc .vmem S8x128 .f32) (h12 : a12.IsWhole) (a13 : Memref sig .tc .vmem S1024x16 .f32) (h13 : a13.IsWhole) (a14 : Memref sig .tc .vmem S4096x256 .f32) (h14 : a14.IsWhole) (hc0 : ¬cond0_0 i) (hc1 : cond0_1 i)
    (x0 : Vec F S1024x1280 .f32) (x1 : Vec F S4096x128 .f32) (x2 : Vec F S1024x2 .i32) (x3 : Vec F S1024x1 .i32) (x4 : Vec F S1024x1 .f32) (x5 : Vec F S640x256 .f32) (x6 : Vec F S256x128 .f32) (x7 : Vec F S128x1 .f32) (x8 : Vec F S1x256 .f32) (x9 : Vec F S1x128 .f32) (x10 : Vec F S1x1 .f32) (xo : Vec F S8x128 .f32) (xs : Vec F S4096x256 .f32) :
    out0_C_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xo xs = closing (totals i x3 x4 (scores i x0 x5 x6 x7 x9 x10 xs) xo) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 xo xs)]
  unfold kernelRun0_C
  dsimp only
  sl_unfold_words
  rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1024x1280) hz, View.ld_unit_zero (S := S4096x128) hz, View.ld_unit_zero (S := S1024x1) hz, View.ld_unit_zero (S := S256x128) hz, View.ld_unit_zero (S := S128x1) hz, View.ld_unit_zero (S := S1x256) hz, View.ld_unit_zero (S := S1x128) hz, View.ld_unit_zero (S := S8x128) hz]
  simp only [View.readCov_unit_zero (S := S8x128) _ hz]
  rfl

theorem out0_A_12_eq (c : Dev nD) (i : grid0.Coords) (a1 : Memref sig .tc .vmem S1024x1280 .f32) (h1 : a1.IsWhole) (a2 : Memref sig .tc .vmem S4096x128 .f32) (h2 : a2.IsWhole) (a3 : Memref sig .tc .vmem S1024x2 .i32) (h3 : a3.IsWhole) (a4 : Memref sig .tc .vmem S1024x1 .i32) (h4 : a4.IsWhole) (a5 : Memref sig .tc .vmem S1024x1 .f32) (h5 : a5.IsWhole) (a6 : Memref sig .tc .vmem S640x256 .f32) (h6 : a6.IsWhole) (a7 : Memref sig .tc .vmem S256x128 .f32) (h7 : a7.IsWhole) (a8 : Memref sig .tc .vmem S128x1 .f32) (h8 : a8.IsWhole) (a9 : Memref sig .tc .vmem S1x256 .f32) (h9 : a9.IsWhole) (a10 : Memref sig .tc .vmem S1x128 .f32) (h10 : a10.IsWhole) (a11 : Memref sig .tc .smem S1x1 .f32) (h11 : a11.IsWhole) (a12 : Memref sig .tc .vmem S8x128 .f32) (h12 : a12.IsWhole) (a13 : Memref sig .tc .vmem S1024x16 .f32) (h13 : a13.IsWhole) (a14 : Memref sig .tc .vmem S4096x256 .f32) (h14 : a14.IsWhole) (hc0 : cond0_0 i) (hc1 : ¬cond0_1 i)
    (x0 : Vec F S1024x1280 .f32) (x1 : Vec F S4096x128 .f32) (x2 : Vec F S1024x2 .i32) (x3 : Vec F S1024x1 .i32) (x4 : Vec F S1024x1 .f32) (x5 : Vec F S640x256 .f32) (x6 : Vec F S256x128 .f32) (x7 : Vec F S128x1 .f32) (x8 : Vec F S1x256 .f32) (x9 : Vec F S1x128 .f32) (x10 : Vec F S1x1 .f32) :
    out0_A_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = expo (scores i x0 x5 x6 x7 x9 x10 (scratch x1 x5 x8)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1024x1280) hz, View.ld_unit_zero (S := S4096x128) hz, View.ld_unit_zero (S := S1024x1) hz, View.ld_unit_zero (S := S256x128) hz, View.ld_unit_zero (S := S128x1) hz, View.ld_unit_zero (S := S1x256) hz, View.ld_unit_zero (S := S1x128) hz, View.ld_unit_zero (S := S8x128) hz]
  simp only [read_whole (S := S4096x256) _ _ hz]
  rfl

theorem out0_A_11_eq (c : Dev nD) (i : grid0.Coords) (a1 : Memref sig .tc .vmem S1024x1280 .f32) (h1 : a1.IsWhole) (a2 : Memref sig .tc .vmem S4096x128 .f32) (h2 : a2.IsWhole) (a3 : Memref sig .tc .vmem S1024x2 .i32) (h3 : a3.IsWhole) (a4 : Memref sig .tc .vmem S1024x1 .i32) (h4 : a4.IsWhole) (a5 : Memref sig .tc .vmem S1024x1 .f32) (h5 : a5.IsWhole) (a6 : Memref sig .tc .vmem S640x256 .f32) (h6 : a6.IsWhole) (a7 : Memref sig .tc .vmem S256x128 .f32) (h7 : a7.IsWhole) (a8 : Memref sig .tc .vmem S128x1 .f32) (h8 : a8.IsWhole) (a9 : Memref sig .tc .vmem S1x256 .f32) (h9 : a9.IsWhole) (a10 : Memref sig .tc .vmem S1x128 .f32) (h10 : a10.IsWhole) (a11 : Memref sig .tc .smem S1x1 .f32) (h11 : a11.IsWhole) (a12 : Memref sig .tc .vmem S8x128 .f32) (h12 : a12.IsWhole) (a13 : Memref sig .tc .vmem S1024x16 .f32) (h13 : a13.IsWhole) (a14 : Memref sig .tc .vmem S4096x256 .f32) (h14 : a14.IsWhole) (hc0 : cond0_0 i) (hc1 : ¬cond0_1 i)
    (x0 : Vec F S1024x1280 .f32) (x1 : Vec F S4096x128 .f32) (x2 : Vec F S1024x2 .i32) (x3 : Vec F S1024x1 .i32) (x4 : Vec F S1024x1 .f32) (x5 : Vec F S640x256 .f32) (x6 : Vec F S256x128 .f32) (x7 : Vec F S128x1 .f32) (x8 : Vec F S1x256 .f32) (x9 : Vec F S1x128 .f32) (x10 : Vec F S1x1 .f32) :
    out0_A_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = totals i x3 x4 (scores i x0 x5 x6 x7 x9 x10 (scratch x1 x5 x8)) k0_pay3 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1024x1280) hz, View.ld_unit_zero (S := S4096x128) hz, View.ld_unit_zero (S := S1024x1) hz, View.ld_unit_zero (S := S256x128) hz, View.ld_unit_zero (S := S128x1) hz, View.ld_unit_zero (S := S1x256) hz, View.ld_unit_zero (S := S1x128) hz, View.ld_unit_zero (S := S8x128) hz]
  simp only [read_whole (S := S4096x256) _ _ hz, View.readCov_unit_zero (S := S8x128) _ hz]
  rfl

end Cert.UtilityIdeal.Mlp
end
-- ==== Proof.UFold.lean ====
/-
  What the TensorCore call leaves in its two results, point by point.

  The four points run in order: the first fills the scratch and starts the totals, each scores its own 1024 sections, and
  the last divides the first row of the totals. The blocks the points read are read here as rows of the call's arguments.
-/
module

public import proofs.«01_k».proof.Proof.UStep
public import Idealize.ShloMosaic.Lib.ValueIdx
public import Idealize.ShloMosaic.Lib.ValueLayout
public import Idealize.ShloMosaic.Lib.ValueLayoutCasts

@[expose] public section
noncomputable section
namespace Cert.UtilityIdeal.Mlp
open Idealize.ShloMosaic Idealize.SL.Sem Idealize.ShloMosaic.ValueIdx Cert.UtilityIdeal.Gen Cert.UtilityIdeal.Value
variable {F : FTy → Type} [FloatOps F]
variable (m : (l : Loc nD τ sig) → Buf (Elt F) l)

/-! ## The arrays the host reshaped -/

theorem V_v0 (c : Dev nD) : V m c main_v0 = shapeCast _ (m (c, Proc.devRef .tc main_arg0)) shapeCasts_S40960x128_S4096x1280 := rfl
theorem V_v1 (c : Dev nD) : V m c main_v1 = shapeCast _ (m (c, Proc.devRef .tc main_arg4)) shapeCasts_S4096_S4096x1 := rfl
theorem V_v2 (c : Dev nD) : V m c main_v2 = shapeCast _ (m (c, Proc.devRef .tc main_arg2)) shapeCasts_S4096_S4096x1 := rfl
theorem V_v3 (c : Dev nD) : V m c main_v3 = shapeCast _ (m (c, Proc.devRef .tc main_arg6)) shapeCasts_S256_S1x256 := rfl
theorem V_v4 (c : Dev nD) : V m c main_v4 = shapeCast _ (m (c, Proc.devRef .tc main_arg8)) shapeCasts_S128_S1x128 := rfl
theorem V_v5 (c : Dev nD) : V m c main_v5 = shapeCast _ (m (c, Proc.devRef .tc main_arg10)) shapeCasts_S1_S1x1 := rfl

/-! ## The blocks -/

theorem ix_rows0 : ∀ t : Fin cfg0.N, win0_0.index t (0 : Fin 2) = t.val ∧ win0_0.index t (1 : Fin 2) = 0 := by decide
theorem ix_rows3 : ∀ t : Fin cfg0.N, win0_3.index t (0 : Fin 2) = t.val ∧ win0_3.index t (1 : Fin 2) = 0 := by decide
theorem ix_rows4 : ∀ t : Fin cfg0.N, win0_4.index t (0 : Fin 2) = t.val ∧ win0_4.index t (1 : Fin 2) = 0 := by decide

/-- The row of the whole array a point's row is. -/
def rowOf (t : Fin cfg0.N) (r : Fin 1024) : Fin 4096 :=
  ⟨t.val * 1024 + r.val, by have h := t.isLt; have hN : cfg0.N = 4 := N_0; have := r.isLt; omega⟩

theorem blk0 (c : Dev nD) (t : Fin cfg0.N) (r : Fin 1024) (j : Fin 1280) :
    iblk m c 0 t (ix2 r j) = V m c main_v0 (ix2 (rowOf t r) j) := by
  show V m c main_v0 (((cfg0.win 0).blk t).view.emb (ix2 r j)) = _
  obtain ⟨e0, e1⟩ := ix_rows0 t
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 1280 + 1 * j.val = j.val; omega

theorem blk3 (c : Dev nD) (t : Fin cfg0.N) (r : Fin 1024) (j : Fin 1) :
    iblk m c 3 t (ix2 r j) = V m c main_v1 (ix2 (rowOf t r) j) := by
  show V m c main_v1 (((cfg0.win 3).blk t).view.emb (ix2 r j)) = _
  obtain ⟨e0, e1⟩ := ix_rows3 t
  refine congrArg _ (funext fun a => Fin.ext ?_)
  match a with
  | ⟨0, _⟩ => show win0_3.index t (0 : Fin 2) * 1024 + 1 * r.val = t.val * 1024 + r.val; omega
  | ⟨1, _⟩ => show win0_3.index t (1 : Fin 2) * 1 + 1 * j.val = j.val; omega

theorem blk4 (c : Dev nD) (t : Fin cfg0.N) (r : Fin 1024) (j : Fin 1) :
    iblk m c 4 t (ix2 r j) = V m c main_v2 (ix2 (rowOf t r) j) := by
  show V m c main_v2 (((cfg0.win 4).blk t).view.emb (ix2 r j)) = _
  obtain ⟨e0, e1⟩ := ix_rows4 t
  refine congrArg _ (funext fun a => Fin.ext ?_)
  match a with
  | ⟨0, _⟩ => show win0_4.index t (0 : Fin 2) * 1024 + 1 * r.val = t.val * 1024 + r.val; omega
  | ⟨1, _⟩ => show win0_4.index t (1 : Fin 2) * 1 + 1 * j.val = j.val; omega

theorem ix_whole1 : ∀ t : Fin cfg0.N, win0_1.index t (0 : Fin 2) = 0 ∧ win0_1.index t (1 : Fin 2) = 0 := by decide
theorem blk1 (c : Dev nD) (t : Fin cfg0.N) : iblk m c 1 t = V m c main_arg1 := by
  funext j
  show V m c main_arg1 (((cfg0.win 1).blk t).view.emb j) = _
  obtain ⟨e0, e1⟩ := ix_whole1 t
  refine congrArg _ (funext fun a => Fin.ext ?_)
  match a with
  | ⟨0, _⟩ => show win0_1.index t (0 : Fin 2) * 4096 + 1 * (j 0).val = (j 0).val; omega
  | ⟨1, _⟩ => show win0_1.index t (1 : Fin 2) * 128 + 1 * (j 1).val = (j 1).val; omega

theorem ix_whole5 : ∀ t : Fin cfg0.N, win0_5.index t (0 : Fin 2) = 0 ∧ win0_5.index t (1 : Fin 2) = 0 := by decide
theorem blk5 (c : Dev nD) (t : Fin cfg0.N) : iblk m c 5 t = V m c main_arg5 := by
  funext j
  show V m c main_arg5 (((cfg0.win 5).blk t).view.emb j) = _
  obtain ⟨e0, e1⟩ := ix_whole5 t
  refine congrArg _ (funext fun a => Fin.ext ?_)
  match a with
  | ⟨0, _⟩ => show win0_5.index t (0 : Fin 2) * 640 + 1 * (j 0).val = (j 0).val; omega
  | ⟨1, _⟩ => show win0_5.index t (1 : Fin 2) * 256 + 1 * (j 1).val = (j 1).val; omega

theorem ix_whole6 : ∀ t : Fin cfg0.N, win0_6.index t (0 : Fin 2) = 0 ∧ win0_6.index t (1 : Fin 2) = 0 := by decide
theorem blk6 (c : Dev nD) (t : Fin cfg0.N) : iblk m c 6 t = V m c main_arg7 := by
  funext j
  show V m c main_arg7 (((cfg0.win 6).blk t).view.emb j) = _
  obtain ⟨e0, e1⟩ := ix_whole6 t
  refine congrArg _ (funext fun a => Fin.ext ?_)
  match a with
  | ⟨0, _⟩ => show win0_6.index t (0 : Fin 2) * 256 + 1 * (j 0).val = (j 0).val; omega
  | ⟨1, _⟩ => show win0_6.index t (1 : Fin 2) * 128 + 1 * (j 1).val = (j 1).val; omega

theorem ix_whole7 : ∀ t : Fin cfg0.N, win0_7.index t (0 : Fin 2) = 0 ∧ win0_7.index t (1 : Fin 2) = 0 := by decide
theorem blk7 (c : Dev nD) (t : Fin cfg0.N) : iblk m c 7 t = V m c main_arg9 := by
  funext j
  show V m c main_arg9 (((cfg0.win 7).blk t).view.emb j) = _
  obtain ⟨e0, e1⟩ := ix_whole7 t
  refine congrArg _ (funext fun a => Fin.ext ?_)
  match a with
  | ⟨0, _⟩ => show win0_7.index t (0 : Fin 2) * 128 + 1 * (j 0).val = (j 0).val; omega
  | ⟨1, _⟩ => show win0_7.index t (1 : Fin 2) * 1 + 1 * (j 1).val = (j 1).val; omega

theorem ix_whole8 : ∀ t : Fin cfg0.N, win0_8.index t (0 : Fin 2) = 0 ∧ win0_8.index t (1 : Fin 2) = 0 := by decide
theorem blk8 (c : Dev nD) (t : Fin cfg0.N) : iblk m c 8 t = V m c main_v3 := by
  funext j
  show V m c main_v3 (((cfg0.win 8).blk t).view.emb j) = _
  obtain ⟨e0, e1⟩ := ix_whole8 t
  refine congrArg _ (funext fun a => Fin.ext ?_)
  match a with
  | ⟨0, _⟩ => show win0_8.index t (0 : Fin 2) * 1 + 1 * (j 0).val = (j 0).val; omega
  | ⟨1, _⟩ => show win0_8.index t (1 : Fin 2) * 256 + 1 * (j 1).val = (j 1).val; omega

theorem ix_whole9 : ∀ t : Fin cfg0.N, win0_9.index t (0 : Fin 2) = 0 ∧ win0_9.index t (1 : Fin 2) = 0 := by decide
theorem blk9 (c : Dev nD) (t : Fin cfg0.N) : iblk m c 9 t = V m c main_v4 := by
  funext j
  show V m c main_v4 (((cfg0.win 9).blk t).view.emb j) = _
  obtain ⟨e0, e1⟩ := ix_whole9 t
  refine congrArg _ (funext fun a => Fin.ext ?_)
  match a with
  | ⟨0, _⟩ => show win0_9.index t (0 : Fin 2) * 1 + 1 * (j 0).val = (j 0).val; omega
  | ⟨1, _⟩ => show win0_9.index t (1 : Fin 2) * 128 + 1 * (j 1).val = (j 1).val; omega

theorem ix_whole10 : ∀ t : Fin cfg0.N, win0_10.index t (0 : Fin 2) = 0 ∧ win0_10.index t (1 : Fin 2) = 0 := by decide
theorem blk10 (c : Dev nD) (t : Fin cfg0.N) : iblk m c 10 t = V m c main_v5 := by
  funext j
  show V m c main_v5 (((cfg0.win 10).blk t).view.emb j) = _
  obtain ⟨e0, e1⟩ := ix_whole10 t
  refine congrArg _ (funext fun a => Fin.ext ?_)
  match a with
  | ⟨0, _⟩ => show win0_10.index t (0 : Fin 2) * 1 + 1 * (j 0).val = (j 0).val; omega
  | ⟨1, _⟩ => show win0_10.index t (1 : Fin 2) * 1 + 1 * (j 1).val = (j 1).val; omega

/-! ## The fold over the points -/

/-- The scratch, from the arguments. -/
def scr (c : Dev nD) : FVec F S4096x256 .f32 := scratch (V m c main_arg1) (V m c main_arg5) (V m c main_v3)

/-- The utilities point `t` computes. -/
def util (c : Dev nD) (t : Fin cfg0.N) : FVec F S1024x16 .f32 :=
  scores (grid0.coords t) (iblk m c 0 t) (V m c main_arg5) (V m c main_arg7) (V m c main_arg9) (V m c main_v4) (V m c main_v5)
    (scr m c)

/-- The totals after point `t` from those before. -/
def tot (c : Dev nD) (t : Fin cfg0.N) (xo : Vec F S8x128 .f32) : FVec F S8x128 .f32 :=
  totals (grid0.coords t) (iblk m c 3 t) (iblk m c 4 t) (util m c t) xo

theorem step_A (c : Dev nD) (t : Fin cfg0.N) (acc : Vec F S8x128 .f32 × Vec F S1024x16 .f32 × Vec F S4096x256 .f32)
    (h0 : t.val % 4 = 0) (h1 : ¬t.val % 4 = 3) :
    stAt0 m c t.val t.isLt acc = (tot m c t k0_pay3, expo (util m c t), scr m c) := by
  rw [stAt0_A m c t acc h0 h1, out0_A_11_eq, out0_A_12_eq, sout0_A_0_eq, blk1, blk5, blk6, blk7, blk8, blk9, blk10]
  rfl

theorem step_B (c : Dev nD) (t : Fin cfg0.N) (acc : Vec F S8x128 .f32 × Vec F S1024x16 .f32 × Vec F S4096x256 .f32)
    (h0 : ¬t.val % 4 = 0) (h1 : ¬t.val % 4 = 3) (ha : acc.2.2 = scr m c) :
    stAt0 m c t.val t.isLt acc = (tot m c t acc.1, expo (util m c t), scr m c) := by
  rw [stAt0_B m c t acc h0 h1, out0_B_11_eq, out0_B_12_eq, blk5, blk6, blk7, blk9, blk10, ha]
  unfold sout0_B_0
  rfl

theorem step_C (c : Dev nD) (t : Fin cfg0.N) (acc : Vec F S8x128 .f32 × Vec F S1024x16 .f32 × Vec F S4096x256 .f32)
    (h0 : ¬t.val % 4 = 0) (h1 : t.val % 4 = 3) (ha : acc.2.2 = scr m c) :
    stAt0 m c t.val t.isLt acc = (closing (tot m c t acc.1), expo (util m c t), scr m c) := by
  rw [stAt0_C m c t acc h0 h1, out0_C_11_eq, out0_C_12_eq, blk5, blk6, blk7, blk9, blk10, ha]
  unfold sout0_C_0
  rfl

/-- The state carried after the first `j + 1` points. -/
abbrev fold (c : Dev nD) (j : ℕ) (h : 0 + j < cfg0.N) :=
  Pipeline.accAt (fun n h => stAt0 m c n h junk0) (stAt0 m c) 0 j h

theorem fold_0 (c : Dev nD) (h : 0 + 0 < cfg0.N) :
    fold m c 0 h = (tot m c t0_0 k0_pay3, expo (util m c t0_0), scr m c) :=
  step_A m c t0_0 junk0 (by decide) (by decide)

theorem fold_1 (c : Dev nD) (h : 0 + 1 < cfg0.N) :
    fold m c 1 h = (tot m c t0_1 (tot m c t0_0 k0_pay3), expo (util m c t0_1), scr m c) := by
  have e := step_B m c t0_1 (fold m c 0 (Nat.lt_of_succ_lt h)) (by decide) (by decide) (by rw [fold_0])
  rw [fold_0] at e
  exact (congrArg (stAt0 m c 1 h) (fold_0 m c _)).trans e

theorem fold_2 (c : Dev nD) (h : 0 + 2 < cfg0.N) :
    fold m c 2 h = (tot m c t0_2 (tot m c t0_1 (tot m c t0_0 k0_pay3)), expo (util m c t0_2), scr m c) := by
  have e := step_B m c t0_2 (fold m c 1 (Nat.lt_of_succ_lt h)) (by decide) (by decide) (by rw [fold_1])
  rw [fold_1] at e
  exact (congrArg (stAt0 m c 2 h) (fold_1 m c _)).trans e

theorem fold_3 (c : Dev nD) (h : 0 + 3 < cfg0.N) :
    fold m c 3 h = (closing (tot m c t0_3 (tot m c t0_2 (tot m c t0_1 (tot m c t0_0 k0_pay3)))), expo (util m c t0_3), scr m c) := by
  have e := step_C m c t0_3 (fold m c 2 (Nat.lt_of_succ_lt h)) (by decide) (by decide) (by rw [fold_2])
  rw [fold_2] at e
  exact (congrArg (stAt0 m c 3 h) (fold_2 m c _)).trans e

/-- The first result. -/
theorem G11_eq (c : Dev nD) :
    G11 m c = closing (tot m c t0_3 (tot m c t0_2 (tot m c t0_1 (tot m c t0_0 k0_pay3)))) := by
  rw [G11_last]
  exact congrArg (·.1) (fold_3 m c _)

/-- The second result, row by row. -/
theorem G12_eq (c : Dev nD) (t : Fin cfg0.N) (r : Fin 1024) (l : Fin 16) :
    G12 m c (ix2 (rowOf t r) l) = expo (util m c t) (ix2 r l) := by
  have hN : cfg0.N = 4 := N_0
  have ht := t.isLt
  have hr := r.isLt
  have hl := l.isLt
  have hp : pt12Of (ix2 (rowOf t r) l) = t.val := by
    show 1 * ((t.val * 1024 + r.val) / 1024 - 0) + 1 * (l.val / 16 - 0) = t.val
    omega
  have hq : loc12Of (ix2 (rowOf t r) l) = ix2 r l := by
    funext a; apply Fin.ext
    match a with
    | ⟨0, _⟩ => show (t.val * 1024 + r.val) % 1024 = r.val; omega
    | ⟨1, _⟩ => show l.val % 16 = l.val; omega
  unfold G12
  rw [dif_pos (by rw [hp]; exact ht), hq, fold0_congr m c _ _ t.val (by omega) hp]
  rcases fin_N0 t with h | h | h | h <;> subst h
  · exact congrArg (·.2.1 (ix2 r l)) (fold_0 m c _)
  · exact congrArg (·.2.1 (ix2 r l)) (fold_1 m c _)
  · exact congrArg (·.2.1 (ix2 r l)) (fold_2 m c _)
  · exact congrArg (·.2.1 (ix2 r l)) (fold_3 m c _)

end Cert.UtilityIdeal.Mlp
end
-- ==== Proof.UMath.lean ====
/-
  The click model's sums over the extended reals: the activation, the window of recent clicks, and the network of one item.
-/
module

public import Idealize.ShloMosaic.PureOps.Ideal.Laws
public import Idealize.ShloMosaic.Lib.IdealHost
public import Mathlib.Data.Fintype.BigOperators
public import Mathlib.Algebra.BigOperators.Fin

@[expose] public section
noncomputable section
namespace Cert.ClickModel
open Idealize.ShloMosaic

/-! ## The activation -/

/-- The exponential linear unit. -/
def elu (x : EReal) : EReal := max x (Ideal.exp (min x 0) - 1)

theorem exp_coe (x : ℝ) : Ideal.exp (x : EReal) = ((Real.exp x : ℝ) : EReal) := rfl
theorem exp_zero : Ideal.exp 0 = 1 := by
  show Ideal.exp ((0 : ℝ) : EReal) = 1
  rw [exp_coe, Real.exp_zero]; rfl

theorem elu_pos {x : EReal} (h : 0 < x) : elu x = x := by
  unfold elu
  rw [min_eq_right h.le, exp_zero]
  have e : (1 : EReal) - 1 = 0 := by
    show ((1 : ℝ) : EReal) - ((1 : ℝ) : EReal) = 0
    rw [← EReal.coe_sub, sub_self]; rfl
  rw [e, max_eq_left h.le]

theorem elu_neg {x : EReal} (h : ¬ 0 < x) : elu x = Ideal.exp x - 1 := by
  unfold elu
  have h0 : x ≤ 0 := not_lt.mp h
  rw [min_eq_left h0]
  refine max_eq_right ?_
  induction x with
  | bot => exact bot_le
  | top => exact absurd h0 (by simp)
  | coe x =>
    rw [exp_coe]
    show (x : EReal) ≤ ((Real.exp x : ℝ) : EReal) - ((1 : ℝ) : EReal)
    rw [← EReal.coe_sub, EReal.coe_le_coe_iff]
    have := Real.add_one_le_exp x
    linarith

/-- The reference's spelling of it. -/
theorem elu_select (x : EReal) :
    Scalar.select (Ideal.cmp .ogt x 0) x (1 * (Ideal.exp (Scalar.select (Ideal.cmp .ogt x 0) 0 x) - 1)) = elu x := by
  by_cases h : 0 < x
  · have e : Ideal.cmp .ogt x 0 = 1#1 := by unfold Ideal.cmp; simp [h]
    rw [e, elu_pos h]; rfl
  · have e : Ideal.cmp .ogt x 0 = 0#1 := by unfold Ideal.cmp; simp [h]
    rw [e, elu_neg h, one_mul]; rfl

/-! ## The window of recent clicks -/

/-- The sum of the `n` entries up to and including place `s`. -/
def win {N : ℕ} (X : Fin N → EReal) (n s : ℕ) : EReal := ∑ j : Fin N, if j.val ≤ s ∧ s < j.val + n then X j else 0

theorem win_one {N : ℕ} (X : Fin N → EReal) (s : Fin N) : win X 1 s.val = X s := by
  unfold win
  rw [Finset.sum_eq_single s]
  · rw [if_pos ⟨le_refl _, Nat.lt_succ_self _⟩]
  · intro j _ hj
    rw [if_neg]
    rintro ⟨h1, h2⟩
    exact hj (Fin.ext (by omega))
  · intro h; exact absurd (Finset.mem_univ _) h

/-- A window, and the window that ends where it begins, are one longer window. -/
theorem win_add {N : ℕ} (X : Fin N → EReal) (a b s : ℕ) :
    win X a s + (if s < a then 0 else win X b (s - a)) = win X (a + b) s := by
  unfold win
  by_cases h : s < a
  · rw [if_pos h, add_zero]
    refine Finset.sum_congr rfl fun j _ => ?_
    by_cases hj : j.val ≤ s
    · rw [if_pos ⟨hj, by omega⟩, if_pos ⟨hj, by omega⟩]
    · rw [if_neg (fun e => hj e.1), if_neg (fun e => hj e.1)]
  · rw [if_neg h, ← Finset.sum_add_distrib]
    refine Finset.sum_congr rfl fun j _ => ?_
    by_cases h1 : j.val ≤ s ∧ s < j.val + a
    · rw [if_pos h1, if_neg (by omega), if_pos (by omega), add_zero]
    · by_cases h2 : j.val ≤ s - a ∧ s - a < j.val + b
      · rw [if_neg h1, if_pos h2, if_pos (by omega), zero_add]
      · rw [if_neg h1, if_neg h2, if_neg (by omega), zero_add]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x : ℝ) : ((if p then x else 0 : ℝ) : EReal) = if p then (x : EReal) else 0 := by
  split <;> rfl

/-- One history weight over the window, against the banded product with the four history blocks of weights. -/
theorem history (c : ℝ) (x : Fin 4096 → Fin 128 → ℝ) (w : Fin 4 → Fin 128 → ℝ) (s : ℕ) :
    (c : EReal) * (0 + ∑ f : Fin 128, win (fun j => (x j f : EReal)) 20 s
        * ((((w 0 f : EReal) + (w 1 f : EReal)) + (w 2 f : EReal)) + (w 3 f : EReal)))
      = ∑ p : Fin 4, ∑ f : Fin 128,
          (∑ j : Fin 4096, (if j.val ≤ s ∧ s < j.val + 20 then (c : EReal) else 0) * (x j f : EReal)) * (w p f : EReal) := by
  have hw : ∀ f, win (fun j => (x j f : EReal)) 20 s
      = ((∑ j : Fin 4096, if j.val ≤ s ∧ s < j.val + 20 then x j f else 0 : ℝ) : EReal) := by
    intro f; rw [coe_sum]; unfold win
    exact Finset.sum_congr rfl fun j _ => (coe_ite _ _).symm
  have hj : ∀ f, (∑ j : Fin 4096, (if j.val ≤ s ∧ s < j.val + 20 then (c : EReal) else 0) * (x j f : EReal))
      = ((∑ j : Fin 4096, (if j.val ≤ s ∧ s < j.val + 20 then c else 0) * x j f : ℝ) : EReal) := by
    intro f; rw [coe_sum]
    exact Finset.sum_congr rfl fun j _ => by rw [EReal.coe_mul, coe_ite]
  simp only [hw, hj, ← EReal.coe_add, ← EReal.coe_mul, ← coe_sum, zero_add]
  refine congrArg _ ?_
  rw [Fin.sum_univ_four, ← Finset.sum_add_distrib, ← Finset.sum_add_distrib, ← Finset.sum_add_distrib, Finset.mul_sum]
  refine Finset.sum_congr rfl fun f _ => ?_
  have e : (∑ j : Fin 4096, (if j.val ≤ s ∧ s < j.val + 20 then c else 0) * x j f)
      = c * ∑ j : Fin 4096, if j.val ≤ s ∧ s < j.val + 20 then x j f else 0 := by
    rw [Finset.mul_sum]
    exact Finset.sum_congr rfl fun j _ => by split <;> ring
  rw [e]; ring

/-! ## The network of one item -/

/-- One item's utility from its features, the history it shares with its section, and the weights. -/
def utility (H : Fin 256 → EReal) (d : Fin 128 → EReal) (W1 : Fin 128 → Fin 256 → EReal) (W2 : Fin 256 → Fin 128 → EReal)
    (b2 : Fin 128 → EReal) (W3 : Fin 128 → EReal) (b3 : EReal) : EReal :=
  (∑ j : Fin 128, elu ((∑ h : Fin 256, elu ((∑ f : Fin 128, d f * W1 f h) + H h) * W2 h j) + b2 j) * W3 j) + b3

/-! ## Sums over blocks -/

/-- A sum over the sections, block by block. -/
theorem sum_blocks (f : Fin 4096 → EReal) :
    ∑ s, f s = ∑ t : Fin 4, ∑ r : Fin 1024, f ⟨t.val * 1024 + r.val, by omega⟩ := by
  rw [← Equiv.sum_comp (finProdFinEquiv (m := 4) (n := 1024)) f, Fintype.sum_prod_type]
  refine Finset.sum_congr rfl fun t _ => Finset.sum_congr rfl fun r _ => congrArg f (Fin.ext ?_)
  show r.val + 1024 * t.val = t.val * 1024 + r.val
  omega

/-- A sum over the 640 features: the four history blocks, then the item's own. -/
theorem sum_features (f : Fin 640 → EReal) :
    ∑ s, f s = (∑ p : Fin 4, ∑ g : Fin 128, f ⟨p.val * 128 + g.val, by omega⟩) + ∑ g : Fin 128, f ⟨512 + g.val, by omega⟩ := by
  rw [← Equiv.sum_comp (finProdFinEquiv (m := 5) (n := 128)) f, Fintype.sum_prod_type, Fin.sum_univ_castSucc]
  refine congrArg₂ (· + ·) ?_ ?_
  · refine Finset.sum_congr rfl fun t _ => Finset.sum_congr rfl fun r _ => congrArg f (Fin.ext ?_)
    show r.val + 128 * t.val = t.val * 128 + r.val
    omega
  · refine Finset.sum_congr rfl fun r _ => congrArg f (Fin.ext ?_)
    show r.val + 128 * 4 = 512 + r.val
    omega

/-- Sixteen lanes of which the last six are zero. -/
theorem sum_lanes (f : Fin 10 → EReal) (g : Fin 16 → EReal) (h : ∀ l : Fin 16, g l = if h : l.val < 10 then f ⟨l.val, h⟩ else 0) :
    ∑ l, g l = ∑ k, f k := by
  have e : ∀ k : Fin 10, g (Fin.castAdd 6 k) = f k := fun k => by
    rw [h, dif_pos (show (Fin.castAdd 6 k).val < 10 from k.isLt)]; rfl
  have e' : ∀ k : Fin 6, g (Fin.natAdd 10 k) = 0 := fun k => by
    rw [h, dif_neg (show ¬ (Fin.natAdd 10 k).val < 10 by rw [Fin.val_natAdd]; omega)]
  rw [show (∑ l : Fin 16, g l) = ∑ l : Fin (10 + 6), g l from rfl, Fin.sum_univ_add]
  simp only [e, e', Finset.sum_const_zero, add_zero]

end Cert.ClickModel
end
-- ==== Proof.UScratch.lean ====
/-
  The history the first point leaves in the scratch: twenty-section windows of the clicked features against the four
  history blocks of the first weights, summed.
-/
module

public import proofs.«01_k».proof.Proof.UFold
public import proofs.«01_k».proof.Proof.UMath
public import Idealize.ShloMosaic.Lib.MatmulPlain
public import Idealize.ShloMosaic.Lib.Pipeline.Value
public import Idealize.ShloMosaic.Lib.IdealHost
public import Idealize.ShloMosaic.Lib.Pipeline.ValueKit.Tiles
public import Idealize.ShloMosaic.Lib.KernelVsHost

@[expose] public section
noncomputable section
namespace Cert.UtilityIdeal.Mlp
open Idealize.ShloMosaic Idealize.SL.Sem Idealize.ShloMosaic.ValueIdx Cert.UtilityIdeal.Gen Cert.ClickModel

theorem zeroVal : (Scalar.ofBits .f32 0x00000000#32 : Ideal .f32) = (0 : EReal) := Ideal.ofBits_zero_f32
theorem oneVal : (Scalar.ofBits .f32 0x3F800000#32 : Ideal .f32) = (1 : EReal) := Ideal.ofBits_one_f32

/-- Rows moved down by `d`, zeros above. -/
theorem shifted {N d M C : ℕ} (hd : d + M = N) (y : FVec Ideal ⟨2, ![N, C]⟩ .f32)
    (hs : (⟨2, ![N, C]⟩ : Shape).Slices ![0, 0] ⟨2, ![M, C]⟩)
    (hc : Shape.Concatenates [⟨2, ![d, C]⟩, ⟨2, ![M, C]⟩] ⟨2, ![N, C]⟩ 0) (s : Fin N) (f : Fin C) :
    concatenate ⟨2, ![N, C]⟩ 0 [⟨⟨2, ![d, C]⟩, (broadcast ⟨2, ![d, C]⟩ (Scalar.ofBits .f32 0x00000000#32 : Ideal .f32))⟩,
      ⟨⟨2, ![M, C]⟩, extractStridedSlice ⟨2, ![M, C]⟩ ![0, 0] y hs⟩] hc (ix2 s f)
      = if h : s.val < d then (0 : EReal) else y (ix2 ⟨s.val - d, by omega⟩ f) := by
  by_cases h : s.val < d
  · rw [dif_pos h]
    refine (concatenate_pair_apply_left (t := ⟨2, ![N, C]⟩) 0 _ _ hc (ix2 s f) rfl (ix2 ⟨s.val, h⟩ f) ?_).trans zeroVal
    intro b
    match b with
    | ⟨0, _⟩ => rfl
    | ⟨1, _⟩ => rfl
  · rw [dif_neg h]
    refine (concatenate_pair_apply_right (t := ⟨2, ![N, C]⟩) 0 _ _ hc (ix2 s f) rfl rfl (ix2 ⟨s.val - d, by omega⟩ f) ?_ ?_).trans ?_
    · intro b hb
      match b, hb with
      | ⟨0, _⟩, hb => exact absurd rfl hb
      | ⟨1, _⟩, _ => rfl
    · show s.val - d + d = s.val
      omega
    · exact slice2_axis0_apply 0 y hs _ f ⟨s.val - d, by omega⟩ (Nat.zero_add _).symm

/-- A window of `d` rows and a window of `b` rows moved down by `d` make one of `d + b`. -/
theorem window_step {N d M C : ℕ} (hd : d + M = N) (x y z : FVec Ideal ⟨2, ![N, C]⟩ .f32) (b : ℕ)
    (hy : ∀ (s : Fin N) (f : Fin C), y (ix2 s f) = win (fun j => x (ix2 j f)) d s.val)
    (hz : ∀ (s : Fin N) (f : Fin C), z (ix2 s f) = win (fun j => x (ix2 j f)) b s.val)
    (hs : (⟨2, ![N, C]⟩ : Shape).Slices ![0, 0] ⟨2, ![M, C]⟩)
    (hc : Shape.Concatenates [⟨2, ![d, C]⟩, ⟨2, ![M, C]⟩] ⟨2, ![N, C]⟩ 0) (s : Fin N) (f : Fin C) :
    addf y (concatenate ⟨2, ![N, C]⟩ 0 [⟨⟨2, ![d, C]⟩, (broadcast ⟨2, ![d, C]⟩ (Scalar.ofBits .f32 0x00000000#32 : Ideal .f32))⟩,
      ⟨⟨2, ![M, C]⟩, extractStridedSlice ⟨2, ![M, C]⟩ ![0, 0] z hs⟩] hc) (ix2 s f)
      = win (fun j => x (ix2 j f)) (d + b) s.val := by
  rw [addf_apply, shifted hd, hy, ← win_add]
  show (_ : EReal) + _ = _ + _
  refine congrArg (_ + ·) ?_
  by_cases h : s.val < d
  · rw [dif_pos h, if_pos h]
  · rw [dif_neg h, if_neg h, hz]

theorem mm_scratch (a : FVec Ideal S4096x128 .f32) (b : FVec Ideal S128x256 .f32) (c : FVec Ideal S4096x256 .f32)
    (s : Fin 4096) (h : Fin 256) :
    matmul dot_S4096x128_S128x256_S4096x256_1_0_0_1_n_n none a b c (ix2 s h)
      = (c (ix2 s h) : EReal) + ∑ k : Fin 128, (a (ix2 s k) : EReal) * b (ix2 k h) :=
  Ideal.matmul_plain_apply none a b c s h

/-- The scratch after the first point. -/
theorem pay2_at (x1 : Vec Ideal S4096x128 .f32) (w0 w1 w2 w3 : Vec Ideal S128x256 .f32) (x8 : Vec Ideal S1x256 .f32)
    (s : Fin 4096) (h : Fin 256) :
    k0_pay2 x1 w0 w1 w2 w3 x8 (ix2 s h)
      = (Scalar.ofBits .f32 0x38D1B717#32 : Ideal .f32)
          * (0 + ∑ f : Fin 128, win (fun j => (x1 (ix2 j f) : EReal)) 20 s.val
              * ((((w0 (ix2 f h) : EReal) + w1 (ix2 f h)) + w2 (ix2 f h)) + w3 (ix2 f h)))
        + (x8 (ix2 0 h) : EReal) := by
  unfold k0_pay2
  rw [shapeCast_self, addf_apply, mulf_apply, mm_scratch, shapeCast_self]
  show (_ : EReal) + _ = _ + _
  refine congrArg₂ (· + ·) (congrArg₂ (· * ·) rfl (congrArg₂ (· + ·) zeroVal (Finset.sum_congr rfl fun f _ => ?_))) ?_
  · refine congrArg₂ (· * ·) ?_ rfl
    have e1 : ∀ (s : Fin 4096) (f : Fin 128), x1 (ix2 s f) = win (fun j => (x1 (ix2 j f) : EReal)) 1 s.val :=
      fun s f => (win_one (fun j => (x1 (ix2 j f) : EReal)) s).symm
    have e2 := window_step (d := 1) (M := 4095) rfl x1 x1 x1 1 e1 e1 slices_S4096x128_o0_0_S4095x128 concatenates_S1x128_S4095x128_S4096x128_d0
    have e4 := window_step (d := 2) (M := 4094) rfl x1 _ _ 2 e2 e2 slices_S4096x128_o0_0_S4094x128 concatenates_S2x128_S4094x128_S4096x128_d0
    have e8 := window_step (d := 4) (M := 4092) rfl x1 _ _ 4 e4 e4 slices_S4096x128_o0_0_S4092x128 concatenates_S4x128_S4092x128_S4096x128_d0
    have e16 := window_step (d := 8) (M := 4088) rfl x1 _ _ 8 e8 e8 slices_S4096x128_o0_0_S4088x128 concatenates_S8x128_S4088x128_S4096x128_d0
    exact window_step (d := 16) (M := 4080) rfl x1 _ _ 4 e16 e4 slices_S4096x128_o0_0_S4080x128 concatenates_S16x128_S4080x128_S4096x128_d0 s f
  · exact broadcastTo_1b_ab_apply x8 _ s h

/-- The weights of history block `p` as the first point loads them. -/
theorem ld_block (x5 : Vec Ideal S640x256 .f32) (o : ℕ) (inb : ∀ a, (![o, 0] : Fin 2 → ℕ) a + S128x256.size a ≤ S640x256.size a)
    (f : Fin 128) (h : Fin 256) (ho : o + f.val < 640) :
    View.ld x5 (Rect.unit (s := S640x256) ![o, 0] S128x256.size inb) (ix2 f h) = x5 (ix2 ⟨o + f.val, ho⟩ h) :=
  View.ld_unit_apply_of x5 _ _ inb (ix2 f h) _ fun a => by
    match a with
    | ⟨0, _⟩ => rfl
    | ⟨1, _⟩ => exact (Nat.zero_add _).symm

theorem scratch_at (x1 : Vec Ideal S4096x128 .f32) (x5 : Vec Ideal S640x256 .f32) (x8 : Vec Ideal S1x256 .f32)
    (s : Fin 4096) (h : Fin 256) :
    scratch x1 x5 x8 (ix2 s h)
      = (Scalar.ofBits .f32 0x38D1B717#32 : Ideal .f32)
          * (0 + ∑ f : Fin 128, win (fun j => (x1 (ix2 j f) : EReal)) 20 s.val
              * ((((x5 (ix2 ⟨0 + f.val, by omega⟩ h) : EReal) + x5 (ix2 ⟨128 + f.val, by omega⟩ h))
                + x5 (ix2 ⟨256 + f.val, by omega⟩ h)) + x5 (ix2 ⟨384 + f.val, by omega⟩ h)))
        + (x8 (ix2 0 h) : EReal) := by
  unfold scratch
  rw [pay2_at]
  refine congrArg (· + _) (congrArg (_ * ·) (congrArg (0 + ·) (Finset.sum_congr rfl fun f _ => ?_)))
  rw [ld_block x5 0 _ f h (by omega), ld_block x5 128 _ f h (by omega), ld_block x5 256 _ f h (by omega), ld_block x5 384 _ f h (by omega)]

end Cert.UtilityIdeal.Mlp
end
-- ==== Proof.ULogits.lean ====
/-
  One grid point's utilities, entry by entry: lane `l` of row `r` is the three-layer network of displayed item `l`, over
  the row's history in the scratch.
-/
module

public import proofs.«01_k».proof.Proof.UScratch

@[expose] public section
noncomputable section
namespace Cert.UtilityIdeal.Mlp
open Idealize.ShloMosaic Idealize.SL.Sem Idealize.ShloMosaic.ValueIdx Cert.UtilityIdeal.Gen Cert.ClickModel

theorem act_at {s : Shape} (x : FVec Ideal s .f32) (i : s.Idx) : act x i = elu (x i) := by
  show max (x i : EReal) (Ideal.exp (min (x i : EReal) (Scalar.ofBits .f32 0x00000000#32 : Ideal .f32)) - (Scalar.ofBits .f32 0x3F800000#32 : Ideal .f32)) = _
  rw [zeroVal, oneVal]
  rfl

/-- Choosing by a comparison of words for equality. -/
theorem pick_eq {α : Type} {w : ℕ} (x y : BitVec w) (a b : α) :
    Scalar.select (IntOp.cmpi .eq x y) a b = if x = y then a else b := by
  unfold IntOp.cmpi Scalar.select
  by_cases h : x = y
  · subst h; simp
  · rw [if_neg h, beq_eq_false_iff_ne.mpr h]; rfl

theorem word_eq {a b : ℕ} (ha : a < 2 ^ 32) (hb : b < 2 ^ 32) : (BitVec.ofNat 32 a = BitVec.ofNat 32 b) ↔ a = b :=
  ⟨fun h => by
    have := congrArg BitVec.toNat h
    rwa [BitVec.toNat_ofNat, BitVec.toNat_ofNat, Nat.mod_eq_of_lt ha, Nat.mod_eq_of_lt hb] at this, fun h => by rw [h]⟩

theorem lane_at (w3 : Vec Ideal S128x1 .f32) (k : ℕ) (hk : k < 16) (f : Fin 128) (l : Fin 16) :
    lane w3 (BitVec.ofNat 32 k) (ix2 f l) = if l.val = k then (w3 (ix2 f 0) : EReal) else 0 := by
  unfold lane
  rw [shapeCast_self, select_apply]
  show Scalar.select (IntOp.cmpi .eq (BitVec.ofNat 32 (0 * 16 + l.val)) (BitVec.ofNat 32 k)) (broadcastTo S128x16 w3 _ (ix2 f l))
    (Scalar.ofBits .f32 0x00000000#32 : Ideal .f32) = _
  rw [pick_eq, zeroVal, Nat.zero_mul, Nat.zero_add]
  have hl := l.isLt
  have e : broadcastTo S128x16 w3 broadcasts_S128x1_S128x16 (ix2 f l) = w3 (ix2 f 0) :=
    broadcastTo_apply w3 broadcasts_S128x1_S128x16 (ix2 f l) (ix2 f 0) (fun a => by
      match a with
      | ⟨0, _⟩ => rfl
      | ⟨1, _⟩ => rfl)
  rw [e]
  by_cases h : l.val = k
  · rw [if_pos h, if_pos (by rw [h])]
  · rw [if_neg h, if_neg fun h' => h ((word_eq (by omega) (by omega)).mp h')]

theorem mm_first (a : FVec Ideal S1024x128 .f32) (b : FVec Ideal S128x256 .f32) (c : FVec Ideal S1024x256 .f32)
    (s : Fin 1024) (h : Fin 256) :
    matmul dot_S1024x128_S128x256_S1024x256_1_0_0_1_n_n none a b c (ix2 s h)
      = (c (ix2 s h) : EReal) + ∑ k : Fin 128, (a (ix2 s k) : EReal) * b (ix2 k h) :=
  Ideal.matmul_plain_apply none a b c s h

theorem mm_second (a : FVec Ideal S1024x256 .f32) (b : FVec Ideal S256x128 .f32) (c : FVec Ideal S1024x128 .f32)
    (s : Fin 1024) (h : Fin 128) :
    matmul dot_S1024x256_S256x128_S1024x128_1_0_0_1_n_n none a b c (ix2 s h)
      = (c (ix2 s h) : EReal) + ∑ k : Fin 256, (a (ix2 s k) : EReal) * b (ix2 k h) :=
  Ideal.matmul_plain_apply none a b c s h

theorem mm_place (a : FVec Ideal S1024x128 .f32) (b : FVec Ideal S128x16 .f32) (c : FVec Ideal S1024x16 .f32)
    (s : Fin 1024) (h : Fin 16) :
    matmul dot_S1024x128_S128x16_S1024x16_1_0_0_1_n_n none a b c (ix2 s h)
      = (c (ix2 s h) : EReal) + ∑ k : Fin 128, (a (ix2 s k) : EReal) * b (ix2 k h) :=
  Ideal.matmul_plain_apply none a b c s h

theorem first_at (hb : Vec Ideal S1024x256 .f32) (w1b : Vec Ideal S128x256 .f32) (xb : FVec Ideal S1024x1280 .f32) (o : ℕ)
    (hs : S1024x1280.Slices ![0, o] S1024x128) (ho : o + 128 ≤ 1280) (r : Fin 1024) (h : Fin 256) :
    first hb w1b xb ![0, o] hs (ix2 r h)
      = elu ((∑ f : Fin 128, (xb (ix2 r ⟨o + f.val, by omega⟩) : EReal) * w1b (ix2 f h)) + hb (ix2 r h)) := by
  unfold first
  rw [act_at, addf_apply, mm_first]
  refine congrArg elu (congrArg (· + _) ?_)
  rw [constant_apply]
  refine (congrArg (· + _) zeroVal).trans ((zero_add _).trans (Finset.sum_congr rfl fun f _ => congrArg (· * _) ?_))
  exact slice2_axis1_apply o xb hs r f _ rfl

theorem second_at (w2 : Vec Ideal S256x128 .f32) (b2 : FVec Ideal S1x128 .f32) (h1 : FVec Ideal S1024x256 .f32) (r : Fin 1024)
    (j : Fin 128) :
    second w2 b2 h1 (ix2 r j)
      = elu ((∑ h : Fin 256, (h1 (ix2 r h) : EReal) * w2 (ix2 h j)) + b2 (ix2 0 j)) := by
  unfold second
  rw [act_at, addf_apply, mm_second]
  refine congrArg elu (congrArg₂ (· + ·) ?_ ?_)
  · rw [constant_apply]
    exact (congrArg (· + _) zeroVal).trans (zero_add _)
  · exact broadcastTo_1b_ab_apply b2 _ r j

theorem place_at (w2 : Vec Ideal S256x128 .f32) (w3 : Vec Ideal S128x1 .f32) (b2 : FVec Ideal S1x128 .f32)
    (h1 : FVec Ideal S1024x256 .f32) (k : ℕ) (hk : k < 16) (r : Fin 1024) (l : Fin 16) :
    place w2 w3 b2 h1 (BitVec.ofNat 32 k) (ix2 r l)
      = if l.val = k then ∑ j : Fin 128, (second w2 b2 h1 (ix2 r j) : EReal) * w3 (ix2 j 0) else 0 := by
  unfold place
  rw [mm_place, constant_apply]
  refine (congrArg (· + _) zeroVal).trans ((zero_add _).trans ?_)
  by_cases h : l.val = k
  · rw [if_pos h]
    refine Finset.sum_congr rfl fun j _ => ?_
    rw [lane_at w3 k hk, if_pos h]
  · rw [if_neg h]
    refine Finset.sum_eq_zero fun j _ => ?_
    rw [lane_at w3 k hk, if_neg h, mul_zero]

/-- The last layer's sum for displayed item `k` of row `r`, before its bias. -/
def sumOf (hb : Vec Ideal S1024x256 .f32) (w1b : Vec Ideal S128x256 .f32) (w2 : Vec Ideal S256x128 .f32)
    (w3 : Vec Ideal S128x1 .f32) (b2 : FVec Ideal S1x128 .f32) (xb : FVec Ideal S1024x1280 .f32) (r : Fin 1024) (k : Fin 10) : EReal :=
  ∑ j : Fin 128, elu ((∑ h : Fin 256, elu ((∑ f : Fin 128, (xb (ix2 r ⟨128 * k.val + f.val, by omega⟩) : EReal) * w1b (ix2 f h))
    + hb (ix2 r h)) * w2 (ix2 h j)) + b2 (ix2 0 j)) * w3 (ix2 j 0)

theorem place_first_at (hb : Vec Ideal S1024x256 .f32) (w1b : Vec Ideal S128x256 .f32) (w2 : Vec Ideal S256x128 .f32)
    (w3 : Vec Ideal S128x1 .f32) (b2 : FVec Ideal S1x128 .f32) (xb : FVec Ideal S1024x1280 .f32) (k : Fin 10) (o : ℕ)
    (w : BitVec 32) (ho : o = 128 * k.val) (hw : w = BitVec.ofNat 32 k.val) (hs : S1024x1280.Slices ![0, o] S1024x128)
    (r : Fin 1024) (l : Fin 16) :
    place w2 w3 b2 (first hb w1b xb ![0, o] hs) w (ix2 r l)
      = if l.val = k.val then sumOf hb w1b w2 w3 b2 xb r k else 0 := by
  subst ho hw
  rw [place_at w2 w3 b2 _ k.val (by omega)]
  refine congrArg (fun z => if l.val = k.val then z else 0) ?_
  refine Finset.sum_congr rfl fun j _ => congrArg (· * _) ?_
  rw [second_at]
  refine congrArg elu (congrArg (· + _) (Finset.sum_congr rfl fun h _ => congrArg (· * _) ?_))
  exact first_at hb w1b xb (128 * k.val) hs (by omega) r h

/-- Ten summands of which one is not zero. -/
theorem lanes_sum (S : Fin 10 → EReal) (k : Fin 10) :
    (((((((((((0 : EReal) + if k.val = 0 then S 0 else 0) + if k.val = 1 then S 1 else 0) + if k.val = 2 then S 2 else 0)
      + if k.val = 3 then S 3 else 0) + if k.val = 4 then S 4 else 0) + if k.val = 5 then S 5 else 0) + if k.val = 6 then S 6 else 0)
      + if k.val = 7 then S 7 else 0) + if k.val = 8 then S 8 else 0) + if k.val = 9 then S 9 else 0) = S k := by
  fin_cases k <;> simp

theorem logits_at (hb : Vec Ideal S1024x256 .f32) (w1b : Vec Ideal S128x256 .f32) (w2 : Vec Ideal S256x128 .f32)
    (w3 : Vec Ideal S128x1 .f32) (b2 : FVec Ideal S1x128 .f32) (b3 : Ideal .f32) (xb : FVec Ideal S1024x1280 .f32) (r : Fin 1024)
    (k : Fin 10) :
    logits hb w1b w2 w3 b2 b3 xb (ix2 r ⟨k.val, by omega⟩) = sumOf hb w1b w2 w3 b2 xb r k + (b3 : EReal) := by
  unfold logits
  simp only [addf_apply]
  rw [place_first_at hb w1b w2 w3 b2 xb 0 0 0#32 rfl rfl, place_first_at hb w1b w2 w3 b2 xb 1 128 1#32 rfl rfl,
    place_first_at hb w1b w2 w3 b2 xb 2 256 2#32 rfl rfl, place_first_at hb w1b w2 w3 b2 xb 3 384 3#32 rfl rfl,
    place_first_at hb w1b w2 w3 b2 xb 4 512 4#32 rfl rfl, place_first_at hb w1b w2 w3 b2 xb 5 640 5#32 rfl rfl,
    place_first_at hb w1b w2 w3 b2 xb 6 768 6#32 rfl rfl, place_first_at hb w1b w2 w3 b2 xb 7 896 7#32 rfl rfl,
    place_first_at hb w1b w2 w3 b2 xb 8 1024 8#32 rfl rfl, place_first_at hb w1b w2 w3 b2 xb 9 1152 9#32 rfl rfl]
  refine congrArg (· + (b3 : EReal)) ?_
  rw [broadcast_apply, zeroVal]
  exact lanes_sum (sumOf hb w1b w2 w3 b2 xb r) k

end Cert.UtilityIdeal.Mlp
end
-- ==== Proof.UTotals.lean ====
/-
  One grid point's exponentials, sums and totals, entry by entry, and the division that closes the totals.
-/
module

public import proofs.«01_k».proof.Proof.ULogits

@[expose] public section
noncomputable section
namespace Cert.UtilityIdeal.Mlp
open Idealize.ShloMosaic Idealize.SL.Sem Idealize.ShloMosaic.ValueIdx Cert.UtilityIdeal.Gen Cert.ClickModel

theorem pick_lt (l : Fin 16) {α : Type} (a b : α) :
    Scalar.select (IntOp.cmpi .slt (BitVec.ofNat 32 (0 * 16 + l.val)) 10#32) a b = if l.val < 10 then a else b := by
  have e : ∀ l : Fin 16, IntOp.cmpi .slt (BitVec.ofNat 32 (0 * 16 + l.val)) 10#32 = if l.val < 10 then 1#1 else 0#1 := by decide
  rw [e]
  by_cases h : l.val < 10
  · rw [if_pos h, if_pos h]; rfl
  · rw [if_neg h, if_neg h]; rfl

theorem expo_at (u : FVec Ideal S1024x16 .f32) (r : Fin 1024) (l : Fin 16) :
    expo u (ix2 r l) = if l.val < 10 then Ideal.exp (u (ix2 r l)) else 0 := by
  unfold expo
  rw [select_apply]
  refine (pick_lt l _ _).trans ?_
  rw [broadcast_apply, zeroVal]
  rfl

/-- A sum along the lanes. -/
theorem lane_sum (v : FVec Ideal S1024x16 .f32) (r : Fin 1024) :
    multiReduction .add [1] S1024 v 0x00000000#32 reduces_S1024x16_S1024 (.inl rfl) rfl (ix1 r)
      = ∑ l : Fin 16, (v (ix2 r l) : EReal) := by
  refine (Ideal.multiReduction_add_single (s := S1024x16) (t := S1024) (a := (1 : Fin 2)) v _ reduces_S1024x16_S1024 (.inl rfl) rfl (ix1 r)).trans ?_
  refine Finset.sum_congr rfl fun l _ => congrArg v (funext fun a => Fin.ext ?_)
  match a with
  | ⟨0, _⟩ => rfl
  | ⟨1, _⟩ => rfl

theorem segment_at (u : FVec Ideal S1024x16 .f32) (r : Fin 1024) :
    segment u (ix2 r 0) = ∑ k : Fin 10, Ideal.exp (u (ix2 r ⟨k.val, by omega⟩)) := by
  unfold segment
  refine (shapeCast_a_a1_apply _ _ r 0).trans ((lane_sum _ r).trans ?_)
  refine sum_lanes (fun k => Ideal.exp (u (ix2 r ⟨k.val, by omega⟩))) _ fun l => ?_
  rw [expo_at]
  by_cases h : l.val < 10
  · rw [if_pos h, dif_pos h]
  · rw [if_neg h, dif_neg h]

theorem clicked_at (p : IVec S1024x1 32) (u : FVec Ideal S1024x16 .f32) (r : Fin 1024) (l : Fin 16) :
    clicked p u (ix2 r l) = if BitVec.ofNat 32 l.val = p (ix2 r 0) then (u (ix2 r l) : EReal) else 0 := by
  unfold clicked
  rw [select_apply]
  have e : broadcastTo S1024x16 p broadcasts_S1024x1_S1024x16 (ix2 r l) = p (ix2 r 0) :=
    broadcastTo_apply p broadcasts_S1024x1_S1024x16 (ix2 r l) (ix2 r 0) (fun a => by
      match a with
      | ⟨0, _⟩ => rfl
      | ⟨1, _⟩ => rfl)
  show Scalar.select (IntOp.cmpi .eq (BitVec.ofNat 32 (0 * 16 + l.val)) (broadcastTo S1024x16 p broadcasts_S1024x1_S1024x16 (ix2 r l)))
    (u (ix2 r l)) (Scalar.ofBits .f32 0x00000000#32 : Ideal .f32) = _
  rw [e, pick_eq, zeroVal, Nat.zero_mul, Nat.zero_add]

/-- The sum along the lanes of the clicked utility, where the clicked lane is `k`. -/
theorem clicked_sum (p : IVec S1024x1 32) (u : FVec Ideal S1024x16 .f32) (r : Fin 1024) (k : Fin 16)
    (hk : p (ix2 r 0) = BitVec.ofNat 32 k.val) : ∑ l : Fin 16, (clicked p u (ix2 r l) : EReal) = u (ix2 r k) := by
  rw [Finset.sum_eq_single k]
  · rw [clicked_at, hk, if_pos rfl]
  · intro l _ hl
    rw [clicked_at, hk, if_neg fun h => hl (Fin.ext ((word_eq (by omega) (by omega)).mp h))]
  · intro h; exact absurd (Finset.mem_univ k) h

/-- A whole array's sum, read out of the one-entry array it is reduced to. -/
theorem total_rows (v : FVec Ideal S1024x1 .f32) :
    extractAt ![0, 0, 0] (shapeCast S1x1x1 (multiReduction .add [1, 2] S1 (shapeCast S1x1024x1 v shapeCasts_S1024x1_S1x1024x1)
      0x00000000#32 reduces_S1x1024x1_S1 (.inl rfl) rfl) shapeCasts_S1_S1x1x1) inpos_S1x1x1_p0_0_0
      = ∑ r : Fin 1024, (v (ix2 r 0) : EReal) := by
  unfold extractAt
  refine (Ideal.multiReduction_add_total (s := S1x1024x1) (t := S1) (axes := [1, 2]) _ _ reduces_S1x1024x1_S1 (fun b => by
    match b with
    | ⟨0, _⟩ => rfl) (.inl rfl) rfl _).trans ?_
  refine (Equiv.sum_comp (Shape.reshapeEquiv shapeCasts_S1024x1_S1x1024x1) (fun i => (v i : EReal))).trans ?_
  rw [sum_idx2]
  exact Finset.sum_congr rfl fun r _ => Fin.sum_univ_one _

theorem total_tile (v : FVec Ideal S8x128 .f32) :
    extractAt ![0, 0, 0] (shapeCast S1x1x1 (multiReduction .add [1, 2] S1 (shapeCast S1x8x128 v shapeCasts_S8x128_S1x8x128)
      0x00000000#32 reduces_S1x8x128_S1 (.inl rfl) rfl) shapeCasts_S1_S1x1x1) inpos_S1x1x1_p0_0_0
      = ∑ a : Fin 8, ∑ b : Fin 128, (v (ix2 a b) : EReal) := by
  unfold extractAt
  refine (Ideal.multiReduction_add_total (s := S1x8x128) (t := S1) (axes := [1, 2]) _ _ reduces_S1x8x128_S1 (fun b => by
    match b with
    | ⟨0, _⟩ => rfl) (.inl rfl) rfl _).trans ?_
  refine (Equiv.sum_comp (Shape.reshapeEquiv shapeCasts_S8x128_S1x8x128) (fun i => (v i : EReal))).trans ?_
  rw [sum_idx2]

/-- Choosing by two comparisons of words for equality. -/
theorem pick_and {α : Type} {w : ℕ} (x y x' y' : BitVec w) (a b : α) :
    Scalar.select (IntOp.andi (IntOp.cmpi .eq x y) (IntOp.cmpi .eq x' y')) a b = if x = y ∧ x' = y' then a else b := by
  have c : ∀ x y : BitVec w, IntOp.cmpi .eq x y = if x = y then 1#1 else 0#1 := by
    intro x y
    unfold IntOp.cmpi
    by_cases h : x = y
    · subst h; simp
    · rw [if_neg h, beq_eq_false_iff_ne.mpr h]; rfl
  rw [c, c]
  by_cases h : x = y
  · by_cases h' : x' = y'
    · rw [if_pos h, if_pos h', if_pos (show x = y ∧ x' = y' from ⟨h, h'⟩)]; rfl
    · rw [if_pos h, if_neg h', if_neg (show ¬(x = y ∧ x' = y') from fun e => h' e.2)]; rfl
  · by_cases h' : x' = y'
    · rw [if_neg h, if_pos h', if_neg (show ¬(x = y ∧ x' = y') from fun e => h e.1)]; rfl
    · rw [if_neg h, if_neg h', if_neg (show ¬(x = y ∧ x' = y') from fun e => h e.1)]; rfl

/-- The totals one point adds at entry (a, b), from its loss and its events. -/
def added (L E : EReal) (a : Fin 8) (b : Fin 128) : EReal :=
  ((if a.val = 0 ∧ b.val = 0 then L else 0) + (if a.val = 0 ∧ b.val = 1 then E else 0)) + (if a.val = 1 then E else 0)

theorem coord_eq (n k : ℕ) (hn : n < 2 ^ 31) (hk : k < 2 ^ 31) (z : ℕ) :
    (BitVec.ofNat 32 (0 * z + n) = BitVec.ofNat 32 k) = (n = k) := by
  rw [Nat.zero_mul, Nat.zero_add]
  exact propext (word_eq (by omega) (by omega))

theorem pay27_at (sg : FVec Ideal S1024x1 .f32) (cl : FVec Ideal S1024x16 .f32) (x4 : Vec Ideal S1024x1 .f32) (xo : Vec Ideal S8x128 .f32)
    (a : Fin 8) (b : Fin 128) :
    k0_pay27 sg cl x4 xo (ix2 a b)
      = (xo (ix2 a b) : EReal)
        + added (∑ r : Fin 1024, (Ideal.log ((sg (ix2 r 0) : EReal) + 1) - ∑ l : Fin 16, (cl (ix2 r l) : EReal)))
            (∑ r : Fin 1024, (x4 (ix2 r 0) : EReal)) a b := by
  unfold k0_pay27
  rw [total_rows, shapeCast_self, total_rows]
  rw [shapeCast_self]
  have hL : ∀ r : Fin 1024, (subf (log (addf sg (broadcast S1024x1 (Scalar.ofBits .f32 0x3F800000#32 : Ideal .f32))))
      (shapeCast S1024x1 (multiReduction .add [1] S1024 cl 0x00000000#32 reduces_S1024x16_S1024 (.inl rfl) rfl)
        shapeCasts_S1024_S1024x1) (ix2 r 0) : EReal)
      = Ideal.log ((sg (ix2 r 0) : EReal) + 1) - ∑ l : Fin 16, (cl (ix2 r l) : EReal) := by
    intro r
    rw [subf_apply]
    refine congrArg₂ (fun x y : EReal => x - y) ?_ ((shapeCast_a_a1_apply _ _ r 0).trans (lane_sum cl r))
    show Ideal.log ((sg (ix2 r 0) : EReal) + (Scalar.ofBits .f32 0x3F800000#32 : Ideal .f32)) = _
    rw [oneVal]
  rw [Finset.sum_congr rfl fun r _ => hL r]
  generalize (∑ r : Fin 1024, (Ideal.log ((sg (ix2 r 0) : EReal) + 1) - ∑ l : Fin 16, (cl (ix2 r l) : EReal))) = L
  generalize (∑ r : Fin 1024, (x4 (ix2 r 0) : EReal)) = E
  have ha := a.isLt
  have hb := b.isLt
  rw [addf_apply, addf_apply, addf_apply, select_apply, select_apply, select_apply]
  show (xo (ix2 a b) : EReal) + ((Scalar.select (IntOp.andi (IntOp.cmpi .eq (BitVec.ofNat 32 (0 * 8 + a.val)) (BitVec.ofNat 32 0))
        (IntOp.cmpi .eq (BitVec.ofNat 32 (0 * 128 + b.val)) (BitVec.ofNat 32 0))) L (Scalar.ofBits .f32 0x00000000#32 : Ideal .f32)
      + Scalar.select (IntOp.andi (IntOp.cmpi .eq (BitVec.ofNat 32 (0 * 8 + a.val)) (BitVec.ofNat 32 0))
        (IntOp.cmpi .eq (BitVec.ofNat 32 (0 * 128 + b.val)) (BitVec.ofNat 32 1))) E (Scalar.ofBits .f32 0x00000000#32 : Ideal .f32))
      + Scalar.select (IntOp.cmpi .eq (BitVec.ofNat 32 (0 * 8 + a.val)) (BitVec.ofNat 32 1)) E (Scalar.ofBits .f32 0x00000000#32 : Ideal .f32)) = _
  simp only [pick_and, pick_eq, zeroVal]
  unfold added
  simp only [coord_eq a.val 0 (by omega) (by omega), coord_eq a.val 1 (by omega) (by omega), coord_eq b.val 0 (by omega) (by omega),
    coord_eq b.val 1 (by omega) (by omega)]

theorem pay26_at (i : S8x128.Idx) : (k0_pay26 (F := Ideal)) i = (0 : EReal) := zeroVal
theorem pay3_at (i : S8x128.Idx) : (k0_pay3 (F := Ideal)) i = (0 : EReal) := zeroVal

theorem closing_at (xo : FVec Ideal S8x128 .f32) (a : Fin 8) (b : Fin 128) :
    closing xo (ix2 a b) = if a.val = 0 then Ideal.div (xo (ix2 a b)) (xo (ix2 0 1)) else (xo (ix2 a b) : EReal) := by
  unfold closing k0_pay1
  rw [shapeCast_self, total_tile]
  have ha := a.isLt
  have hb := b.isLt
  have e : ∑ a : Fin 8, ∑ b : Fin 128, (select (andi (cmpi .eq (iota .tc S8x128 32 [0] iota_S8x128_d0_w32) (broadcast S8x128 0#32))
      (cmpi .eq (iota .tc S8x128 32 [1] iota_S8x128_d1_w32) (broadcast S8x128 1#32))) xo (k0_pay26 (F := Ideal)) (ix2 a b) : EReal)
      = xo (ix2 0 1) := by
    have ev : ∀ (a : Fin 8) (b : Fin 128), (select (andi (cmpi .eq (iota .tc S8x128 32 [0] iota_S8x128_d0_w32) (broadcast S8x128 0#32))
      (cmpi .eq (iota .tc S8x128 32 [1] iota_S8x128_d1_w32) (broadcast S8x128 1#32))) xo (k0_pay26 (F := Ideal)) (ix2 a b) : EReal)
        = if a.val = 0 ∧ b.val = 1 then (xo (ix2 a b) : EReal) else 0 := by
      intro a b
      have ha := a.isLt
      have hb := b.isLt
      rw [select_apply]
      show Scalar.select (IntOp.andi (IntOp.cmpi .eq (BitVec.ofNat 32 (0 * 8 + a.val)) (BitVec.ofNat 32 0))
        (IntOp.cmpi .eq (BitVec.ofNat 32 (0 * 128 + b.val)) (BitVec.ofNat 32 1))) (xo (ix2 a b)) (Scalar.ofBits .f32 0x00000000#32 : Ideal .f32) = _
      rw [pick_and, zeroVal]
      simp only [coord_eq a.val 0 (by omega) (by omega), coord_eq b.val 1 (by omega) (by omega)]
    rw [Finset.sum_congr rfl fun a _ => Finset.sum_congr rfl fun b _ => ev a b, Finset.sum_eq_single 0, Finset.sum_eq_single 1]
    · rw [if_pos ⟨rfl, rfl⟩]
    · intro b _ h
      rw [if_neg fun h' => h (Fin.ext h'.2)]
    · intro h; exact absurd (Finset.mem_univ _) h
    · intro a _ h
      exact Finset.sum_eq_zero fun b _ => if_neg fun h' => h (Fin.ext h'.1)
    · intro h; exact absurd (Finset.mem_univ _) h
  rw [e, select_apply]
  show Scalar.select (IntOp.cmpi .eq (BitVec.ofNat 32 (0 * 8 + a.val)) (BitVec.ofNat 32 0)) (Ideal.div (xo (ix2 a b)) (xo (ix2 0 1))) (xo (ix2 a b)) = _
  rw [pick_eq]
  simp only [coord_eq a.val 0 (by omega) (by omega)]

/-- The clicked lane, from the clicked row of all the rows. -/
theorem pay6_at (t : Fin cfg0.N) (x3 : Vec Ideal S1024x1 .i32) (r : Fin 1024) :
    k0_pay6 (F := Ideal) (grid0.coords t) x3 (ix2 r 0) = x3 (ix2 r 0) - BitVec.ofNat 32 (rowOf t r).val * 10#32 := by
  unfold k0_pay6
  rw [shapeCast_self]
  have ht : ∀ t : Fin cfg0.N, BitVec.ofNat 32 (grid0.coords t 0).val * 1024#32 = BitVec.ofNat 32 (t.val * 1024) := by decide
  show x3 (ix2 r 0) - (BitVec.ofNat 32 (0 * 1024 + r.val) + BitVec.ofNat 32 (grid0.coords t 0).val * 1024#32) * 10#32 = _
  rw [ht t, Nat.zero_mul, Nat.zero_add, ← BitVec.ofNat_add, Nat.add_comm r.val]
  rfl

/-- The scratch rows a point reads. -/
theorem rows_at (t : Fin cfg0.N) (xs : Vec Ideal S4096x256 .f32) (r : Fin 1024) (h : Fin 256) :
    rows (grid0.coords t) xs (ix2 r h) = xs (ix2 (rowOf t r) h) := by
  have ho : ∀ t : Fin cfg0.N, k0_off1 (grid0.coords t) 0 = t.val * 1024 ∧ k0_off1 (grid0.coords t) 1 = 0 := by decide
  obtain ⟨h0, h1⟩ := ho t
  refine View.ld_unit_apply_of xs _ _ _ (ix2 r h) _ fun a => ?_
  match a with
  | ⟨0, _⟩ => show t.val * 1024 + r.val = k0_off1 (grid0.coords t) 0 + r.val; rw [h0]
  | ⟨1, _⟩ => show h.val = k0_off1 (grid0.coords t) 1 + h.val; rw [h1, Nat.zero_add]

end Cert.UtilityIdeal.Mlp
end
-- ==== Proof.UKernel.lean ====
/-
  What the TensorCore call leaves in its two results, as sums and networks of its arguments.
-/
module

public import proofs.«01_k».proof.Proof.UTotals

@[expose] public section
noncomputable section
namespace Cert.UtilityIdeal.Mlp
open Idealize.ShloMosaic Idealize.SL.Sem Idealize.ShloMosaic.ValueIdx Cert.UtilityIdeal.Gen Cert.UtilityIdeal.Value Cert.ClickModel
variable (m : (l : Loc nD τ sig) → Buf (Elt Ideal) l)

abbrev A0 (c : Dev nD) : FVec Ideal S40960x128 .f32 := m (c, Proc.devRef .tc main_arg0)
abbrev A1 (c : Dev nD) : FVec Ideal S4096x128 .f32 := m (c, Proc.devRef .tc main_arg1)
abbrev A2 (c : Dev nD) : FVec Ideal S4096 .f32 := m (c, Proc.devRef .tc main_arg2)
abbrev A4 (c : Dev nD) : IVec S4096 32 := m (c, Proc.devRef .tc main_arg4)
abbrev A5 (c : Dev nD) : FVec Ideal S640x256 .f32 := m (c, Proc.devRef .tc main_arg5)
abbrev A6 (c : Dev nD) : FVec Ideal S256 .f32 := m (c, Proc.devRef .tc main_arg6)
abbrev A7 (c : Dev nD) : FVec Ideal S256x128 .f32 := m (c, Proc.devRef .tc main_arg7)
abbrev A8 (c : Dev nD) : FVec Ideal S128 .f32 := m (c, Proc.devRef .tc main_arg8)
abbrev A9 (c : Dev nD) : FVec Ideal S128x1 .f32 := m (c, Proc.devRef .tc main_arg9)
abbrev A10 (c : Dev nD) : FVec Ideal S1 .f32 := m (c, Proc.devRef .tc main_arg10)

/-- The history part of section `s`'s first layer. -/
def past (c : Dev nD) (s : Fin 4096) (h : Fin 256) : EReal :=
  (Scalar.ofBits .f32 0x38D1B717#32 : Ideal .f32)
    * (0 + ∑ f : Fin 128, win (fun j => (A1 m c (ix2 j f) : EReal)) 20 s.val
        * ((((A5 m c (ix2 ⟨0 + f.val, by omega⟩ h) : EReal) + A5 m c (ix2 ⟨128 + f.val, by omega⟩ h))
          + A5 m c (ix2 ⟨256 + f.val, by omega⟩ h)) + A5 m c (ix2 ⟨384 + f.val, by omega⟩ h)))
  + (A6 m c (ix1 h) : EReal)

/-- The utility of displayed item `k` of section `s`. -/
def score (c : Dev nD) (s : Fin 4096) (k : Fin 10) : EReal :=
  utility (past m c s) (fun f => A0 m c (ix2 ⟨10 * s.val + k.val, by omega⟩ f)) (fun f h => A5 m c (ix2 ⟨512 + f.val, by omega⟩ h))
    (fun h j => A7 m c (ix2 h j)) (fun j => A8 m c (ix1 j)) (fun j => A9 m c (ix2 j 0)) (A10 m c (ix1 0))

theorem scr_at (c : Dev nD) (s : Fin 4096) (h : Fin 256) : scr m c (ix2 s h) = past m c s h := by
  unfold scr
  rw [scratch_at, V_v3]
  unfold past
  refine congrArg₂ (· + ·) rfl ?_
  exact shapeCast_a_1a_apply (A6 m c) _ 0 h

theorem block_at (c : Dev nD) (t : Fin cfg0.N) (r : Fin 1024) (k : Fin 10) (f : Fin 128) :
    iblk m c 0 t (ix2 r ⟨128 * k.val + f.val, by omega⟩)
      = A0 m c (ix2 ⟨10 * (rowOf t r).val + k.val, by have := (rowOf t r).isLt; omega⟩ f) := by
  rw [blk0, V_v0]
  refine shapeCast_apply (A0 m c) _ _ _ ?_
  rw [Shape.rowMajor_val_two, Shape.rowMajor_val_two]
  show (10 * (rowOf t r).val + k.val) * 128 + f.val = (rowOf t r).val * 1280 + (128 * k.val + f.val)
  omega

theorem bias3_at (x : Vec Ideal S1x1 .f32) : bias3 x = x (ix2 0 0) :=
  View.ld_unit_apply_of x _ _ _ _ (ix2 0 0) fun a => by
    match a with
    | ⟨0, _⟩ => rfl
    | ⟨1, _⟩ => rfl

theorem util_at (c : Dev nD) (t : Fin cfg0.N) (r : Fin 1024) (k : Fin 10) :
    util m c t (ix2 r ⟨k.val, by omega⟩) = score m c (rowOf t r) k := by
  unfold util scores k0_pay4 k0_pay5
  rw [shapeCast_self, shapeCast_self, logits_at, bias3_at, V_v4, V_v5]
  unfold score utility sumOf
  refine congrArg₂ (· + ·) (Finset.sum_congr rfl fun j _ => congrArg₂ (· * ·) (congrArg elu (congrArg₂ (· + ·)
    (Finset.sum_congr rfl fun h _ => congrArg₂ (· * ·) (congrArg elu (congrArg₂ (· + ·)
      (Finset.sum_congr rfl fun f _ => congrArg₂ (· * ·) ?_ ?_) ?_)) rfl) ?_)) rfl) ?_
  · exact block_at m c t r k f
  · exact ld_block (A5 m c) 512 _ f h (by omega)
  · exact (rows_at t _ r h).trans (scr_at m c _ h)
  · exact shapeCast_a_1a_apply (A8 m c) _ 0 j
  · exact shapeCast_a_1a_apply (A10 m c) _ 0 0

/-- One section's part of the loss. -/
def lossOf (c : Dev nD) (p : Fin 4096 → Fin 10) (s : Fin 4096) : EReal :=
  Ideal.log ((∑ k : Fin 10, Ideal.exp (score m c s k)) + 1) - score m c s (p s)

theorem tot_at (c : Dev nD) (p : Fin 4096 → Fin 10)
    (hp : ∀ s : Fin 4096, A4 m c (ix1 s) - BitVec.ofNat 32 s.val * 10#32 = BitVec.ofNat 32 (p s).val)
    (t : Fin cfg0.N) (xo : Vec Ideal S8x128 .f32) (a : Fin 8) (b : Fin 128) :
    tot m c t xo (ix2 a b)
      = (xo (ix2 a b) : EReal)
        + added (∑ r : Fin 1024, lossOf m c p (rowOf t r)) (∑ r : Fin 1024, (A2 m c (ix1 (rowOf t r)) : EReal)) a b := by
  unfold tot totals
  rw [pay27_at]
  refine congrArg (_ + ·) (congrArg₂ (fun L E => added L E a b) (Finset.sum_congr rfl fun r _ => ?_) (Finset.sum_congr rfl fun r _ => ?_))
  · unfold lossOf
    refine congrArg₂ (fun x y : EReal => x - y) (congrArg (fun z => Ideal.log (z + 1)) ?_) ?_
    · rw [segment_at]
      exact Finset.sum_congr rfl fun k _ => congrArg Ideal.exp (util_at m c t r k)
    · rw [clicked_sum _ _ r ⟨(p (rowOf t r)).val, by omega⟩, util_at]
      rw [pay6_at, blk3, V_v1]
      refine Eq.trans (congrArg (· - _) ?_) (hp (rowOf t r))
      exact shapeCast_a_a1_apply (A4 m c) _ (rowOf t r) 0
  · rw [blk4, V_v2]
    exact shapeCast_a_a1_apply (A2 m c) _ (rowOf t r) 0

/-- The totals after the last point, before the division. -/
theorem all_at (c : Dev nD) (p : Fin 4096 → Fin 10)
    (hp : ∀ s : Fin 4096, A4 m c (ix1 s) - BitVec.ofNat 32 s.val * 10#32 = BitVec.ofNat 32 (p s).val) (a : Fin 8) (b : Fin 128) :
    tot m c t0_3 (tot m c t0_2 (tot m c t0_1 (tot m c t0_0 (k0_pay3 (F := Ideal))))) (ix2 a b)
      = added (∑ s : Fin 4096, lossOf m c p s) (∑ s : Fin 4096, (A2 m c (ix1 s) : EReal)) a b := by
  rw [tot_at m c p hp, tot_at m c p hp, tot_at m c p hp, tot_at m c p hp, pay3_at, sum_blocks, sum_blocks, Fin.sum_univ_four,
    Fin.sum_univ_four]
  have e : ∀ L0 L1 L2 L3 E0 E1 E2 E3 : EReal, (((0 + added L0 E0 a b) + added L1 E1 a b) + added L2 E2 a b) + added L3 E3 a b
      = added (((L0 + L1) + L2) + L3) (((E0 + E1) + E2) + E3) a b := by
    intro L0 L1 L2 L3 E0 E1 E2 E3
    unfold added
    by_cases h1 : a.val = 1
    · have h0 : ¬ a.val = 0 := by omega
      simp [h0, h1]
    · by_cases h0 : a.val = 0
      · by_cases h : b.val = 0
        · have h' : ¬ b.val = 1 := by omega
          simp [h0, h, h']
        · simp [h0, h]
          by_cases h' : b.val = 1
          · simp [h']
          · simp [h']
      · simp [h0, h1]
  exact e _ _ _ _ _ _ _ _

/-- The first result. -/
theorem first_result (c : Dev nD) (p : Fin 4096 → Fin 10)
    (hp : ∀ s : Fin 4096, A4 m c (ix1 s) - BitVec.ofNat 32 s.val * 10#32 = BitVec.ofNat 32 (p s).val) (a : Fin 8) (b : Fin 128) :
    G11 m c (ix2 a b)
      = if a.val = 0 then
          Ideal.div (if b.val = 0 then ∑ s : Fin 4096, lossOf m c p s
            else if b.val = 1 then ∑ s : Fin 4096, (A2 m c (ix1 s) : EReal) else 0) (∑ s : Fin 4096, (A2 m c (ix1 s) : EReal))
        else if a.val = 1 then ∑ s : Fin 4096, (A2 m c (ix1 s) : EReal) else 0 := by
  rw [G11_eq, closing_at, all_at m c p hp, all_at m c p hp]
  generalize (∑ s : Fin 4096, lossOf m c p s) = L
  generalize (∑ s : Fin 4096, (A2 m c (ix1 s) : EReal)) = E
  have e : added L E 0 1 = E := by unfold added; simp
  rw [e]
  by_cases h0 : a.val = 0
  · rw [if_pos h0, if_pos h0]
    refine congrArg (Ideal.div · E) ?_
    unfold added
    by_cases h : b.val = 0
    · simp [h0, h]
    · simp [h0, h]
  · rw [if_neg h0, if_neg h0]
    unfold added
    simp [h0]

/-- The second result. -/
theorem second_result (c : Dev nD) (s : Fin 4096) (l : Fin 16) :
    G12 m c (ix2 s l) = if h : l.val < 10 then Ideal.exp (score m c s ⟨l.val, h⟩) else 0 := by
  have hN : cfg0.N = 4 := N_0
  have hs : s = rowOf ⟨s.val / 1024, by omega⟩ ⟨s.val % 1024, by omega⟩ := Fin.ext (by
    show s.val = s.val / 1024 * 1024 + s.val % 1024
    omega)
  rw [hs, G12_eq, expo_at]
  by_cases h : l.val < 10
  · rw [if_pos h, dif_pos h]
    exact congrArg Ideal.exp (util_at m c _ _ ⟨l.val, h⟩)
  · rw [if_neg h, dif_neg h]

end Cert.UtilityIdeal.Mlp
end
-- ==== Proof.URefScore.lean ====
/-
  The reference's utilities, entry by entry: the same network of one displayed item, its history the banded product of the
  clicked features, four times side by side.
-/
module

public import proofs.«01_k».proof.Proof.Gen.UtilityReferenceIdeal.Run
public import proofs.«01_k».proof.Proof.UMath
public import Idealize.ShloMosaic.Lib.StackMember
public import Idealize.ShloMosaic.Lib.Pipeline.Value
public import Idealize.ShloMosaic.Lib.IdealHost
public import Idealize.ShloMosaic.Lib.KernelVsHost
public import Idealize.ShloMosaic.Lib.ValueIdx
public import Idealize.ShloMosaic.Lib.ValueLayout
public import Idealize.ShloMosaic.Lib.ValueLayoutCasts

@[expose] public section
noncomputable section
namespace Cert.UtilityReferenceIdeal.Read
open Idealize.ShloMosaic Idealize.SL.Sem Idealize.ShloMosaic.ValueIdx Cert.UtilityReferenceIdeal.Gen Cert.UtilityReferenceIdeal.Value
open Cert.ClickModel Idealize.ShloMosaic.StackMember
variable (V0 : Valuation τ sig (Elt Ideal))

theorem zeroVal : (Scalar.ofBits .f32 0x00000000#32 : Ideal .f32) = (0 : EReal) := Ideal.ofBits_zero_f32
theorem oneVal : (Scalar.ofBits .f32 0x3F800000#32 : Ideal .f32) = (1 : EReal) := Ideal.ofBits_one_f32

abbrev R0 : FVec Ideal S40960x128 .f32 := V0 (Proc.devRef .tc main_arg0)
abbrev R1 : FVec Ideal S4096x128 .f32 := V0 (Proc.devRef .tc main_arg1)
abbrev R2 : FVec Ideal S4096 .f32 := V0 (Proc.devRef .tc main_arg2)
abbrev R4 : IVec S4096 32 := V0 (Proc.devRef .tc main_arg4)
abbrev R5 : FVec Ideal S640x256 .f32 := V0 (Proc.devRef .tc main_arg5)
abbrev R6 : FVec Ideal S256 .f32 := V0 (Proc.devRef .tc main_arg6)
abbrev R7 : FVec Ideal S256x128 .f32 := V0 (Proc.devRef .tc main_arg7)
abbrev R8 : FVec Ideal S128 .f32 := V0 (Proc.devRef .tc main_arg8)
abbrev R9 : FVec Ideal S128x1 .f32 := V0 (Proc.devRef .tc main_arg9)
abbrev R10 : FVec Ideal S1 .f32 := V0 (Proc.devRef .tc main_arg10)

/-! ## The band -/

theorem toInt_small (n : ℕ) (h : n < 2 ^ 31) : (BitVec.ofNat 32 n).toInt = n := by
  rw [BitVec.toInt_ofNat']
  exact Int.bmod_eq_of_le (by omega) (by omega)

/-- The band's mask, of words. -/
theorem band_word (s j : ℕ) (hs : s < 4096) (hj : j < 4096) {α : Type} (a b : α) :
    Scalar.select (IntOp.andi (IntOp.cmpi .sle (BitVec.ofNat 32 j) (BitVec.ofNat 32 s))
      (IntOp.cmpi .sgt (BitVec.ofNat 32 j) (BitVec.ofNat 32 s - 20#32))) a b = if j ≤ s ∧ s < j + 20 then a else b := by
  have e1 : IntOp.cmpi .sle (BitVec.ofNat 32 j) (BitVec.ofNat 32 s) = if j ≤ s then 1#1 else 0#1 := by
    show BitVec.ofBool (decide ((BitVec.ofNat 32 j).toInt ≤ (BitVec.ofNat 32 s).toInt)) = _
    rw [toInt_small j (by omega), toInt_small s (by omega)]
    by_cases h : j ≤ s
    · rw [if_pos h, decide_eq_true (by omega)]; rfl
    · rw [if_neg h, decide_eq_false (by omega)]; rfl
  have e2 : IntOp.cmpi .sgt (BitVec.ofNat 32 j) (BitVec.ofNat 32 s - 20#32) = if s < j + 20 then 1#1 else 0#1 := by
    show BitVec.ofBool (decide ((BitVec.ofNat 32 s - 20#32).toInt < (BitVec.ofNat 32 j).toInt)) = _
    have e : (BitVec.ofNat 32 s - 20#32).toInt = (s : ℤ) - 20 := by
      rw [BitVec.toInt_sub, toInt_small s (by omega), show (20#32).toInt = 20 from rfl]
      exact Int.bmod_eq_of_le (by omega) (by omega)
    rw [e, toInt_small j (by omega)]
    by_cases h : s < j + 20
    · rw [if_pos h, decide_eq_true (by omega)]; rfl
    · rw [if_neg h, decide_eq_false (by omega)]; rfl
  rw [e1, e2]
  by_cases h : j ≤ s
  · by_cases h' : s < j + 20
    · rw [if_pos h, if_pos h', if_pos (show j ≤ s ∧ s < j + 20 from ⟨h, h'⟩)]; rfl
    · rw [if_pos h, if_neg h', if_neg (show ¬(j ≤ s ∧ s < j + 20) from fun e => h' e.2)]; rfl
  · by_cases h' : s < j + 20
    · rw [if_neg h, if_pos h', if_neg (show ¬(j ≤ s ∧ s < j + 20) from fun e => h e.1)]; rfl
    · rw [if_neg h, if_neg h', if_neg (show ¬(j ≤ s ∧ s < j + 20) from fun e => h e.1)]; rfl

/-- The banded matrix at an entry. -/
theorem band_at (s j : Fin 4096) :
    res_main_v7 V0 (ix2 s j)
      = if j.val ≤ s.val ∧ s.val < j.val + 20 then ((Scalar.ofBits .f32 0x38D1B717#32 : Ideal .f32) : EReal) else 0 := by
  unfold res_main_v7 res_main_v0 res_main_v1
  rw [select_apply]
  refine (band_word s.val j.val s.isLt j.isLt (Scalar.ofBits .f32 0x38D1B717#32 : Ideal .f32) (Scalar.ofBits .f32 0x00000000#32 : Ideal .f32)).trans ?_
  rw [zeroVal]

/-- The windowed history of section `s`. -/
def seen (s : Fin 4096) (f : Fin 128) : EReal :=
  ∑ j : Fin 4096, (if j.val ≤ s.val ∧ s.val < j.val + 20 then ((Scalar.ofBits .f32 0x38D1B717#32 : Ideal .f32) : EReal) else 0)
    * R1 V0 (ix2 j f)

/-- The banded product at an entry. -/
theorem seen_at (s : Fin 4096) (f : Fin 128) :
    (Host.dotGeneral dot_S4096x4096_S4096x128_S4096x128_1_0_0_1_n_n none (res_main_v7 V0) (R1 V0)) (ix2 s f) = seen V0 s f :=
  (dotGeneral_plain_apply (m := 4096) (n := 128) (k := 4096) none (res_main_v7 V0) (R1 V0) s f).trans
    (Finset.sum_congr rfl fun j _ => congrArg (· * (R1 V0 (ix2 j f) : EReal)) (band_at V0 s j))

/-! ## The features of one row -/

/-- The features of row `n`. -/
def feats : FVec Ideal S40960x640 .f32 :=
  concatenate S40960x640 1 [⟨S40960x512, (shapeCast _ (broadcastInDim S4096x10x512 ![0, 2] bcast_S4096x512_S4096x10x512_0_2 ((concatenate S4096x512 1 [⟨S4096x128, ((Host.dotGeneral dot_S4096x4096_S4096x128_S4096x128_1_0_0_1_n_n none (res_main_v7 V0) (R1 V0)) : (⟨S4096x128, .f32⟩ : BufTy).Contents (Elt Ideal))⟩, ⟨S4096x128, ((Host.dotGeneral dot_S4096x4096_S4096x128_S4096x128_1_0_0_1_n_n none (res_main_v7 V0) (R1 V0)) : (⟨S4096x128, .f32⟩ : BufTy).Contents (Elt Ideal))⟩, ⟨S4096x128, ((Host.dotGeneral dot_S4096x4096_S4096x128_S4096x128_1_0_0_1_n_n none (res_main_v7 V0) (R1 V0)) : (⟨S4096x128, .f32⟩ : BufTy).Contents (Elt Ideal))⟩, ⟨S4096x128, ((Host.dotGeneral dot_S4096x4096_S4096x128_S4096x128_1_0_0_1_n_n none (res_main_v7 V0) (R1 V0)) : (⟨S4096x128, .f32⟩ : BufTy).Contents (Elt Ideal))⟩] concatenates_S4096x128_S4096x128_S4096x128_S4096x128_S4096x512_d1 : (⟨S4096x512, .f32⟩ : BufTy).Contents (Elt Ideal)))) shapeCasts_S4096x10x512_S40960x512)⟩, ⟨S40960x128, (R0 V0)⟩] concatenates_S40960x512_S40960x128_S40960x640_d1

/-- The first 512 features of a displayed item: its section's history, four times. -/
theorem feats_past (s : Fin 4096) (k : Fin 10) (p : Fin 4) (g : Fin 128) :
    feats V0 (ix2 (⟨10 * s.val + k.val, by omega⟩ : Fin 40960) (⟨p.val * 128 + g.val, by omega⟩ : Fin 640)) = seen V0 s g := by
  unfold feats
  refine (concatenate_pair_apply_left (t := S40960x640) (s₁ := S40960x512) (s₂ := S40960x128) 1 _ _ _ _ rfl
    (ix2 (⟨10 * s.val + k.val, by omega⟩ : Fin 40960) (⟨p.val * 128 + g.val, by omega⟩ : Fin 512)) ?_).trans ?_
  · intro b
    match b with
    | ⟨0, _⟩ => rfl
    | ⟨1, _⟩ => rfl
  refine (shapeCast_apply _ shapeCasts_S4096x10x512_S40960x512 _ (ix3 s k (⟨p.val * 128 + g.val, by omega⟩ : Fin 512)) ?_).trans ?_
  · rw [Shape.rowMajor_val_two, Shape.rowMajor_val_three]
    show (s.val * 10 + k.val) * 512 + (p.val * 128 + g.val) = (10 * s.val + k.val) * 512 + (p.val * 128 + g.val)
    omega
  refine (broadcastInDim_apply _ bcast_S4096x512_S4096x10x512_0_2 _ _ (ix2 s (⟨p.val * 128 + g.val, by omega⟩ : Fin 512)) ?_).trans ?_
  · intro a
    match a with
    | ⟨0, _⟩ => rfl
    | ⟨1, _⟩ => rfl
  refine (concatenate_replicate_apply (t := S4096x512) (s₁ := S4096x128) 1 4
    (Host.dotGeneral dot_S4096x4096_S4096x128_S4096x128_1_0_0_1_n_n none (res_main_v7 V0) (R1 V0))
    concatenates_S4096x128_S4096x128_S4096x128_S4096x128_S4096x512_d1 rfl _ (ix2 s g) ?_ ?_).trans (seen_at V0 s g)
  · show g.val = (p.val * 128 + g.val) % 128
    omega
  · intro b hb
    match b, hb with
    | ⟨0, _⟩, _ => rfl
    | ⟨1, _⟩, hb => exact absurd rfl hb

/-- The last 128 features of a displayed item: its own. -/
theorem feats_item (n : Fin 40960) (g : Fin 128) : feats V0 (ix2 n (⟨512 + g.val, by omega⟩ : Fin 640)) = R0 V0 (ix2 n g) := by
  unfold feats
  refine concatenate_pair_apply_right (t := S40960x640) (s₁ := S40960x512) (s₂ := S40960x128) 1 _ _ _ _ rfl rfl (ix2 n g) ?_ ?_
  · intro b hb
    match b, hb with
    | ⟨0, _⟩, _ => rfl
    | ⟨1, _⟩, hb => exact absurd rfl hb
  · show g.val + 512 = 512 + g.val
    omega

/-! ## The three layers -/

theorem bias_at {N M : ℕ} (h1 : (⟨1, ![M]⟩ : Shape).BroadcastsInDim ⟨2, ![1, M]⟩ ![1])
    (h2 : (⟨2, ![1, M]⟩ : Shape).BroadcastsInDim ⟨2, ![N, M]⟩ ![0, 1]) (x : (⟨1, ![M]⟩ : Shape).Idx → EReal) (n : Fin N) (j : Fin M) :
    broadcastInDim ⟨2, ![N, M]⟩ ![0, 1] h2 (broadcastInDim ⟨2, ![1, M]⟩ ![1] h1 x) (ix2 n j) = x (ix1 j) := by
  refine (broadcastInDim_apply _ h2 _ _ (ix2 (0 : Fin 1) j) ?_).trans (broadcastInDim_apply _ h1 _ _ (ix1 j) ?_)
  · intro a
    match a with
    | ⟨0, _⟩ => rfl
    | ⟨1, _⟩ =>
      show j.val = if M = 1 then 0 else j.val
      by_cases h : M = 1
      · rw [if_pos h]; have := j.isLt; omega
      · rw [if_neg h]
  · intro a
    match a with
    | ⟨0, _⟩ =>
      show j.val = if M = 1 then 0 else j.val
      by_cases h : M = 1
      · rw [if_pos h]; have := j.isLt; omega
      · rw [if_neg h]

/-- The activation as the reference spells it. -/
theorem elu_at {s : Shape} (b : S_.BroadcastsInDim s ![]) (x : FVec Ideal s .f32) (i : s.Idx) :
    select (cmpf .ogt x (broadcastInDim s ![] b (constant S_ .f32 0x00000000#32))) x
      (mulf (broadcastInDim s ![] b (constant S_ .f32 0x3F800000#32))
        (Host.expm1 (select (cmpf .ogt x (broadcastInDim s ![] b (constant S_ .f32 0x00000000#32)))
          (broadcastInDim s ![] b (id (constant S_ .f32 0x00000000#32))) x))) i = elu (x i) := by
  rw [select_apply]
  show Scalar.select (Ideal.cmp .ogt (x i) (Scalar.ofBits .f32 0x00000000#32 : Ideal .f32)) (x i)
    ((Scalar.ofBits .f32 0x3F800000#32 : Ideal .f32) * (Ideal.exp (Scalar.select (Ideal.cmp .ogt (x i) (Scalar.ofBits .f32 0x00000000#32 : Ideal .f32))
      (Scalar.ofBits .f32 0x00000000#32 : Ideal .f32) (x i)) - 1) : EReal) = _
  rw [zeroVal, oneVal]
  exact elu_select (x i)

/-- The history part of section `s`'s first layer. -/
def past (s : Fin 4096) (h : Fin 256) : EReal :=
  (∑ p : Fin 4, ∑ g : Fin 128, seen V0 s g * R5 V0 (ix2 ⟨p.val * 128 + g.val, by omega⟩ h)) + (R6 V0 (ix1 h) : EReal)

theorem layer1_at (s : Fin 4096) (k : Fin 10) (h : Fin 256) :
    res_main_v19 V0 (ix2 ⟨10 * s.val + k.val, by omega⟩ h)
      = (∑ f : Fin 128, (R0 V0 (ix2 ⟨10 * s.val + k.val, by omega⟩ f) : EReal) * R5 V0 (ix2 ⟨512 + f.val, by omega⟩ h)) + past V0 s h := by
  unfold res_main_v19
  refine (congrArg₂ (fun x y : EReal => x + y)
    (dotGeneral_plain_apply (m := 40960) (n := 256) (k := 640) none (feats V0) (R5 V0) _ h)
    (bias_at bcast_S256_S1x256_1 bcast_S1x256_S40960x256_0_1 (R6 V0) _ h)).trans ?_
  rw [sum_features]
  unfold past
  rw [add_comm (∑ p : Fin 4, _) _, add_assoc]
  refine congrArg₂ (· + ·) (Finset.sum_congr rfl fun f _ => congrArg (· * (R5 V0 (ix2 ⟨512 + f.val, by omega⟩ h) : EReal)) (feats_item V0 _ f))
    (congrArg (· + _) (Finset.sum_congr rfl fun p _ => Finset.sum_congr rfl fun g _ =>
      congrArg (· * (R5 V0 (ix2 ⟨p.val * 128 + g.val, by omega⟩ h) : EReal)) (feats_past V0 s k p g)))

theorem layer2_at (n : Fin 40960) (j : Fin 128) :
    res_main_v24 V0 (ix2 n j)
      = (∑ h : Fin 256, elu (res_main_v19 V0 (ix2 n h)) * (R7 V0 (ix2 h j) : EReal)) + (R8 V0 (ix1 j) : EReal) := by
  unfold res_main_v24
  refine congrArg₂ (fun x y : EReal => x + y) ((dotGeneral_plain_apply (m := 40960) (n := 128) (k := 256) none _ (R7 V0) n j).trans
    (Finset.sum_congr rfl fun h _ => congrArg (· * (R7 V0 (ix2 h j) : EReal)) ?_))
    (bias_at bcast_S128_S1x128_1 bcast_S1x128_S40960x128_0_1 (R8 V0) _ j)
  exact elu_at bcast_S_S40960x256 (res_main_v19 V0) (ix2 n h)

theorem layer3_at (n : Fin 40960) :
    res_main_v29 V0 (ix2 n 0)
      = (∑ j : Fin 128, elu (res_main_v24 V0 (ix2 n j)) * (R9 V0 (ix2 j 0) : EReal)) + (R10 V0 (ix1 0) : EReal) := by
  unfold res_main_v29
  refine congrArg₂ (fun x y : EReal => x + y) ((dotGeneral_plain_apply (m := 40960) (n := 1) (k := 128) none _ (R9 V0) n 0).trans
    (Finset.sum_congr rfl fun j _ => congrArg (· * (R9 V0 (ix2 j 0) : EReal)) ?_))
    (bias_at bcast_S1_S1x1_1 bcast_S1x1_S40960x1_0_1 (R10 V0) _ 0)
  exact elu_at bcast_S_S40960x128 (res_main_v24 V0) (ix2 n j)

/-- The utility of displayed item `k` of section `s`. -/
def score (s : Fin 4096) (k : Fin 10) : EReal :=
  utility (past V0 s) (fun f => R0 V0 (ix2 ⟨10 * s.val + k.val, by omega⟩ f)) (fun f h => R5 V0 (ix2 ⟨512 + f.val, by omega⟩ h))
    (fun h j => R7 V0 (ix2 h j)) (fun j => R8 V0 (ix1 j)) (fun j => R9 V0 (ix2 j 0)) (R10 V0 (ix1 0))

/-- The reference's utilities are `score`. -/
theorem score_at (s : Fin 4096) (k : Fin 10) : res_main_v29 V0 (ix2 ⟨10 * s.val + k.val, by omega⟩ 0) = score V0 s k := by
  rw [layer3_at]
  unfold score utility
  refine congrArg (· + _) (Finset.sum_congr rfl fun j _ => congrArg (fun z => elu z * _) ?_)
  rw [layer2_at]
  exact congrArg (· + _) (Finset.sum_congr rfl fun h _ => congrArg (fun z => elu z * _) (layer1_at V0 s k h))

end Cert.UtilityReferenceIdeal.Read
end
-- ==== Proof.URefOut.lean ====
/-
  The reference's two results, entry by entry.
-/
module

public import proofs.«01_k».proof.Proof.URefScore

@[expose] public section
noncomputable section
namespace Cert.UtilityReferenceIdeal.Read
open Idealize.ShloMosaic Idealize.SL.Sem Idealize.ShloMosaic.ValueIdx Cert.UtilityReferenceIdeal.Gen Cert.UtilityReferenceIdeal.Value
open Cert.ClickModel
variable (V0 : Valuation τ sig (Elt Ideal))

/-! ## The exponentials and their sums -/

theorem expo_at (s : Fin 4096) (k : Fin 10) :
    (shapeCast S4096x10 (res_main_v30 V0) shapeCasts_S40960x1_S4096x10) (ix2 s k) = Ideal.exp (score V0 s k) := by
  refine (shapeCast_apply (s := S40960x1) (t := S4096x10) (res_main_v30 V0) shapeCasts_S40960x1_S4096x10 _ (ix2 (⟨10 * s.val + k.val, by omega⟩ : Fin 40960) (0 : Fin 1)) ?_).trans ?_
  · rw [Shape.rowMajor_val_two, Shape.rowMajor_val_two]
    show (10 * s.val + k.val) * 1 + 0 = s.val * 10 + k.val
    omega
  · exact congrArg Ideal.exp (score_at V0 s k)

/-- A section's sum of exponentials. -/
theorem segment_at (s : Fin 4096) (j : S4096x1.Idx) (hj : j = ix2 s 0) :
    (broadcastInDim S4096x1 ![0] bcast_S4096_S4096x1_0 (Host.reduceAdd (shapeCast _ (res_main_v30 V0) shapeCasts_S40960x1_S4096x10)
      (constant S_ .f32 0x00000000#32) reducesTo_S4096x10_S4096_d1 h_S_)) j = ∑ k : Fin 10, Ideal.exp (score V0 s k) := by
  subst hj
  refine (broadcastInDim_apply _ bcast_S4096_S4096x1_0 _ _ (ix1 s) ?_).trans ?_
  · intro a
    match a with
    | ⟨0, _⟩ => rfl
  have hr : Shape.Reduces S4096x10 [(1 : Fin 2)] S4096 := by decide
  refine (Ideal.hostReduceAdd_single (s := S4096x10) (t := S4096) (a := (1 : Fin 2)) reducesTo_S4096x10_S4096_d1 hr _ _ (ix1 s)).trans ?_
  refine (congrArg (· + _) zeroVal).trans ((zero_add _).trans (Finset.sum_congr rfl fun k _ => ?_))
  refine Eq.trans (congrArg _ (funext fun a => Fin.ext ?_)) (expo_at V0 s k)
  match a with
  | ⟨0, _⟩ => rfl
  | ⟨1, _⟩ => rfl

/-! ## The clicked row -/

theorem clicked_word (w : BitVec 32) (s : Fin 4096) (p : Fin 10) (h : w - BitVec.ofNat 32 s.val * 10#32 = BitVec.ofNat 32 p.val) :
    w = BitVec.ofNat 32 (10 * s.val + p.val) := by
  have e : w = BitVec.ofNat 32 p.val + BitVec.ofNat 32 s.val * 10#32 := by rw [← h, BitVec.sub_add_cancel]
  rw [e]
  apply BitVec.eq_of_toNat_eq
  simp only [BitVec.toNat_add, BitVec.toNat_mul, BitVec.toNat_ofNat]
  omega

/-- The gather of one column, at a row number in range. -/
theorem gather_at (x : FVec Ideal S40960x1 .f32) (ix : IVec S4096x1 32) (s : Fin 4096) (n : Fin 40960)
    (h : (ix (ix2 s 0)).toInt.toNat = n.val) :
    Host.gather gather_S40960x1_S4096x1_S4096x1_1_0_n_n_0_1_11 x ix (ix2 s 0) = x (ix2 n 0) := by
  unfold Host.gather
  refine congrArg x (funext fun a => Fin.ext ?_)
  match a with
  | ⟨1, h1⟩ =>
    have := (gather_S40960x1_S4096x1_S4096x1_1_0_n_n_0_1_11.operandIdx (ix2 s 0) ix ⟨1, h1⟩).isLt
    have hs : S40960x1.size ⟨1, h1⟩ = 1 := rfl
    show _ = 0
    omega
  | ⟨0, _⟩ =>
    show gather_S40960x1_S4096x1_S4096x1_1_0_n_n_0_1_11.start (ix2 s 0) ix 0 + gather_S40960x1_S4096x1_S4096x1_1_0_n_n_0_1_11.batchCoord (ix2 s 0) 0
      + gather_S40960x1_S4096x1_S4096x1_1_0_n_n_0_1_11.offCoord (ix2 s 0) 0 = n.val
    rw [GatherDims.batchCoord_eq_zero _ _ _ (fun h => absurd h (by decide)),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S40960x1_S4096x1_S4096x1_1_0_n_n_0_1_11.startIndexMap from List.mem_singleton.mpr rfl)]
    have hsi : gather_S40960x1_S4096x1_S4096x1_1_0_n_n_0_1_11.siIdx (ix2 s 0)
        ⟨List.idxOf (0 : Fin 2) gather_S40960x1_S4096x1_S4096x1_1_0_n_n_0_1_11.startIndexMap,
          List.idxOf_lt_length_iff.2 (List.mem_singleton.mpr rfl)⟩ = ix2 s 0 := by
      funext b; refine Fin.ext ?_
      match b with
      | ⟨0, _⟩ => rfl
      | ⟨1, _⟩ => rfl
    rw [hsi, h]
    show min n.val (40960 - 1) = n.val
    omega

/-- The clicked utilities as the reference gathers them. -/
def taken : FVec Ideal S4096x1 .f32 :=
  Host.gather gather_S40960x1_S4096x1_S4096x1_1_0_n_n_0_1_11 (res_main_v29 V0) (broadcastInDim S4096x1 ![0] bcast_S4096_S4096x1_0 (select (cmpi .slt (R4 V0) (broadcastInDim S4096 ![] bcast_S_S4096 (constantI S_ 32 0#32))) (addi (R4 V0) (broadcastInDim S4096 ![] bcast_S_S4096 (constantI S_ 32 40960#32))) (R4 V0)))

/-- The clicked utility of a section. -/
theorem taken_at (s : Fin 4096) (p : Fin 10) (h : R4 V0 (ix1 s) - BitVec.ofNat 32 s.val * 10#32 = BitVec.ofNat 32 p.val) :
    taken V0 (ix2 s 0) = score V0 s p := by
  have hw := clicked_word _ s p h
  unfold taken
  refine (gather_at _ _ s ⟨10 * s.val + p.val, by omega⟩ ?_).trans (score_at V0 s p)
  have e : (broadcastInDim S4096x1 ![0] bcast_S4096_S4096x1_0 (select (cmpi .slt (R4 V0) (broadcastInDim S4096 ![] bcast_S_S4096 (constantI S_ 32 0#32)))
      (addi (R4 V0) (broadcastInDim S4096 ![] bcast_S_S4096 (constantI S_ 32 40960#32))) (R4 V0))) (ix2 s 0)
      = BitVec.ofNat 32 (10 * s.val + p.val) := by
    refine (broadcastInDim_apply _ bcast_S4096_S4096x1_0 _ _ (ix1 s) ?_).trans ?_
    · intro a
      match a with
      | ⟨0, _⟩ => rfl
    rw [select_apply]
    show Scalar.select (BitVec.ofBool (decide ((R4 V0 (ix1 s)).toInt < 0))) _ (R4 V0 (ix1 s)) = _
    rw [hw, toInt_small _ (by omega), decide_eq_false (by omega)]
    rfl
  rw [e, toInt_small _ (by omega)]
  rfl

/-! ## The totals -/

/-- One section's part of the loss. -/
def lossOf (p : Fin 4096 → Fin 10) (s : Fin 4096) : EReal :=
  -score V0 s (p s) + Ideal.log ((∑ k : Fin 10, Ideal.exp (score V0 s k)) + 1)

/-- The loss as the reference sums it. -/
def total : FVec Ideal S_ .f32 :=
  Host.reduceAdd (addf (Host.negf (taken V0)) (Host.log (addf (broadcastInDim S4096x1 ![0] bcast_S4096_S4096x1_0 (Host.reduceAdd (shapeCast _ (res_main_v30 V0) shapeCasts_S40960x1_S4096x10) (constant S_ .f32 0x00000000#32) reducesTo_S4096x10_S4096_d1 h_S_)) (broadcastInDim S4096x1 ![] bcast_S_S4096x1 (constant S_ .f32 0x3F800000#32))))) (constant S_ .f32 0x00000000#32) reducesTo_S4096x1_S_d0_1 h_S_

/-- The loss before its division, a sum over the sections. -/
theorem total_at (p : Fin 4096 → Fin 10)
    (hp : ∀ s : Fin 4096, R4 V0 (ix1 s) - BitVec.ofNat 32 s.val * 10#32 = BitVec.ofNat 32 (p s).val) (j : S_.Idx) :
    total V0 j = ∑ s : Fin 4096, lossOf V0 p s := by
  unfold total
  refine (Ideal.hostReduceAdd_total reducesTo_S4096x1_S_d0_1 (fun b => b.elim0) _ _ j).trans ?_
  refine (congrArg (· + _) zeroVal).trans ((zero_add _).trans ?_)
  rw [sum_idx2]
  refine Finset.sum_congr rfl fun s _ => (Fin.sum_univ_one _).trans ?_
  unfold lossOf
  refine congrArg₂ (fun x y : EReal => x + y) (congrArg (fun z : EReal => -z) (taken_at V0 s (p s) (hp s))) (congrArg Ideal.log ?_)
  refine congrArg₂ (fun x y : EReal => x + y) (segment_at V0 s _ rfl) oneVal

/-- The number of clicks. -/
theorem events_at (j : S_.Idx) : res_main_v41 V0 j = ∑ s : Fin 4096, (R2 V0 (ix1 s) : EReal) := by
  unfold res_main_v41
  refine (Ideal.hostReduceAdd_total reducesTo_S4096_S_d0 (fun b => b.elim0) _ _ j).trans ?_
  refine (congrArg (· + _) zeroVal).trans ((zero_add _).trans ?_)
  exact (Equiv.sum_comp (⟨fun s => ix1 s, fun i => i 0, fun _ => rfl, fun i => (eq_ix1 i).symm⟩ : Fin 4096 ≃ S4096.Idx)
    (fun i => (R2 V0 i : EReal))).symm

theorem pick_word {α : Type} (n k : ℕ) (hn : n < 4096) (hk : k < 4096) (a b : α) :
    Scalar.select (IntOp.cmpi .eq (BitVec.ofNat 32 n) (BitVec.ofNat 32 k)) a b = if n = k then a else b := by
  have e : IntOp.cmpi .eq (BitVec.ofNat 32 n) (BitVec.ofNat 32 k) = if n = k then 1#1 else 0#1 := by
    unfold IntOp.cmpi
    by_cases h : n = k
    · subst h; simp
    · rw [if_neg h]
      have : BitVec.ofNat 32 n ≠ BitVec.ofNat 32 k := fun e => h (by
        have := congrArg BitVec.toNat e
        rwa [BitVec.toNat_ofNat, BitVec.toNat_ofNat, Nat.mod_eq_of_lt (by omega), Nat.mod_eq_of_lt (by omega)] at this)
      rw [beq_eq_false_iff_ne.mpr this]; rfl
  rw [e]
  by_cases h : n = k
  · rw [if_pos h, if_pos h]; rfl
  · rw [if_neg h, if_neg h]; rfl

/-- The first result's term. -/
def out1 : FVec Ideal S8x128 .f32 :=
  select (cmpi .eq (res_main_v48 V0) (broadcastInDim S8x128 ![] bcast_S_S8x128 (constantI S_ 32 0#32))) (Host.divf (select (cmpi .eq (res_main_v49 V0) (broadcastInDim S8x128 ![] bcast_S_S8x128 (constantI S_ 32 0#32))) (broadcastInDim S8x128 ![] bcast_S_S8x128 (total V0)) (select (cmpi .eq (res_main_v49 V0) (broadcastInDim S8x128 ![] bcast_S_S8x128 (constantI S_ 32 1#32))) (broadcastInDim S8x128 ![] bcast_S_S8x128 (res_main_v41 V0)) (broadcastInDim S8x128 ![] bcast_S_S8x128 (id (constant S_ .f32 0x00000000#32))))) (broadcastInDim S8x128 ![] bcast_S_S8x128 (res_main_v41 V0))) (select (cmpi .eq (res_main_v48 V0) (broadcastInDim S8x128 ![] bcast_S_S8x128 (constantI S_ 32 1#32))) (broadcastInDim S8x128 ![] bcast_S_S8x128 (res_main_v41 V0)) (broadcastInDim S8x128 ![] bcast_S_S8x128 (id (constant S_ .f32 0x00000000#32))))

theorem scalar_bcast {α : Type} (x : S_.Idx → α) (i : S8x128.Idx) (v : α) (h : ∀ j, x j = v) :
    broadcastInDim S8x128 ![] bcast_S_S8x128 x i = v := h _

/-- The first result at an entry. -/
theorem out1_at (p : Fin 4096 → Fin 10)
    (hp : ∀ s : Fin 4096, R4 V0 (ix1 s) - BitVec.ofNat 32 s.val * 10#32 = BitVec.ofNat 32 (p s).val) (a : Fin 8) (b : Fin 128) :
    out1 V0 (ix2 a b)
      = if a.val = 0 then
          Ideal.div (if b.val = 0 then ∑ s : Fin 4096, lossOf V0 p s
            else if b.val = 1 then ∑ s : Fin 4096, (R2 V0 (ix1 s) : EReal) else 0) (∑ s : Fin 4096, (R2 V0 (ix1 s) : EReal))
        else if a.val = 1 then ∑ s : Fin 4096, (R2 V0 (ix1 s) : EReal) else 0 := by
  have hL := scalar_bcast (total V0) (ix2 a b) _ (total_at V0 p hp)
  have hE := scalar_bcast (res_main_v41 V0) (ix2 a b) _ (events_at V0)
  have hZ := scalar_bcast (id (constant (F := Ideal) S_ .f32 0x00000000#32)) (ix2 a b) (0 : EReal) (fun _ => zeroVal)
  have ha := a.isLt
  have hb := b.isLt
  unfold out1
  rw [select_apply, select_apply]
  refine (pick_word a.val 0 (by omega) (by omega) _ _).trans ?_
  rw [show (Host.divf (select (cmpi .eq (res_main_v49 V0) (broadcastInDim S8x128 ![] bcast_S_S8x128 (constantI S_ 32 0#32))) (broadcastInDim S8x128 ![] bcast_S_S8x128 (total V0)) (select (cmpi .eq (res_main_v49 V0) (broadcastInDim S8x128 ![] bcast_S_S8x128 (constantI S_ 32 1#32))) (broadcastInDim S8x128 ![] bcast_S_S8x128 (res_main_v41 V0)) (broadcastInDim S8x128 ![] bcast_S_S8x128 (id (constant S_ .f32 0x00000000#32))))) (broadcastInDim S8x128 ![] bcast_S_S8x128 (res_main_v41 V0))) (ix2 a b)
      = Ideal.div (if b.val = 0 then ∑ s : Fin 4096, lossOf V0 p s
            else if b.val = 1 then ∑ s : Fin 4096, (R2 V0 (ix1 s) : EReal) else 0) (∑ s : Fin 4096, (R2 V0 (ix1 s) : EReal)) from by
    refine congrArg₂ Ideal.div ?_ hE
    rw [select_apply, select_apply, hL, hE, hZ]
    refine (pick_word b.val 0 (by omega) (by omega) _ _).trans ?_
    exact congrArg (fun z => if b.val = 0 then _ else z) (pick_word b.val 1 (by omega) (by omega) _ _)]
  refine congrArg (fun z => if a.val = 0 then _ else z) ?_
  rw [hE, hZ]
  exact pick_word a.val 1 (by omega) (by omega) _ _

/-- The second result's term. -/
def out2 : FVec Ideal S4096x16 .f32 :=
  pad S4096x16 ![0, 0] ![0, 6] ![0, 0] (shapeCast _ (res_main_v30 V0) shapeCasts_S40960x1_S4096x10) (sitofp .f32 (constantI S_ 32 0#32)) pads_S4096x10_S4096x16_000_060 h_S_

/-- The second result at an entry. -/
theorem out2_at (s : Fin 4096) (l : Fin 16) :
    out2 V0 (ix2 s l) = if h : l.val < 10 then Ideal.exp (score V0 s ⟨l.val, h⟩) else 0 := by
  unfold out2
  by_cases h : l.val < 10
  · rw [dif_pos h]
    refine (pad_apply_of_inside _ _ _ _ _ _ _ _ (ix2 s (⟨l.val, h⟩ : Fin 10)) ?_).trans (expo_at V0 s ⟨l.val, h⟩)
    intro a
    match a with
    | ⟨0, _⟩ => show s.val = 0 + s.val * 1; omega
    | ⟨1, _⟩ => show l.val = 0 + l.val * 1; omega
  · rw [dif_neg h]
    refine (pad_apply_of_not_inside _ _ _ _ _ _ _ _ (1 : Fin 2) ?_).trans ?_
    · rintro ⟨_, _, h3⟩
      have h4 : (l.val - 0) / (0 + 1) < 10 := h3
      omega
    · show (((0#32 : BitVec 32).toInt : ℝ) : EReal) = 0
      simp

end Cert.UtilityReferenceIdeal.Read
end
-- ==== Proof.UMain.lean ====
/-
  The TensorCore call's value claim: from the preconditions on the arguments, the two runs' results agree.
-/
module

public import proofs.«01_k».proof.Proof.UKernel
public import proofs.«01_k».proof.Proof.URefOut
public import proofs.«01_k».proof.Proof.Gen.Pre_utility_inputs
public import proofs.«01_k».proof.Proof.Gen.Utility
public import proofs.«01_k».proof.Proof.Gen.Utility.Frame
public import proofs.«01_k».proof.Proof.Gen.UtilityIdeal.Frame
public import proofs.«01_k».proof.Defs

@[expose] public section
noncomputable section
namespace Cert.Proof.Mlp
open Idealize.ShloMosaic Idealize.SL.Sem Idealize.ShloMosaic.ValueIdx Cert.ClickModel

/-! ## The precondition, read -/

/-- What the precondition says of one device's arguments. -/
structure Inputs (x1 : FVec Ideal Cert.Pre_utility_inputs.S4096x128 .f32) (x4 : IVec Cert.Pre_utility_inputs.S4096 32)
    (x5 : FVec Ideal Cert.Pre_utility_inputs.S640x256 .f32) : Prop where
  seen : ∀ (j : Fin 4096) (f : Fin 128), ∃ r : ℝ, (x1 (ix2 j f) : EReal) = (r : EReal)
  weight : ∀ (n : Fin 512) (h : Fin 256), ∃ r : ℝ, (x5 (ix2 (n.castLE (by decide)) h) : EReal) = (r : EReal)
  place : ∀ s : Fin 4096, ∃ p : Fin 10, x4 (ix1 s) - BitVec.ofNat 32 s.val * 10#32 = BitVec.ofNat 32 p.val

/-- A value whose absolute value is below infinity is a real number. -/
theorem real_of_abs {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by subst e; simp at hlt
  have h2 : x ≠ ⊥ := fun e => by subst e; simp at hlt
  exact ⟨x.toReal, (EReal.coe_toReal h1 h2).symm⟩

/-- A word that is at least 0 and below 10, signed, is below 10. -/
theorem small_word {v : BitVec 32} (h0 : IntOp.cmpi .sge v 0#32 = 1#1) (h1 : IntOp.cmpi .slt v 10#32 = 1#1) : v.toNat < 10 := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

section
open Cert.Pre_utility_inputs Cert.Pre_utility_inputs.Facts

/-- The printed precondition says `Inputs`. -/
theorem inputs_of (x0 : FVec Ideal S40960x128 .f32) (x1 : FVec Ideal S4096x128 .f32) (x2 : FVec Ideal S4096 .f32) (x3 : IVec S4096x2 32)
    (x4 : IVec S4096 32) (x5 : FVec Ideal S640x256 .f32) (x6 : FVec Ideal S256 .f32) (x7 : FVec Ideal S256x128 .f32)
    (x8 : FVec Ideal S128 .f32) (x9 : FVec Ideal S128x1 .f32) (x10 : FVec Ideal S1 .f32)
    (h : (fn (F := Ideal) x0 x1 x2 x3 x4 x5 x6 x7 x8 x9 x10).1 = (fun _ => 1#1)
      ∧ (fn (F := Ideal) x0 x1 x2 x3 x4 x5 x6 x7 x8 x9 x10).2.1 = (fun _ => 1#1)
      ∧ (fn (F := Ideal) x0 x1 x2 x3 x4 x5 x6 x7 x8 x9 x10).2.2.1 = (fun _ => 1#1)
      ∧ (fn (F := Ideal) x0 x1 x2 x3 x4 x5 x6 x7 x8 x9 x10).2.2.2 = (fun _ => 1#1)) : Inputs x1 x4 x5 := by
  obtain ⟨h1, h2, h3, h4⟩ := h
  refine ⟨fun j f => real_of_abs (congrFun h1 (ix2 j f)), fun n h => ?_, fun s => ?_⟩
  · obtain ⟨r, hr⟩ := real_of_abs (congrFun h2 (ix2 n h))
    refine ⟨r, Eq.trans (congrArg x5 (funext fun a => Fin.ext ?_)) hr⟩
    match a with
    | ⟨0, _⟩ => show n.val = 0 + n.val; omega
    | ⟨1, _⟩ => show h.val = 0 + h.val; omega
  · have hs : (x4 (ix1 s) - BitVec.ofNat 32 s.val * 10#32).toNat < 10 := small_word (congrFun h3 (ix1 s)) (congrFun h4 (ix1 s))
    refine ⟨⟨_, hs⟩, ?_⟩
    show _ = BitVec.ofNat 32 (x4 (ix1 s) - BitVec.ofNat 32 s.val * 10#32).toNat
    rw [BitVec.ofNat_toNat, BitVec.setWidth_eq]

end

/-! ## The two networks agree -/

theorem weight_val : ∃ c : ℝ, ((Scalar.ofBits .f32 0x38D1B717#32 : Ideal .f32) : EReal) = (c : EReal) := by
  have h : ∃ c : ℝ, Ideal.ofBits .f32 0x38D1B717#32 = (c : EReal) := by
    refine ⟨(Ideal.ofBits .f32 0x38D1B717#32).toReal, (EReal.coe_toReal ?_ ?_).symm⟩ <;>
      simp [Ideal.ofBits, Ideal.ieee, -EReal.coe_mul, -EReal.coe_neg]
  exact h

section
variable (m : (l : Loc Cert.UtilityIdeal.nD Cert.UtilityIdeal.τ Cert.UtilityIdeal.sig) → Buf (Elt Ideal) l) (c : Dev Cert.UtilityIdeal.nD)
variable (V0 : Valuation Cert.UtilityReferenceIdeal.τ Cert.UtilityReferenceIdeal.sig (Elt Ideal))
open Cert.UtilityIdeal.Mlp Cert.UtilityReferenceIdeal.Read

/-- The history parts of the first layer agree: the one place where finiteness is used. -/
theorem past_eq (G : Inputs (A1 m c) (A4 m c) (A5 m c)) (e1 : R1 V0 = A1 m c) (e5 : R5 V0 = A5 m c) (e6 : R6 V0 = A6 m c)
    (s : Fin 4096) (h : Fin 256) :
    Cert.UtilityReferenceIdeal.Read.past V0 s h = Cert.UtilityIdeal.Mlp.past m c s h := by
  obtain ⟨k, hk⟩ := weight_val
  choose x hx using G.seen
  choose w hw using G.weight
  have hw' : ∀ (p : Fin 4) (f : Fin 128) (n : Fin 640), n.val = p.val * 128 + f.val →
      (A5 m c (ix2 n h) : EReal) = ((w ⟨p.val * 128 + f.val, by omega⟩ h : ℝ) : EReal) := fun p f n hn => by
    rw [← hw]
    exact congrArg (fun q => (A5 m c (ix2 q h) : EReal)) (Fin.ext hn)
  have key := history k x (fun p f => w ⟨p.val * 128 + f.val, by omega⟩ h) s.val
  unfold Cert.UtilityReferenceIdeal.Read.past Cert.UtilityIdeal.Mlp.past
  rw [e5, e6]
  refine congrArg (fun z : EReal => z + (A6 m c (ix1 h) : EReal)) ?_
  refine Eq.trans ?_ (key.symm.trans ?_)
  · refine Finset.sum_congr rfl fun p _ => Finset.sum_congr rfl fun f _ => ?_
    rw [hw' p f _ rfl]
    refine congrArg (fun z : EReal => z * ((w ⟨p.val * 128 + f.val, by omega⟩ h : ℝ) : EReal)) ?_
    unfold seen
    rw [e1, hk]
    exact Finset.sum_congr rfl fun j _ => by rw [hx]
  · rw [hk]
    refine congrArg (fun z : EReal => (k : EReal) * (0 + z)) (Finset.sum_congr rfl fun f _ => ?_)
    rw [hw' 0 f _ (by show 0 + f.val = 0 * 128 + f.val; omega), hw' 1 f _ (by show 128 + f.val = 1 * 128 + f.val; omega),
      hw' 2 f _ (by show 256 + f.val = 2 * 128 + f.val; omega), hw' 3 f _ (by show 384 + f.val = 3 * 128 + f.val; omega)]
    refine congrArg (fun z : EReal => z * _) ?_
    exact congrArg (fun y => win y 20 s.val) (funext fun j => (hx j f).symm)

/-- The arguments the two programs share. -/
structure Same : Prop where
  e0 : R0 V0 = A0 m c
  e1 : R1 V0 = A1 m c
  e2 : R2 V0 = A2 m c
  e4 : R4 V0 = A4 m c
  e5 : R5 V0 = A5 m c
  e6 : R6 V0 = A6 m c
  e7 : R7 V0 = A7 m c
  e8 : R8 V0 = A8 m c
  e9 : R9 V0 = A9 m c
  e10 : R10 V0 = A10 m c

/-- The utilities agree. -/
theorem score_eq (G : Inputs (A1 m c) (A4 m c) (A5 m c)) (E : Same m c V0) (s : Fin 4096) (k : Fin 10) :
    Cert.UtilityReferenceIdeal.Read.score V0 s k = Cert.UtilityIdeal.Mlp.score m c s k := by
  unfold Cert.UtilityReferenceIdeal.Read.score Cert.UtilityIdeal.Mlp.score
  rw [funext fun h => past_eq m c V0 G E.e1 E.e5 E.e6 s h, E.e0, E.e5, E.e7, E.e8, E.e9, E.e10]

/-- Each section's part of the loss agrees. -/
theorem loss_eq (G : Inputs (A1 m c) (A4 m c) (A5 m c)) (E : Same m c V0) (p : Fin 4096 → Fin 10) (s : Fin 4096) :
    Cert.UtilityReferenceIdeal.Read.lossOf V0 p s = Cert.UtilityIdeal.Mlp.lossOf m c p s := by
  unfold Cert.UtilityReferenceIdeal.Read.lossOf Cert.UtilityIdeal.Mlp.lossOf
  rw [sub_eq_add_neg, add_comm, score_eq m c V0 G E, Finset.sum_congr rfl fun k _ => congrArg Ideal.exp (score_eq m c V0 G E s k)]

/-- The first results agree. -/
theorem out1_eq (G : Inputs (A1 m c) (A4 m c) (A5 m c)) (E : Same m c V0) : out1 V0 = Cert.UtilityIdeal.Value.G11 m c := by
  choose p hp using G.place
  have hp' : ∀ s : Fin 4096, R4 V0 (ix1 s) - BitVec.ofNat 32 s.val * 10#32 = BitVec.ofNat 32 (p s).val := fun s => by
    rw [E.e4]; exact hp s
  funext i
  obtain ⟨a, b, rfl⟩ : ∃ (a : Fin 8) (b : Fin 128), i = ix2 a b := ⟨i 0, i 1, eq_ix2 i⟩
  rw [out1_at V0 p hp' a b, E.e2, Finset.sum_congr rfl fun s _ => loss_eq m c V0 G E p s]
  exact (first_result m c p hp a b).symm

/-- The second results agree. -/
theorem out2_eq (G : Inputs (A1 m c) (A4 m c) (A5 m c)) (E : Same m c V0) : out2 V0 = Cert.UtilityIdeal.Value.G12 m c := by
  funext i
  obtain ⟨s, l, rfl⟩ : ∃ (s : Fin 4096) (l : Fin 16), i = ix2 s l := ⟨i 0, i 1, eq_ix2 i⟩
  refine (out2_at V0 s l).trans (Eq.trans ?_ (second_result m c s l).symm)
  by_cases h : l.val < 10
  · rw [dif_pos h, dif_pos h, score_eq m c V0 G E]
  · rw [dif_neg h, dif_neg h]

end

/-! ## The claims -/

theorem quiescent_Utility : Cert.quiescent_Utility := fun m g _ => Cert.Utility.Gen.frame (F := Bits) m g

theorem quiescent_UtilityIdeal : Cert.quiescent_UtilityIdeal := fun m g _ => Cert.UtilityIdeal.Gen.frame (F := Ideal) m g

theorem quiescent_UtilityIdeal_inputs : Cert.quiescent_UtilityIdeal_pre_utility_inputs := fun m g _ =>
  Cert.UtilityIdeal.Gen.frame (F := Ideal) m g

theorem quiescent_UtilityReferenceIdeal : Cert.quiescent_UtilityReferenceIdeal := fun m g _ =>
  (θ_run (Cert.UtilityReferenceIdeal.defs (F := Ideal)) _ _).mono
    (fun r h => ⟨fun d => (h d).2.2, sem_eq_zero_of_no_sems (by decide) r.2⟩) (Cert.UtilityReferenceIdeal.Value.run (F := Ideal) m g)

theorem quiescent_UtilityReferenceIdeal_inputs : Cert.quiescent_UtilityReferenceIdeal_pre_utility_inputs := fun m g _ =>
  quiescent_UtilityReferenceIdeal m g trivial

/-- Both arrays that the call returns are the reference's. -/
theorem algebraic : Cert.algebraic_UtilityIdeal_UtilityReferenceIdeal_pre_utility_inputs := by
  intro m g m' g' hp ha
  refine ⟨fun c => Cert.UtilityIdeal.Value.G11 m c, fun c => Cert.UtilityIdeal.Value.G12 m c,
    Cert.UtilityIdeal.Value.run (F := Ideal) m g, ?_⟩
  refine (θ_run (Cert.UtilityReferenceIdeal.defs (F := Ideal)) _ _).mono (fun r h c => ?_)
    (Cert.UtilityReferenceIdeal.Value.run (F := Ideal) m' g')
  obtain ⟨h1, h2, hr⟩ := h c
  obtain ⟨e0, e1, e2, e3, e4, e5, e6, e7, e8, e9, e10⟩ := ha c
  have G : Inputs (Cert.UtilityIdeal.Mlp.A1 m c) (Cert.UtilityIdeal.Mlp.A4 m c) (Cert.UtilityIdeal.Mlp.A5 m c) :=
    inputs_of _ _ _ _ _ _ _ _ _ _ _ (hp c)
  have E : Same m c (Idealize.ShloMosaic.StableHlo.launchContents m' c) := ⟨e0, e1, e2, e4, e5, e6, e7, e8, e9, e10⟩
  exact ⟨h1.trans (out1_eq m c _ G E), h2.trans (out2_eq m c _ G E), hr⟩

end Cert.Proof.Mlp
end
-- ==== Proof.lean ====
/-
  The proof of `Cert.Claim`: the frames, the idealization and the value claim, one module each.
-/
module

public import proofs.«01_k».proof.Proof.Gen.Utility
public import proofs.«01_k».proof.Proof.Gen.UtilityIdeal
public import proofs.«01_k».proof.Proof.Gen.UtilityReferenceIdeal
public import proofs.«01_k».proof.Proof.Gen.Utility.Frame
public import proofs.«01_k».proof.Proof.Gen.UtilityIdeal.Frame
public import proofs.«01_k».proof.Proof.Gen.UtilityIdeal.Value
public import proofs.«01_k».proof.Proof.Gen.UtilityReferenceIdeal.Run
public import proofs.«01_k».proof.Proof.Gen.Pre_utility_inputs
public import proofs.«01_k».proof.Defs
public import proofs.«01_k».proof.Proof.Frames
public import proofs.«01_k».proof.Proof.Main
public import proofs.«01_k».proof.Proof.UMain

@[expose] public section

noncomputable section

namespace Cert.Proof

theorem claim : Cert.Claim :=
  ⟨Cert.Kernel.Gen.facts, Cert.KernelIdeal.Gen.facts, Cert.ReferenceIdeal.Gen.facts, Cert.Utility.Gen.facts, Cert.UtilityIdeal.Gen.facts,
    Cert.UtilityReferenceIdeal.Gen.facts, Cert.Pre_items_in_range.Gen.facts, Cert.Pre_ranking_inputs.Gen.facts,
    Cert.Pre_utility_inputs.Gen.facts, quiescent_Kernel, quiescent_KernelIdeal, quiescent_KernelIdeal_ranking, quiescent_ReferenceIdeal,
    quiescent_ReferenceIdeal_ranking, Mlp.quiescent_Utility, Mlp.quiescent_UtilityIdeal, Mlp.quiescent_UtilityIdeal_inputs,
    Mlp.quiescent_UtilityReferenceIdeal, Mlp.quiescent_UtilityReferenceIdeal_inputs, trivial, algebraic, trivial, Mlp.algebraic⟩

end Cert.Proof

end
